-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2" .bf16 0x3F35#16 (((Real.sqrt 2)⁻¹ : ℝ) : EReal)

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S4x128x32x256 : Shape := ⟨4, ![4, 128, 32, 256]⟩
abbrev S4 : Shape := ⟨1, ![4]⟩
abbrev S4x256 : Shape := ⟨2, ![4, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S6x256 : Shape := ⟨2, ![6, 256]⟩
abbrev S6x256x768 : Shape := ⟨3, ![6, 256, 768]⟩
abbrev S6x768 : Shape := ⟨2, ![6, 768]⟩
abbrev S6x256x256 : Shape := ⟨3, ![6, 256, 256]⟩
abbrev S6x256x1024 : Shape := ⟨3, ![6, 256, 1024]⟩
abbrev S6x1024 : Shape := ⟨2, ![6, 1024]⟩
abbrev S6x1024x256 : Shape := ⟨3, ![6, 1024, 256]⟩
abbrev S6x3x256x256 : Shape := ⟨4, ![6, 3, 256, 256]⟩
abbrev S_ : Shape := ⟨0, ![]⟩

class Facts : Prop where
  bcast_S_S4x128x32x256 : S_.BroadcastsInDim S4x128x32x256 (![] : Fin 0 → Fin S4x128x32x256.rank)
  reducesTo_S4x128x32x256_S_d0_1_2_3 : S4x128x32x256.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S6x256 : S_.BroadcastsInDim S6x256 (![] : Fin 0 → Fin S6x256.rank)
  reducesTo_S6x256_S_d0_1 : S6x256.ReducesTo [0, 1] S_
  bcast_S_S6x256x768 : S_.BroadcastsInDim S6x256x768 (![] : Fin 0 → Fin S6x256x768.rank)
  reducesTo_S6x256x768_S_d0_1_2 : S6x256x768.ReducesTo [0, 1, 2] S_
  bcast_S_S6x768 : S_.BroadcastsInDim S6x768 (![] : Fin 0 → Fin S6x768.rank)
  reducesTo_S6x768_S_d0_1 : S6x768.ReducesTo [0, 1] S_
  bcast_S_S6x256x256 : S_.BroadcastsInDim S6x256x256 (![] : Fin 0 → Fin S6x256x256.rank)
  reducesTo_S6x256x256_S_d0_1_2 : S6x256x256.ReducesTo [0, 1, 2] S_
  bcast_S_S6x256x1024 : S_.BroadcastsInDim S6x256x1024 (![] : Fin 0 → Fin S6x256x1024.rank)
  reducesTo_S6x256x1024_S_d0_1_2 : S6x256x1024.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S6x1024x256 : S_.BroadcastsInDim S6x1024x256 (![] : Fin 0 → Fin S6x1024x256.rank)
  reducesTo_S6x1024x256_S_d0_1_2 : S6x1024x256.ReducesTo [0, 1, 2] S_
  bcast_S_S6x3x256x256 : S_.BroadcastsInDim S6x3x256x256 (![] : Fin 0 → Fin S6x3x256x256.rank)
  reducesTo_S6x3x256x256_S_d0_1_2_3 : S6x3x256x256.ReducesTo [0, 1, 2, 3] S_

variable [Facts]

def fn_part8 {F : FTy → Type} [FloatOps F] (main_v133 : IVec S_ 1) (main_v136 : IVec S256 1) : IVec S_ 1 :=
  let main_c_53 : IVec S_ 1 := constantI S_ 1 1#1
  let main_v137 : IVec S_ 1 := (fun x v => Host.reduce IntOp.andi x v reducesTo_S256_S_d0 h_S_) main_v136 main_c_53
  let main_v138 : IVec S_ 1 := andi main_v133 main_v137
  main_v138

def fn_part7 {F : FTy → Type} [FloatOps F] (main_arg26 : FVec F S6x256 .f32) (main_arg27 : FVec F S256x256 .f32) (main_arg28 : FVec F S256 .f32) (main_v118 : IVec S_ 1) (main_v119 : FVec F S6x3x256x256 .f32) : IVec S_ 1 :=
  let main_cst_46 : FVec F S_ .f32 := constant S_ .f32 0x7F800000#32
  let main_v120 : FVec F S6x3x256x256 .f32 := broadcastInDim S6x3x256x256 ![] bcast_S_S6x3x256x256 main_cst_46
  let main_v121 : IVec S6x3x256x256 1 := cmpf .olt main_v119 main_v120
  let main_c_47 : IVec S_ 1 := constantI S_ 1 1#1
  let main_v122 : IVec S_ 1 := (fun x v => Host.reduce IntOp.andi x v reducesTo_S6x3x256x256_S_d0_1_2_3 h_S_) main_v121 main_c_47
  let main_v123 : IVec S_ 1 := andi main_v118 main_v122
  let main_v124 : FVec F S6x256 .f32 := Host.absf main_arg26
  let main_cst_48 : FVec F S_ .f32 := constant S_ .f32 0x7F800000#32
  let main_v125 : FVec F S6x256 .f32 := broadcastInDim S6x256 ![] bcast_S_S6x256 main_cst_48
  let main_v126 : IVec S6x256 1 := cmpf .olt main_v124 main_v125
  let main_c_49 : IVec S_ 1 := constantI S_ 1 1#1
  let main_v127 : IVec S_ 1 := (fun x v => Host.reduce IntOp.andi x v reducesTo_S6x256_S_d0_1 h_S_) main_v126 main_c_49
  let main_v128 : IVec S_ 1 := andi main_v123 main_v127
  let main_v129 : FVec F S256x256 .f32 := Host.absf main_arg27
  let main_cst_50 : FVec F S_ .f32 := constant S_ .f32 0x7F800000#32
  let main_v130 : FVec F S256x256 .f32 := broadcastInDim S256x256 ![] bcast_S_S256x256 main_cst_50
  let main_v131 : IVec S256x256 1 := cmpf .olt main_v129 main_v130
  let main_c_51 : IVec S_ 1 := constantI S_ 1 1#1
  let main_v132 : IVec S_ 1 := (fun x v => Host.reduce IntOp.andi x v reducesTo_S256x256_S_d0_1 h_S_) main_v131 main_c_51
  let main_v133 : IVec S_ 1 := andi main_v128 main_v132
  let main_v134 : FVec F S256 .f32 := Host.absf main_arg28
  let main_cst_52 : FVec F S_ .f32 := constant S_ .f32 0x7F800000#32
  let main_v135 : FVec F S256 .f32 := broadcastInDim S256 ![] bcast_S_S256 main_cst_52
  let main_v136 : IVec S256 1 := cmpf .olt main_v134 main_v135
  fn_part8 (F := F) main_v133 main_v136

def fn_part6 {F : FTy → Type} [FloatOps F] (main_arg22 : FVec F S6x256 .f32) (main_arg23 : FVec F S6x256 .f32) (main_arg24 : FVec F S6x256 .f32) (main_arg25 : FVec F S6x3x256x256 .f32) (main_arg26 : FVec F S6x256 .f32) (main_arg27 : FVec F S256x256 .f32) (main_arg28 : FVec F S256 .f32) (main_v98 : IVec S_ 1) (main_v101 : IVec S6x1024x256 1) (main_c_39 : IVec S_ 1) : IVec S_ 1 :=
  let main_v102 : IVec S_ 1 := (fun x v => Host.reduce IntOp.andi x v reducesTo_S6x1024x256_S_d0_1_2 h_S_) main_v101 main_c_39
  let main_v103 : IVec S_ 1 := andi main_v98 main_v102
  let main_v104 : FVec F S6x256 .f32 := Host.absf main_arg22
  let main_cst_40 : FVec F S_ .f32 := constant S_ .f32 0x7F800000#32
  let main_v105 : FVec F S6x256 .f32 := broadcastInDim S6x256 ![] bcast_S_S6x256 main_cst_40
  let main_v106 : IVec S6x256 1 := cmpf .olt main_v104 main_v105
  let main_c_41 : IVec S_ 1 := constantI S_ 1 1#1
  let main_v107 : IVec S_ 1 := (fun x v => Host.reduce IntOp.andi x v reducesTo_S6x256_S_d0_1 h_S_) main_v106 main_c_41
  let main_v108 : IVec S_ 1 := andi main_v103 main_v107
  let main_v109 : FVec F S6x256 .f32 := Host.absf main_arg23
  let main_cst_42 : FVec F S_ .f32 := constant S_ .f32 0x7F800000#32
  let main_v110 : FVec F S6x256 .f32 := broadcastInDim S6x256 ![] bcast_S_S6x256 main_cst_42
  let main_v111 : IVec S6x256 1 := cmpf .olt main_v109 main_v110
  let main_c_43 : IVec S_ 1 := constantI S_ 1 1#1
  let main_v112 : IVec S_ 1 := (fun x v => Host.reduce IntOp.andi x v reducesTo_S6x256_S_d0_1 h_S_) main_v111 main_c_43
  let main_v113 : IVec S_ 1 := andi main_v108 main_v112
  let main_v114 : FVec F S6x256 .f32 := Host.absf main_arg24
  let main_cst_44 : FVec F S_ .f32 := constant S_ .f32 0x7F800000#32
  let main_v115 : FVec F S6x256 .f32 := broadcastInDim S6x256 ![] bcast_S_S6x256 main_cst_44
  let main_v116 : IVec S6x256 1 := cmpf .olt main_v114 main_v115
  let main_c_45 : IVec S_ 1 := constantI S_ 1 1#1
  let main_v117 : IVec S_ 1 := (fun x v => Host.reduce IntOp.andi x v reducesTo_S6x256_S_d0_1 h_S_) main_v116 main_c_45
  let main_v118 : IVec S_ 1 := andi main_v113 main_v117
  let main_v119 : FVec F S6x3x256x256 .f32 := Host.absf main_arg25
  fn_part7 (F := F) main_arg26 main_arg27 main_arg28 main_v118 main_v119

def fn_part5 {F : FTy → Type} [FloatOps F] (main_arg19 : FVec F S6x256x1024 .f32) (main_arg20 : FVec F S6x1024 .f32) (main_arg21 : FVec F S6x1024x256 .f32) (main_arg22 : FVec F S6x256 .f32) (main_arg23 : FVec F S6x256 .f32) (main_arg24 : FVec F S6x256 .f32) (main_arg25 : FVec F S6x3x256x256 .f32) (main_arg26 : FVec F S6x256 .f32) (main_arg27 : FVec F S256x256 .f32) (main_arg28 : FVec F S256 .f32) (main_v83 : IVec S_ 1) (main_v84 : FVec F S6x256 .f32) (main_cst_32 : FVec F S_ .f32) : IVec S_ 1 :=
  let main_v85 : FVec F S6x256 .f32 := broadcastInDim S6x256 ![] bcast_S_S6x256 main_cst_32
  let main_v86 : IVec S6x256 1 := cmpf .olt main_v84 main_v85
  let main_c_33 : IVec S_ 1 := constantI S_ 1 1#1
  let main_v87 : IVec S_ 1 := (fun x v => Host.reduce IntOp.andi x v reducesTo_S6x256_S_d0_1 h_S_) main_v86 main_c_33
  let main_v88 : IVec S_ 1 := andi main_v83 main_v87
  let main_v89 : FVec F S6x256x1024 .f32 := Host.absf main_arg19
  let main_cst_34 : FVec F S_ .f32 := constant S_ .f32 0x7F800000#32
  let main_v90 : FVec F S6x256x1024 .f32 := broadcastInDim S6x256x1024 ![] bcast_S_S6x256x1024 main_cst_34
  let main_v91 : IVec S6x256x1024 1 := cmpf .olt main_v89 main_v90
  let main_c_35 : IVec S_ 1 := constantI S_ 1 1#1
  let main_v92 : IVec S_ 1 := (fun x v => Host.reduce IntOp.andi x v reducesTo_S6x256x1024_S_d0_1_2 h_S_) main_v91 main_c_35
  let main_v93 : IVec S_ 1 := andi main_v88 main_v92
  let main_v94 : FVec F S6x1024 .f32 := Host.absf main_arg20
  let main_cst_36 : FVec F S_ .f32 := constant S_ .f32 0x7F800000#32
  let main_v95 : FVec F S6x1024 .f32 := broadcastInDim S6x1024 ![] bcast_S_S6x1024 main_cst_36
  let main_v96 : IVec S6x1024 1 := cmpf .olt main_v94 main_v95
  let main_c_37 : IVec S_ 1 := constantI S_ 1 1#1
  let main_v97 : IVec S_ 1 := (fun x v => Host.reduce IntOp.andi x v reducesTo_S6x1024_S_d0_1 h_S_) main_v96 main_c_37
  let main_v98 : IVec S_ 1 := andi main_v93 main_v97
  let main_v99 : FVec F S6x1024x256 .f32 := Host.absf main_arg21
  let main_cst_38 : FVec F S_ .f32 := constant S_ .f32 0x7F800000#32
  let main_v100 : FVec F S6x1024x256 .f32 := broadcastInDim S6x1024x256 ![] bcast_S_S6x1024x256 main_cst_38
  let main_v101 : IVec S6x1024x256 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S6x256x256 .f32) (main_arg16 : FVec F S6x256 .f32) (main_arg17 : FVec F S6x256 .f32) (main_arg18 : FVec F S6x256 .f32) (main_arg19 : FVec F S6x256x1024 .f32) (main_arg20 : FVec F S6x1024 .f32) (main_arg21 : FVec F S6x1024x256 .f32) (main_arg22 : FVec F S6x256 .f32) (main_arg23 : FVec F S6x256 .f32) (main_arg24 : FVec F S6x256 .f32) (main_arg25 : FVec F S6x3x256x256 .f32) (main_arg26 : FVec F S6x256 .f32) (main_arg27 : FVec F S256x256 .f32) (main_arg28 : FVec F S256 .f32) (main_v63 : IVec S_ 1) (main_v67 : IVec S_ 1) : IVec S_ 1 :=
  let main_v68 : IVec S_ 1 := andi main_v63 main_v67
  let main_v69 : FVec F S6x256x256 .f32 := Host.absf main_arg15
  let main_cst_26 : FVec F S_ .f32 := constant S_ .f32 0x7F800000#32
  let main_v70 : FVec F S6x256x256 .f32 := broadcastInDim S6x256x256 ![] bcast_S_S6x256x256 main_cst_26
  let main_v71 : IVec S6x256x256 1 := cmpf .olt main_v69 main_v70
  let main_c_27 : IVec S_ 1 := constantI S_ 1 1#1
  let main_v72 : IVec S_ 1 := (fun x v => Host.reduce IntOp.andi x v reducesTo_S6x256x256_S_d0_1_2 h_S_) main_v71 main_c_27
  let main_v73 : IVec S_ 1 := andi main_v68 main_v72
  let main_v74 : FVec F S6x256 .f32 := Host.absf main_arg16
  let main_cst_28 : FVec F S_ .f32 := constant S_ .f32 0x7F800000#32
  let main_v75 : FVec F S6x256 .f32 := broadcastInDim S6x256 ![] bcast_S_S6x256 main_cst_28
  let main_v76 : IVec S6x256 1 := cmpf .olt main_v74 main_v75
  let main_c_29 : IVec S_ 1 := constantI S_ 1 1#1
  let main_v77 : IVec S_ 1 := (fun x v => Host.reduce IntOp.andi x v reducesTo_S6x256_S_d0_1 h_S_) main_v76 main_c_29
  let main_v78 : IVec S_ 1 := andi main_v73 main_v77
  let main_v79 : FVec F S6x256 .f32 := Host.absf main_arg17
  let main_cst_30 : FVec F S_ .f32 := constant S_ .f32 0x7F800000#32
  let main_v80 : FVec F S6x256 .f32 := broadcastInDim S6x256 ![] bcast_S_S6x256 main_cst_30
  let main_v81 : IVec S6x256 1 := cmpf .olt main_v79 main_v80
  let main_c_31 : IVec S_ 1 := constantI S_ 1 1#1
  let main_v82 : IVec S_ 1 := (fun x v => Host.reduce IntOp.andi x v reducesTo_S6x256_S_d0_1 h_S_) main_v81 main_c_31
  let main_v83 : IVec S_ 1 := andi main_v78 main_v82
  let main_v84 : FVec F S6x256 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S6x256 .f32) (main_arg13 : FVec F S6x256x768 .f32) (main_arg14 : FVec F S6x768 .f32) (main_arg15 : FVec F S6x256x256 .f32) (main_arg16 : FVec F S6x256 .f32) (main_arg17 : FVec F S6x256 .f32) (main_arg18 : FVec F S6x256 .f32) (main_arg19 : FVec F S6x256x1024 .f32) (main_arg20 : FVec F S6x1024 .f32) (main_arg21 : FVec F S6x1024x256 .f32) (main_arg22 : FVec F S6x256 .f32) (main_arg23 : FVec F S6x256 .f32) (main_arg24 : FVec F S6x256 .f32) (main_arg25 : FVec F S6x3x256x256 .f32) (main_arg26 : FVec F S6x256 .f32) (main_arg27 : FVec F S256x256 .f32) (main_arg28 : FVec F S256 .f32) (main_v48 : IVec S_ 1) (main_v49 : FVec F S6x256 .f32) (main_v50 : FVec F S6x256 .f32) : IVec S_ 1 :=
  let main_v51 : IVec S6x256 1 := cmpf .olt main_v49 main_v50
  let main_c_19 : IVec S_ 1 := constantI S_ 1 1#1
  let main_v52 : IVec S_ 1 := (fun x v => Host.reduce IntOp.andi x v reducesTo_S6x256_S_d0_1 h_S_) main_v51 main_c_19
  let main_v53 : IVec S_ 1 := andi main_v48 main_v52
  let main_v54 : FVec F S6x256 .f32 := Host.absf main_arg12
  let main_cst_20 : FVec F S_ .f32 := constant S_ .f32 0x7F800000#32
  let main_v55 : FVec F S6x256 .f32 := broadcastInDim S6x256 ![] bcast_S_S6x256 main_cst_20
  let main_v56 : IVec S6x256 1 := cmpf .olt main_v54 main_v55
  let main_c_21 : IVec S_ 1 := constantI S_ 1 1#1
  let main_v57 : IVec S_ 1 := (fun x v => Host.reduce IntOp.andi x v reducesTo_S6x256_S_d0_1 h_S_) main_v56 main_c_21
  let main_v58 : IVec S_ 1 := andi main_v53 main_v57
  let main_v59 : FVec F S6x256x768 .f32 := Host.absf main_arg13
  let main_cst_22 : FVec F S_ .f32 := constant S_ .f32 0x7F800000#32
  let main_v60 : FVec F S6x256x768 .f32 := broadcastInDim S6x256x768 ![] bcast_S_S6x256x768 main_cst_22
  let main_v61 : IVec S6x256x768 1 := cmpf .olt main_v59 main_v60
  let main_c_23 : IVec S_ 1 := constantI S_ 1 1#1
  let main_v62 : IVec S_ 1 := (fun x v => Host.reduce IntOp.andi x v reducesTo_S6x256x768_S_d0_1_2 h_S_) main_v61 main_c_23
  let main_v63 : IVec S_ 1 := andi main_v58 main_v62
  let main_v64 : FVec F S6x768 .f32 := Host.absf main_arg14
  let main_cst_24 : FVec F S_ .f32 := constant S_ .f32 0x7F800000#32
  let main_v65 : FVec F S6x768 .f32 := broadcastInDim S6x768 ![] bcast_S_S6x768 main_cst_24
  let main_v66 : IVec S6x768 1 := cmpf .olt main_v64 main_v65
  let main_c_25 : IVec S_ 1 := constantI S_ 1 1#1
  let main_v67 : IVec S_ 1 := (fun x v => Host.reduce IntOp.andi x v reducesTo_S6x768_S_d0_1 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S512 .f32) (main_arg9 : FVec F S512x512 .f32) (main_arg10 : FVec F S512 .f32) (main_arg11 : FVec F S6x256 .f32) (main_arg12 : FVec F S6x256 .f32) (main_arg13 : FVec F S6x256x768 .f32) (main_arg14 : FVec F S6x768 .f32) (main_arg15 : FVec F S6x256x256 .f32) (main_arg16 : FVec F S6x256 .f32) (main_arg17 : FVec F S6x256 .f32) (main_arg18 : FVec F S6x256 .f32) (main_arg19 : FVec F S6x256x1024 .f32) (main_arg20 : FVec F S6x1024 .f32) (main_arg21 : FVec F S6x1024x256 .f32) (main_arg22 : FVec F S6x256 .f32) (main_arg23 : FVec F S6x256 .f32) (main_arg24 : FVec F S6x256 .f32) (main_arg25 : FVec F S6x3x256x256 .f32) (main_arg26 : FVec F S6x256 .f32) (main_arg27 : FVec F S256x256 .f32) (main_arg28 : FVec F S256 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg9
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S6x256 .f32 := Host.absf main_arg11
  let main_cst_18 : FVec F S_ .f32 := constant S_ .f32 0x7F800000#32
  let main_v50 : FVec F S6x256 .f32 := broadcastInDim S6x256 ![] bcast_S_S6x256 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S256x256 .f32) (main_arg6 : FVec F S256 .f32) (main_arg7 : FVec F S256x512 .f32) (main_arg8 : FVec F S512 .f32) (main_arg9 : FVec F S512x512 .f32) (main_arg10 : FVec F S512 .f32) (main_arg11 : FVec F S6x256 .f32) (main_arg12 : FVec F S6x256 .f32) (main_arg13 : FVec F S6x256x768 .f32) (main_arg14 : FVec F S6x768 .f32) (main_arg15 : FVec F S6x256x256 .f32) (main_arg16 : FVec F S6x256 .f32) (main_arg17 : FVec F S6x256 .f32) (main_arg18 : FVec F S6x256 .f32) (main_arg19 : FVec F S6x256x1024 .f32) (main_arg20 : FVec F S6x1024 .f32) (main_arg21 : FVec F S6x1024x256 .f32) (main_arg22 : FVec F S6x256 .f32) (main_arg23 : FVec F S6x256 .f32) (main_arg24 : FVec F S6x256 .f32) (main_arg25 : FVec F S6x3x256x256 .f32) (main_arg26 : FVec F S6x256 .f32) (main_arg27 : FVec F S256x256 .f32) (main_arg28 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg7
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S4x128x32x256 .f32) (main_arg1 : IVec S4 32) (main_arg2 : FVec F S4x256 .f32) (main_arg3 : FVec F S256x256 .f32) (main_arg4 : FVec F S256 .f32) (main_arg5 : FVec F S256x256 .f32) (main_arg6 : FVec F S256 .f32) (main_arg7 : FVec F S256x512 .f32) (main_arg8 : FVec F S512 .f32) (main_arg9 : FVec F S512x512 .f32) (main_arg10 : FVec F S512 .f32) (main_arg11 : FVec F S6x256 .f32) (main_arg12 : FVec F S6x256 .f32) (main_arg13 : FVec F S6x256x768 .f32) (main_arg14 : FVec F S6x768 .f32) (main_arg15 : FVec F S6x256x256 .f32) (main_arg16 : FVec F S6x256 .f32) (main_arg17 : FVec F S6x256 .f32) (main_arg18 : FVec F S6x256 .f32) (main_arg19 : FVec F S6x256x1024 .f32) (main_arg20 : FVec F S6x1024 .f32) (main_arg21 : FVec F S6x1024x256 .f32) (main_arg22 : FVec F S6x256 .f32) (main_arg23 : FVec F S6x256 .f32) (main_arg24 : FVec F S6x256 .f32) (main_arg25 : FVec F S6x3x256x256 .f32) (main_arg26 : FVec F S6x256 .f32) (main_arg27 : FVec F S256x256 .f32) (main_arg28 : FVec F S256 .f32) : IVec S_ 1 :=
  let main_v0 : FVec F S4x128x32x256 .f32 := Host.absf main_arg0
  let main_cst : FVec F S_ .f32 := constant S_ .f32 0x7F800000#32
  let main_v1 : FVec F S4x128x32x256 .f32 := broadcastInDim S4x128x32x256 ![] bcast_S_S4x128x32x256 main_cst
  let main_v2 : IVec S4x128x32x256 1 := cmpf .olt main_v0 main_v1
  let main_c : IVec S_ 1 := constantI S_ 1 1#1
  let main_v3 : IVec S_ 1 := (fun x v => Host.reduce IntOp.andi x v reducesTo_S4x128x32x256_S_d0_1_2_3 h_S_) main_v2 main_c
  let main_v4 : FVec F S4x256 .f32 := Host.absf main_arg2
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S4x128x32x256 : Shape := ⟨4, ![4, 128, 32, 256]⟩
abbrev S4 : Shape := ⟨1, ![4]⟩
abbrev S4x256 : Shape := ⟨2, ![4, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S6x256 : Shape := ⟨2, ![6, 256]⟩
abbrev S6x256x768 : Shape := ⟨3, ![6, 256, 768]⟩
abbrev S6x768 : Shape := ⟨2, ![6, 768]⟩
abbrev S6x256x256 : Shape := ⟨3, ![6, 256, 256]⟩
abbrev S6x256x1024 : Shape := ⟨3, ![6, 256, 1024]⟩
abbrev S6x1024 : Shape := ⟨2, ![6, 1024]⟩
abbrev S6x1024x256 : Shape := ⟨3, ![6, 1024, 256]⟩
abbrev S6x3x256x256 : Shape := ⟨4, ![6, 3, 256, 256]⟩
abbrev S4x4096x256 : Shape := ⟨3, ![4, 4096, 256]⟩
abbrev S4x1x1 : Shape := ⟨3, ![4, 1, 1]⟩
abbrev S4x1x256 : Shape := ⟨3, ![4, 1, 256]⟩
abbrev S_ : Shape := ⟨0, ![]⟩
abbrev S768 : Shape := ⟨1, ![768]⟩
abbrev S6x256x1 : Shape := ⟨3, ![6, 256, 1]⟩
abbrev S1x1x768 : Shape := ⟨3, ![1, 1, 768]⟩
abbrev S1x768 : Shape := ⟨2, ![1, 768]⟩
abbrev S1x256 : Shape := ⟨2, ![1, 256]⟩
abbrev S1x512 : Shape := ⟨2, ![1, 512]⟩
abbrev S1x4096x256 : Shape := ⟨3, ![1, 4096, 256]⟩
abbrev S1x1x1 : Shape := ⟨3, ![1, 1, 1]⟩
abbrev S1x1x256 : Shape := ⟨3, ![1, 1, 256]⟩
abbrev S4096x256 : Shape := ⟨2, ![4096, 256]⟩
abbrev S1x128 : Shape := ⟨2, ![1, 128]⟩
abbrev S1024x256 : Shape := ⟨2, ![1024, 256]⟩
abbrev S1024 : Shape := ⟨1, ![1024]⟩
abbrev S1024x1 : Shape := ⟨2, ![1024, 1]⟩
abbrev S1x256x768 : Shape := ⟨3, ![1, 256, 768]⟩
abbrev S256x768 : Shape := ⟨2, ![256, 768]⟩
abbrev S1024x768 : Shape := ⟨2, ![1024, 768]⟩
abbrev S1023x256 : Shape := ⟨2, ![1023, 256]⟩
abbrev S1x256x256 : Shape := ⟨3, ![1, 256, 256]⟩
abbrev S1x256x1024 : Shape := ⟨3, ![1, 256, 1024]⟩
abbrev S256x1024 : Shape := ⟨2, ![256, 1024]⟩
abbrev S1024x1024 : Shape := ⟨2, ![1024, 1024]⟩
abbrev S1x1024 : Shape := ⟨2, ![1, 1024]⟩
abbrev S1x1024x256 : Shape := ⟨3, ![1, 1024, 256]⟩
abbrev S4096 : Shape := ⟨1, ![4096]⟩
abbrev S4096x1 : Shape := ⟨2, ![4096, 1]⟩
abbrev S1x1x256x256 : Shape := ⟨4, ![1, 1, 256, 256]⟩
abbrev S32x256 : Shape := ⟨2, ![32, 256]⟩
abbrev S4064x256 : Shape := ⟨2, ![4064, 256]⟩

abbrev nBuf : Space → Nat
  | .hbm => 69
  | .vmem => 31
  | .smem => 0
  | _ => 0

abbrev bufTy : (tb : Table) → Fin (tcTables nBuf tb) → BufTy
  | .hbm, ⟨0, _⟩ => ⟨S4x128x32x256, .f32⟩
  | .hbm, ⟨1, _⟩ => ⟨S4, .i32⟩
  | .hbm, ⟨2, _⟩ => ⟨S4x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S6x256, .f32⟩
  | .hbm, ⟨12, _⟩ => ⟨S6x256, .f32⟩
  | .hbm, ⟨13, _⟩ => ⟨S6x256x768, .f32⟩
  | .hbm, ⟨14, _⟩ => ⟨S6x768, .f32⟩
  | .hbm, ⟨15, _⟩ => ⟨S6x256x256, .f32⟩
  | .hbm, ⟨16, _⟩ => ⟨S6x256, .f32⟩
  | .hbm, ⟨17, _⟩ => ⟨S6x256, .f32⟩
  | .hbm, ⟨18, _⟩ => ⟨S6x256, .f32⟩
  | .hbm, ⟨19, _⟩ => ⟨S6x256x1024, .f32⟩
  | .hbm, ⟨20, _⟩ => ⟨S6x1024, .f32⟩
  | .hbm, ⟨21, _⟩ => ⟨S6x1024x256, .f32⟩
  | .hbm, ⟨22, _⟩ => ⟨S6x256, .f32⟩
  | .hbm, ⟨23, _⟩ => ⟨S6x256, .f32⟩
  | .hbm, ⟨24, _⟩ => ⟨S6x256, .f32⟩
  | .hbm, ⟨25, _⟩ => ⟨S6x3x256x256, .f32⟩
  | .hbm, ⟨26, _⟩ => ⟨S6x256, .f32⟩
  | .hbm, ⟨27, _⟩ => ⟨S256x256, .f32⟩
  | .hbm, ⟨28, _⟩ => ⟨S256, .f32⟩
  | .hbm, ⟨29, _⟩ => ⟨S4x4096x256, .f32⟩
  | .hbm, ⟨30, _⟩ => ⟨S4, .f32⟩
  | .hbm, ⟨31, _⟩ => ⟨S4x1x1, .f32⟩
  | .hbm, ⟨32, _⟩ => ⟨S4x1x256, .f32⟩
  | .hbm, ⟨33, _⟩ => ⟨S_, .f32⟩
  | .hbm, ⟨34, _⟩ => ⟨S256, .f32⟩
  | .hbm, ⟨35, _⟩ => ⟨S_, .f32⟩
  | .hbm, ⟨36, _⟩ => ⟨S512, .f32⟩
  | .hbm, ⟨37, _⟩ => ⟨S768, .f32⟩
  | .hbm, ⟨38, _⟩ => ⟨S6x256x1, .f32⟩
  | .hbm, ⟨39, _⟩ => ⟨S6x256x768, .f32⟩
  | .hbm, ⟨40, _⟩ => ⟨S6x256x768, .f32⟩
  | .hbm, ⟨41, _⟩ => ⟨S1x1x768, .f32⟩
  | .hbm, ⟨42, _⟩ => ⟨S6x256x768, .f32⟩
  | .hbm, ⟨43, _⟩ => ⟨S6x256x768, .f32⟩
  | .hbm, ⟨44, _⟩ => ⟨S6x256x768, .bf16⟩
  | .hbm, ⟨45, _⟩ => ⟨S6x768, .f32⟩
  | .hbm, ⟨46, _⟩ => ⟨S6x768, .f32⟩
  | .hbm, ⟨47, _⟩ => ⟨S1x768, .f32⟩
  | .hbm, ⟨48, _⟩ => ⟨S6x768, .f32⟩
  | .hbm, ⟨49, _⟩ => ⟨S6x768, .f32⟩
  | .hbm, ⟨50, _⟩ => ⟨S6x768, .bf16⟩
  | .hbm, ⟨51, _⟩ => ⟨S6x256x1, .f32⟩
  | .hbm, ⟨52, _⟩ => ⟨S6x256x1024, .f32⟩
  | .hbm, ⟨53, _⟩ => ⟨S6x256x1024, .f32⟩
  | .hbm, ⟨54, _⟩ => ⟨S6x256x1024, .bf16⟩
  | .hbm, ⟨55, _⟩ => ⟨S6x1024, .f32⟩
  | .hbm, ⟨56, _⟩ => ⟨S6x1024, .f32⟩
  | .hbm, ⟨57, _⟩ => ⟨S6x1024, .bf16⟩
  | .hbm, ⟨58, _⟩ => ⟨S1x256, .f32⟩
  | .hbm, ⟨59, _⟩ => ⟨S1x256, .f32⟩
  | .hbm, ⟨60, _⟩ => ⟨S1x512, .f32⟩
  | .hbm, ⟨61, _⟩ => ⟨S1x512, .f32⟩
  | .hbm, ⟨62, _⟩ => ⟨S6x256x256, .bf16⟩
  | .hbm, ⟨63, _⟩ => ⟨S6x1024x256, .bf16⟩
  | .hbm, ⟨64, _⟩ => ⟨S6x3x256x256, .bf16⟩
  | .hbm, ⟨65, _⟩ => ⟨S6x256, .bf16⟩
  | .hbm, ⟨66, _⟩ => ⟨S256x256, .bf16⟩
  | .hbm, ⟨67, _⟩ => ⟨S1x256, .f32⟩
  | .hbm, ⟨68, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x1x1, .f32⟩
  | .local _ .vmem, ⟨3, _⟩ => ⟨S1x1x1, .f32⟩
  | .local _ .vmem, ⟨4, _⟩ => ⟨S1x1x256, .f32⟩
  | .local _ .vmem, ⟨5, _⟩ => ⟨S1x1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S6x256x768, .bf16⟩
  | .local _ .vmem, ⟨15, _⟩ => ⟨S6x768, .bf16⟩
  | .local _ .vmem, ⟨16, _⟩ => ⟨S6x256x256, .bf16⟩
  | .local _ .vmem, ⟨17, _⟩ => ⟨S6x256, .f32⟩
  | .local _ .vmem, ⟨18, _⟩ => ⟨S6x256x1024, .bf16⟩
  | .local _ .vmem, ⟨19, _⟩ => ⟨S6x1024, .bf16⟩
  | .local _ .vmem, ⟨20, _⟩ => ⟨S6x1024x256, .bf16⟩
  | .local _ .vmem, ⟨21, _⟩ => ⟨S6x256, .f32⟩
  | .local _ .vmem, ⟨22, _⟩ => ⟨S6x256, .f32⟩
  | .local _ .vmem, ⟨23, _⟩ => ⟨S6x256, .f32⟩
  | .local _ .vmem, ⟨24, _⟩ => ⟨S6x3x256x256, .bf16⟩
  | .local _ .vmem, ⟨25, _⟩ => ⟨S6x256, .bf16⟩
  | .local _ .vmem, ⟨26, _⟩ => ⟨S256x256, .bf16⟩
  | .local _ .vmem, ⟨27, _⟩ => ⟨S1x256, .f32⟩
  | .local _ .vmem, ⟨28, _⟩ => ⟨S1x4096x256, .f32⟩
  | .local _ .vmem, ⟨29, _⟩ => ⟨S1x4096x256, .f32⟩
  | .local _ .vmem, ⟨30, _⟩ => ⟨S4096x256, .f32⟩
  | _, _ => ⟨S4x128x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_cst_0 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S6x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S6x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S6x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S6x3x256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S6x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x4096x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S4x128x32x256 : Shape := ⟨4, ![4, 128, 32, 256]⟩
abbrev S4 : Shape := ⟨1, ![4]⟩
abbrev S4x256 : Shape := ⟨2, ![4, 256]⟩
abbrev S256x256 : Shape := ⟨2, ![256, 256]⟩
abbrev S256 : Shape := ⟨1, ![256]⟩
abbrev S256x512 : Shape := ⟨2, ![256, 512]⟩
abbrev S512 : Shape := ⟨1, ![512]⟩
abbrev S512x512 : Shape := ⟨2, ![512, 512]⟩
abbrev S6x256 : Shape := ⟨2, ![6, 256]⟩
abbrev S6x256x768 : Shape := ⟨3, ![6, 256, 768]⟩
abbrev S6x768 : Shape := ⟨2, ![6, 768]⟩
abbrev S6x256x256 : Shape := ⟨3, ![6, 256, 256]⟩
abbrev S6x256x1024 : Shape := ⟨3, ![6, 256, 1024]⟩
abbrev S6x1024 : Shape := ⟨2, ![6, 1024]⟩
abbrev S6x1024x256 : Shape := ⟨3, ![6, 1024, 256]⟩
abbrev S6x3x256x256 : Shape := ⟨4, ![6, 3, 256, 256]⟩
abbrev S32x32 : Shape := ⟨2, ![32, 32]⟩
abbrev S_ : Shape := ⟨0, ![]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S1x256 : Shape := ⟨2, ![1, 256]⟩
abbrev S4x1x1x256 : Shape := ⟨4, ![4, 1, 1, 256]⟩
abbrev S4x512 : Shape := ⟨2, ![4, 512]⟩
abbrev S1x512 : Shape := ⟨2, ![1, 512]⟩
abbrev S4x128x32 : Shape := ⟨3, ![4, 128, 32]⟩
abbrev S4x128x32x1 : Shape := ⟨4, ![4, 128, 32, 1]⟩
abbrev S1x1x1x256 : Shape := ⟨4, ![1, 1, 1, 256]⟩
abbrev S1x256x768 : Shape := ⟨3, ![1, 256, 768]⟩
abbrev S256x768 : Shape := ⟨2, ![256, 768]⟩
abbrev S4x128x32x768 : Shape := ⟨4, ![4, 128, 32, 768]⟩
abbrev S1x768 : Shape := ⟨2, ![1, 768]⟩
abbrev S768 : Shape := ⟨1, ![768]⟩
abbrev S1x1x1x768 : Shape := ⟨4, ![1, 1, 1, 768]⟩
abbrev S4x128x32x8x32 : Shape := ⟨5, ![4, 128, 32, 8, 32]⟩
abbrev S4x128x8x32x32 : Shape := ⟨5, ![4, 128, 8, 32, 32]⟩
abbrev S1x1x1x32x32 : Shape := ⟨5, ![1, 1, 1, 32, 32]⟩
abbrev S4x128x8x32 : Shape := ⟨4, ![4, 128, 8, 32]⟩
abbrev S4x128x8x32x1 : Shape := ⟨5, ![4, 128, 8, 32, 1]⟩
abbrev S1x256x256 : Shape := ⟨3, ![1, 256, 256]⟩
abbrev S1x256x1024 : Shape := ⟨3, ![1, 256, 1024]⟩
abbrev S256x1024 : Shape := ⟨2, ![256, 1024]⟩
abbrev S4x128x32x1024 : Shape := ⟨4, ![4, 128, 32, 1024]⟩
abbrev S1x1024 : Shape := ⟨2, ![1, 1024]⟩
abbrev S1024 : Shape := ⟨1, ![1024]⟩
abbrev S1x1x1x1024 : Shape := ⟨4, ![1, 1, 1, 1024]⟩
abbrev S1x1024x256 : Shape := ⟨3, ![1, 1024, 256]⟩
abbrev S1024x256 : Shape := ⟨2, ![1024, 256]⟩
abbrev S4x130x32x256 : Shape := ⟨4, ![4, 130, 32, 256]⟩
abbrev S1x1x256x256 : Shape := ⟨4, ![1, 1, 256, 256]⟩
abbrev S4x4096x256 : Shape := ⟨3, ![4, 4096, 256]⟩

abbrev nBuf : Space → Nat
  | .hbm => 1426
  | .vmem => 0
  | .smem => 0
  | _ => 0

abbrev hbmTy0_0 (i : Nat) : BufTy := match i % 128 with
  | 0 => ⟨S4x128x32x256, .f32⟩
  | 1 => ⟨S4, .i32⟩
  | 2 => ⟨S4x256, .f32⟩
  | 3 => ⟨S256x256, .f32⟩
  | 4 => ⟨S256, .f32⟩
  | 5 => ⟨S256x256, .f32⟩
  | 6 => ⟨S256, .f32⟩
  | 7 => ⟨S256x512, .f32⟩
  | 8 => ⟨S512, .f32⟩
  | 9 => ⟨S512x512, .f32⟩
  | 10 => ⟨S512, .f32⟩
  | 11 => ⟨S6x256, .f32⟩
  | 12 => ⟨S6x256, .f32⟩
  | 13 => ⟨S6x256x768, .f32⟩
  | 14 => ⟨S6x768, .f32⟩
  | 15 => ⟨S6x256x256, .f32⟩
  | 16 => ⟨S6x256, .f32⟩
  | 17 => ⟨S6x256, .f32⟩
  | 18 => ⟨S6x256, .f32⟩
  | 19 => ⟨S6x256x1024, .f32⟩
  | 20 => ⟨S6x1024, .f32⟩
  | 21 => ⟨S6x1024x256, .f32⟩
  | 22 => ⟨S6x256, .f32⟩
  | 23 => ⟨S6x256, .f32⟩
  | 24 => ⟨S6x256, .f32⟩
  | 25 => ⟨S6x3x256x256, .f32⟩
  | 26 => ⟨S6x256, .f32⟩
  | 27 => ⟨S256x256, .f32⟩
  | 28 => ⟨S256, .f32⟩
  | 29 => ⟨S32x32, .i32⟩
  | 30 => ⟨S32x32, .i32⟩
  | 31 => ⟨S32x32, .i32⟩
  | 32 => ⟨S32x32, .i32⟩
  | 33 => ⟨S_, .i32⟩
  | 34 => ⟨S32x32, .i32⟩
  | 35 => ⟨S32x32, .i1⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S4, .f32⟩
  | 45 => ⟨S4x1, .f32⟩
  | 46 => ⟨S1x128, .f32⟩
  | 47 => ⟨S4x128, .f32⟩
  | 48 => ⟨S4x128, .f32⟩
  | 49 => ⟨S4x128, .f32⟩
  | 50 => ⟨S4x128, .f32⟩
  | 51 => ⟨S4x128, .f32⟩
  | 52 => ⟨S4x256, .f32⟩
  | 53 => ⟨S4x256, .f32⟩
  | 54 => ⟨S1x256, .f32⟩
  | 55 => ⟨S4x256, .f32⟩
  | 56 => ⟨S4x256, .f32⟩
  | 57 => ⟨S_, .f32⟩
  | 58 => ⟨S4x256, .f32⟩
  | 59 => ⟨S4x256, .f32⟩
  | 60 => ⟨S_, .f32⟩
  | 61 => ⟨S_, .f32⟩
  | 62 => ⟨S4x256, .f32⟩
  | 63 => ⟨S4x256, .f32⟩
  | 64 => ⟨S4x256, .f32⟩
  | 65 => ⟨S_, .f32⟩
  | 66 => ⟨S4x256, .f32⟩
  | 67 => ⟨S4x256, .f32⟩
  | 68 => ⟨S4x256, .f32⟩
  | 69 => ⟨S4x256, .f32⟩
  | 70 => ⟨S1x256, .f32⟩
  | 71 => ⟨S4x256, .f32⟩
  | 72 => ⟨S4x256, .f32⟩
  | 73 => ⟨S4x1x1x256, .f32⟩
  | 74 => ⟨S4x128x32x256, .f32⟩
  | 75 => ⟨S4x128x32x256, .f32⟩
  | 76 => ⟨S4x512, .f32⟩
  | 77 => ⟨S1x512, .f32⟩
  | 78 => ⟨S4x512, .f32⟩
  | 79 => ⟨S4x512, .f32⟩
  | 80 => ⟨S_, .f32⟩
  | 81 => ⟨S4x512, .f32⟩
  | 82 => ⟨S4x512, .f32⟩
  | 83 => ⟨S_, .f32⟩
  | 84 => ⟨S_, .f32⟩
  | 85 => ⟨S4x512, .f32⟩
  | 86 => ⟨S4x512, .f32⟩
  | 87 => ⟨S4x512, .f32⟩
  | 88 => ⟨S_, .f32⟩
  | 89 => ⟨S4x512, .f32⟩
  | 90 => ⟨S4x512, .f32⟩
  | 91 => ⟨S4x512, .f32⟩
  | 92 => ⟨S4x512, .f32⟩
  | 93 => ⟨S1x512, .f32⟩
  | 94 => ⟨S4x512, .f32⟩
  | 95 => ⟨S4x512, .f32⟩
  | 96 => ⟨S4x256, .f32⟩
  | 97 => ⟨S4x256, .f32⟩
  | 98 => ⟨S4x1x1x256, .f32⟩
  | 99 => ⟨S_, .f32⟩
  | 100 => ⟨S4x1x1x256, .f32⟩
  | 101 => ⟨S4x1x1x256, .f32⟩
  | 102 => ⟨S4x128x32x256, .f32⟩
  | 103 => ⟨S4x128x32x256, .f32⟩
  | 104 => ⟨S4x1x1x256, .f32⟩
  | 105 => ⟨S4x128x32x256, .f32⟩
  | 106 => ⟨S4x128x32x256, .f32⟩
  | 107 => ⟨S1x256, .f32⟩
  | 108 => ⟨S256, .f32⟩
  | 109 => ⟨S1x256, .f32⟩
  | 110 => ⟨S256, .f32⟩
  | 111 => ⟨S_, .f32⟩
  | 112 => ⟨S4x128x32, .f32⟩
  | 113 => ⟨S4x128x32x1, .f32⟩
  | 114 => ⟨S_, .f32⟩
  | 115 => ⟨S4x128x32x1, .f32⟩
  | 116 => ⟨S4x128x32x1, .f32⟩
  | 117 => ⟨S4x128x32x256, .f32⟩
  | 118 => ⟨S4x128x32x256, .f32⟩
  | 119 => ⟨S4x128x32x256, .f32⟩
  | 120 => ⟨S4x128x32x256, .f32⟩
  | 121 => ⟨S4x128x32x256, .f32⟩
  | 122 => ⟨S_, .f32⟩
  | 123 => ⟨S4x128x32, .f32⟩
  | 124 => ⟨S4x128x32x1, .f32⟩
  | 125 => ⟨S_, .f32⟩
  | 126 => ⟨S4x128x32x1, .f32⟩
  | 127 => ⟨S4x128x32x1, .f32⟩
  | _ => ⟨S4x128x32x256, .f32⟩

abbrev hbmTy0_1 (i : Nat) : BufTy := match i % 128 with
  | 0 => ⟨S4x128x32x256, .f32⟩
  | 1 => ⟨S4x128x32x256, .f32⟩
  | 2 => ⟨S_, .f32⟩
  | 3 => ⟨S4x128x32x1, .f32⟩
  | 4 => ⟨S4x128x32x1, .f32⟩
  | 5 => ⟨S4x128x32x1, .f32⟩
  | 6 => ⟨S4x128x32x256, .f32⟩
  | 7 => ⟨S4x128x32x256, .f32⟩
  | 8 => ⟨S1x1x1x256, .f32⟩
  | 9 => ⟨S4x128x32x256, .f32⟩
  | 10 => ⟨S4x128x32x256, .f32⟩
  | 11 => ⟨S1x1x1x256, .f32⟩
  | 12 => ⟨S4x128x32x256, .f32⟩
  | 13 => ⟨S4x128x32x256, .f32⟩
  | 14 => ⟨S1x256x768, .f32⟩
  | 15 => ⟨S256x768, .f32⟩
  | 16 => ⟨S4x128x32x768, .f32⟩
  | 17 => ⟨S1x768, .f32⟩
  | 18 => ⟨S768, .f32⟩
  | 19 => ⟨S1x1x1x768, .f32⟩
  | 20 => ⟨S4x128x32x768, .f32⟩
  | 21 => ⟨S4x128x32x768, .f32⟩
  | 22 => ⟨S4x128x32x256, .f32⟩
  | 23 => ⟨S4x128x32x256, .f32⟩
  | 24 => ⟨S4x128x32x256, .f32⟩
  | 25 => ⟨S4x128x32x8x32, .f32⟩
  | 26 => ⟨S4x128x32x8x32, .f32⟩
  | 27 => ⟨S4x128x32x8x32, .f32⟩
  | 28 => ⟨S4x128x8x32x32, .f32⟩
  | 29 => ⟨S_, .f32⟩
  | 30 => ⟨S4x128x8x32x32, .f32⟩
  | 31 => ⟨S4x128x8x32x32, .f32⟩
  | 32 => ⟨S1x1x1x32x32, .i1⟩
  | 33 => ⟨S_, .f32⟩
  | 34 => ⟨S_, .f32⟩
  | 35 => ⟨S4x128x8x32x32, .i1⟩
  | 36 => ⟨S4x128x8x32x32, .f32⟩
  | 37 => ⟨S4x128x8x32x32, .f32⟩
  | 38 => ⟨S_, .f32⟩
  | 39 => ⟨S4x128x8x32, .f32⟩
  | 40 => ⟨S_, .f32⟩
  | 41 => ⟨S4x128x8x32, .f32⟩
  | 42 => ⟨S4x128x8x32, .f32⟩
  | 43 => ⟨S4x128x8x32x1, .f32⟩
  | 44 => ⟨S4x128x8x32x32, .f32⟩
  | 45 => ⟨S4x128x8x32x32, .f32⟩
  | 46 => ⟨S4x128x8x32x32, .f32⟩
  | 47 => ⟨S_, .f32⟩
  | 48 => ⟨S4x128x8x32, .f32⟩
  | 49 => ⟨S4x128x8x32x1, .f32⟩
  | 50 => ⟨S4x128x8x32x32, .f32⟩
  | 51 => ⟨S4x128x8x32x32, .f32⟩
  | 52 => ⟨S4x128x8x32x32, .f32⟩
  | 53 => ⟨S4x128x32x8x32, .f32⟩
  | 54 => ⟨S4x128x32x256, .f32⟩
  | 55 => ⟨S1x256x256, .f32⟩
  | 56 => ⟨S256x256, .f32⟩
  | 57 => ⟨S4x128x32x256, .f32⟩
  | 58 => ⟨S4x128x32x256, .f32⟩
  | 59 => ⟨S1x256, .f32⟩
  | 60 => ⟨S256, .f32⟩
  | 61 => ⟨S1x1x1x256, .f32⟩
  | 62 => ⟨S4x128x32x256, .f32⟩
  | 63 => ⟨S4x128x32x256, .f32⟩
  | 64 => ⟨S1x256, .f32⟩
  | 65 => ⟨S256, .f32⟩
  | 66 => ⟨S1x256, .f32⟩
  | 67 => ⟨S256, .f32⟩
  | 68 => ⟨S_, .f32⟩
  | 69 => ⟨S4x128x32, .f32⟩
  | 70 => ⟨S4x128x32x1, .f32⟩
  | 71 => ⟨S_, .f32⟩
  | 72 => ⟨S4x128x32x1, .f32⟩
  | 73 => ⟨S4x128x32x1, .f32⟩
  | 74 => ⟨S4x128x32x256, .f32⟩
  | 75 => ⟨S4x128x32x256, .f32⟩
  | 76 => ⟨S4x128x32x256, .f32⟩
  | 77 => ⟨S4x128x32x256, .f32⟩
  | 78 => ⟨S4x128x32x256, .f32⟩
  | 79 => ⟨S_, .f32⟩
  | 80 => ⟨S4x128x32, .f32⟩
  | 81 => ⟨S4x128x32x1, .f32⟩
  | 82 => ⟨S_, .f32⟩
  | 83 => ⟨S4x128x32x1, .f32⟩
  | 84 => ⟨S4x128x32x1, .f32⟩
  | 85 => ⟨S4x128x32x256, .f32⟩
  | 86 => ⟨S4x128x32x256, .f32⟩
  | 87 => ⟨S_, .f32⟩
  | 88 => ⟨S4x128x32x1, .f32⟩
  | 89 => ⟨S4x128x32x1, .f32⟩
  | 90 => ⟨S4x128x32x1, .f32⟩
  | 91 => ⟨S4x128x32x256, .f32⟩
  | 92 => ⟨S4x128x32x256, .f32⟩
  | 93 => ⟨S1x1x1x256, .f32⟩
  | 94 => ⟨S4x128x32x256, .f32⟩
  | 95 => ⟨S4x128x32x256, .f32⟩
  | 96 => ⟨S1x1x1x256, .f32⟩
  | 97 => ⟨S4x128x32x256, .f32⟩
  | 98 => ⟨S4x128x32x256, .f32⟩
  | 99 => ⟨S1x256x1024, .f32⟩
  | 100 => ⟨S256x1024, .f32⟩
  | 101 => ⟨S4x128x32x1024, .f32⟩
  | 102 => ⟨S1x1024, .f32⟩
  | 103 => ⟨S1024, .f32⟩
  | 104 => ⟨S1x1x1x1024, .f32⟩
  | 105 => ⟨S4x128x32x1024, .f32⟩
  | 106 => ⟨S4x128x32x1024, .f32⟩
  | 107 => ⟨S_, .f32⟩
  | 108 => ⟨S4x128x32x1024, .f32⟩
  | 109 => ⟨S4x128x32x1024, .f32⟩
  | 110 => ⟨S_, .f32⟩
  | 111 => ⟨S_, .f32⟩
  | 112 => ⟨S4x128x32x1024, .f32⟩
  | 113 => ⟨S4x128x32x1024, .f32⟩
  | 114 => ⟨S4x128x32x1024, .f32⟩
  | 115 => ⟨S_, .f32⟩
  | 116 => ⟨S4x128x32x1024, .f32⟩
  | 117 => ⟨S4x128x32x1024, .f32⟩
  | 118 => ⟨S4x128x32x1024, .f32⟩
  | 119 => ⟨S1x1024x256, .f32⟩
  | 120 => ⟨S1024x256, .f32⟩
  | 121 => ⟨S4x128x32x256, .f32⟩
  | 122 => ⟨S4x128x32x256, .f32⟩
  | 123 => ⟨S1x256, .f32⟩
  | 124 => ⟨S256, .f32⟩
  | 125 => ⟨S1x1x1x256, .f32⟩
  | 126 => ⟨S4x128x32x256, .f32⟩
  | 127 => ⟨S4x128x32x256, .f32⟩
  | _ => ⟨S4x128x32x256, .f32⟩

abbrev hbmTy0_2 (i : Nat) : BufTy := match i % 128 with
  | 0 => ⟨S1x256, .f32⟩
  | 1 => ⟨S256, .f32⟩
  | 2 => ⟨S1x256, .f32⟩
  | 3 => ⟨S256, .f32⟩
  | 4 => ⟨S_, .f32⟩
  | 5 => ⟨S4x128x32, .f32⟩
  | 6 => ⟨S4x128x32x1, .f32⟩
  | 7 => ⟨S_, .f32⟩
  | 8 => ⟨S4x128x32x1, .f32⟩
  | 9 => ⟨S4x128x32x1, .f32⟩
  | 10 => ⟨S4x128x32x256, .f32⟩
  | 11 => ⟨S4x128x32x256, .f32⟩
  | 12 => ⟨S4x128x32x256, .f32⟩
  | 13 => ⟨S4x128x32x256, .f32⟩
  | 14 => ⟨S4x128x32x256, .f32⟩
  | 15 => ⟨S_, .f32⟩
  | 16 => ⟨S4x128x32, .f32⟩
  | 17 => ⟨S4x128x32x1, .f32⟩
  | 18 => ⟨S_, .f32⟩
  | 19 => ⟨S4x128x32x1, .f32⟩
  | 20 => ⟨S4x128x32x1, .f32⟩
  | 21 => ⟨S4x128x32x256, .f32⟩
  | 22 => ⟨S4x128x32x256, .f32⟩
  | 23 => ⟨S_, .f32⟩
  | 24 => ⟨S4x128x32x1, .f32⟩
  | 25 => ⟨S4x128x32x1, .f32⟩
  | 26 => ⟨S4x128x32x1, .f32⟩
  | 27 => ⟨S4x128x32x256, .f32⟩
  | 28 => ⟨S4x128x32x256, .f32⟩
  | 29 => ⟨S1x1x1x256, .f32⟩
  | 30 => ⟨S4x128x32x256, .f32⟩
  | 31 => ⟨S4x128x32x256, .f32⟩
  | 32 => ⟨S1x1x1x256, .f32⟩
  | 33 => ⟨S4x128x32x256, .f32⟩
  | 34 => ⟨S4x128x32x256, .f32⟩
  | 35 => ⟨S_, .i32⟩
  | 36 => ⟨S_, .f32⟩
  | 37 => ⟨S4x130x32x256, .f32⟩
  | 38 => ⟨S4x128x32x256, .f32⟩
  | 39 => ⟨S1x1x256x256, .f32⟩
  | 40 => ⟨S256x256, .f32⟩
  | 41 => ⟨S4x128x32x256, .f32⟩
  | 42 => ⟨S4x128x32x256, .f32⟩
  | 43 => ⟨S1x1x256x256, .f32⟩
  | 44 => ⟨S256x256, .f32⟩
  | 45 => ⟨S4x128x32x256, .f32⟩
  | 46 => ⟨S4x128x32x256, .f32⟩
  | 47 => ⟨S4x128x32x256, .f32⟩
  | 48 => ⟨S1x1x256x256, .f32⟩
  | 49 => ⟨S256x256, .f32⟩
  | 50 => ⟨S4x128x32x256, .f32⟩
  | 51 => ⟨S4x128x32x256, .f32⟩
  | 52 => ⟨S1x256, .f32⟩
  | 53 => ⟨S256, .f32⟩
  | 54 => ⟨S1x1x1x256, .f32⟩
  | 55 => ⟨S4x128x32x256, .f32⟩
  | 56 => ⟨S4x128x32x256, .f32⟩
  | 57 => ⟨S_, .f32⟩
  | 58 => ⟨S4x128x32x256, .f32⟩
  | 59 => ⟨S4x128x32x256, .f32⟩
  | 60 => ⟨S_, .f32⟩
  | 61 => ⟨S_, .f32⟩
  | 62 => ⟨S4x128x32x256, .f32⟩
  | 63 => ⟨S4x128x32x256, .f32⟩
  | 64 => ⟨S4x128x32x256, .f32⟩
  | 65 => ⟨S_, .f32⟩
  | 66 => ⟨S4x128x32x256, .f32⟩
  | 67 => ⟨S4x128x32x256, .f32⟩
  | 68 => ⟨S4x128x32x256, .f32⟩
  | 69 => ⟨S4x128x32x256, .f32⟩
  | 70 => ⟨S1x256, .f32⟩
  | 71 => ⟨S256, .f32⟩
  | 72 => ⟨S1x256, .f32⟩
  | 73 => ⟨S256, .f32⟩
  | 74 => ⟨S_, .f32⟩
  | 75 => ⟨S4x128x32, .f32⟩
  | 76 => ⟨S4x128x32x1, .f32⟩
  | 77 => ⟨S_, .f32⟩
  | 78 => ⟨S4x128x32x1, .f32⟩
  | 79 => ⟨S4x128x32x1, .f32⟩
  | 80 => ⟨S4x128x32x256, .f32⟩
  | 81 => ⟨S4x128x32x256, .f32⟩
  | 82 => ⟨S4x128x32x256, .f32⟩
  | 83 => ⟨S4x128x32x256, .f32⟩
  | 84 => ⟨S4x128x32x256, .f32⟩
  | 85 => ⟨S_, .f32⟩
  | 86 => ⟨S4x128x32, .f32⟩
  | 87 => ⟨S4x128x32x1, .f32⟩
  | 88 => ⟨S_, .f32⟩
  | 89 => ⟨S4x128x32x1, .f32⟩
  | 90 => ⟨S4x128x32x1, .f32⟩
  | 91 => ⟨S4x128x32x256, .f32⟩
  | 92 => ⟨S4x128x32x256, .f32⟩
  | 93 => ⟨S_, .f32⟩
  | 94 => ⟨S4x128x32x1, .f32⟩
  | 95 => ⟨S4x128x32x1, .f32⟩
  | 96 => ⟨S4x128x32x1, .f32⟩
  | 97 => ⟨S4x128x32x256, .f32⟩
  | 98 => ⟨S4x128x32x256, .f32⟩
  | 99 => ⟨S1x1x1x256, .f32⟩
  | 100 => ⟨S4x128x32x256, .f32⟩
  | 101 => ⟨S4x128x32x256, .f32⟩
  | 102 => ⟨S1x1x1x256, .f32⟩
  | 103 => ⟨S4x128x32x256, .f32⟩
  | 104 => ⟨S4x128x32x256, .f32⟩
  | 105 => ⟨S1x256x768, .f32⟩
  | 106 => ⟨S256x768, .f32⟩
  | 107 => ⟨S4x128x32x768, .f32⟩
  | 108 => ⟨S1x768, .f32⟩
  | 109 => ⟨S768, .f32⟩
  | 110 => ⟨S1x1x1x768, .f32⟩
  | 111 => ⟨S4x128x32x768, .f32⟩
  | 112 => ⟨S4x128x32x768, .f32⟩
  | 113 => ⟨S4x128x32x256, .f32⟩
  | 114 => ⟨S4x128x32x256, .f32⟩
  | 115 => ⟨S4x128x32x256, .f32⟩
  | 116 => ⟨S4x128x32x8x32, .f32⟩
  | 117 => ⟨S4x128x32x8x32, .f32⟩
  | 118 => ⟨S4x128x32x8x32, .f32⟩
  | 119 => ⟨S4x128x8x32x32, .f32⟩
  | 120 => ⟨S_, .f32⟩
  | 121 => ⟨S4x128x8x32x32, .f32⟩
  | 122 => ⟨S4x128x8x32x32, .f32⟩
  | 123 => ⟨S1x1x1x32x32, .i1⟩
  | 124 => ⟨S_, .f32⟩
  | 125 => ⟨S_, .f32⟩
  | 126 => ⟨S4x128x8x32x32, .i1⟩
  | 127 => ⟨S4x128x8x32x32, .f32⟩
  | _ => ⟨S4x128x32x256, .f32⟩

abbrev hbmTy0_3 (i : Nat) : BufTy := match i % 128 with
  | 0 => ⟨S4x128x8x32x32, .f32⟩
  | 1 => ⟨S_, .f32⟩
  | 2 => ⟨S4x128x8x32, .f32⟩
  | 3 => ⟨S_, .f32⟩
  | 4 => ⟨S4x128x8x32, .f32⟩
  | 5 => ⟨S4x128x8x32, .f32⟩
  | 6 => ⟨S4x128x8x32x1, .f32⟩
  | 7 => ⟨S4x128x8x32x32, .f32⟩
  | 8 => ⟨S4x128x8x32x32, .f32⟩
  | 9 => ⟨S4x128x8x32x32, .f32⟩
  | 10 => ⟨S_, .f32⟩
  | 11 => ⟨S4x128x8x32, .f32⟩
  | 12 => ⟨S4x128x8x32x1, .f32⟩
  | 13 => ⟨S4x128x8x32x32, .f32⟩
  | 14 => ⟨S4x128x8x32x32, .f32⟩
  | 15 => ⟨S4x128x8x32x32, .f32⟩
  | 16 => ⟨S4x128x32x8x32, .f32⟩
  | 17 => ⟨S4x128x32x256, .f32⟩
  | 18 => ⟨S1x256x256, .f32⟩
  | 19 => ⟨S256x256, .f32⟩
  | 20 => ⟨S4x128x32x256, .f32⟩
  | 21 => ⟨S4x128x32x256, .f32⟩
  | 22 => ⟨S1x256, .f32⟩
  | 23 => ⟨S256, .f32⟩
  | 24 => ⟨S1x1x1x256, .f32⟩
  | 25 => ⟨S4x128x32x256, .f32⟩
  | 26 => ⟨S4x128x32x256, .f32⟩
  | 27 => ⟨S1x256, .f32⟩
  | 28 => ⟨S256, .f32⟩
  | 29 => ⟨S1x256, .f32⟩
  | 30 => ⟨S256, .f32⟩
  | 31 => ⟨S_, .f32⟩
  | 32 => ⟨S4x128x32, .f32⟩
  | 33 => ⟨S4x128x32x1, .f32⟩
  | 34 => ⟨S_, .f32⟩
  | 35 => ⟨S4x128x32x1, .f32⟩
  | 36 => ⟨S4x128x32x1, .f32⟩
  | 37 => ⟨S4x128x32x256, .f32⟩
  | 38 => ⟨S4x128x32x256, .f32⟩
  | 39 => ⟨S4x128x32x256, .f32⟩
  | 40 => ⟨S4x128x32x256, .f32⟩
  | 41 => ⟨S4x128x32x256, .f32⟩
  | 42 => ⟨S_, .f32⟩
  | 43 => ⟨S4x128x32, .f32⟩
  | 44 => ⟨S4x128x32x1, .f32⟩
  | 45 => ⟨S_, .f32⟩
  | 46 => ⟨S4x128x32x1, .f32⟩
  | 47 => ⟨S4x128x32x1, .f32⟩
  | 48 => ⟨S4x128x32x256, .f32⟩
  | 49 => ⟨S4x128x32x256, .f32⟩
  | 50 => ⟨S_, .f32⟩
  | 51 => ⟨S4x128x32x1, .f32⟩
  | 52 => ⟨S4x128x32x1, .f32⟩
  | 53 => ⟨S4x128x32x1, .f32⟩
  | 54 => ⟨S4x128x32x256, .f32⟩
  | 55 => ⟨S4x128x32x256, .f32⟩
  | 56 => ⟨S1x1x1x256, .f32⟩
  | 57 => ⟨S4x128x32x256, .f32⟩
  | 58 => ⟨S4x128x32x256, .f32⟩
  | 59 => ⟨S1x1x1x256, .f32⟩
  | 60 => ⟨S4x128x32x256, .f32⟩
  | 61 => ⟨S4x128x32x256, .f32⟩
  | 62 => ⟨S1x256x1024, .f32⟩
  | 63 => ⟨S256x1024, .f32⟩
  | 64 => ⟨S4x128x32x1024, .f32⟩
  | 65 => ⟨S1x1024, .f32⟩
  | 66 => ⟨S1024, .f32⟩
  | 67 => ⟨S1x1x1x1024, .f32⟩
  | 68 => ⟨S4x128x32x1024, .f32⟩
  | 69 => ⟨S4x128x32x1024, .f32⟩
  | 70 => ⟨S_, .f32⟩
  | 71 => ⟨S4x128x32x1024, .f32⟩
  | 72 => ⟨S4x128x32x1024, .f32⟩
  | 73 => ⟨S_, .f32⟩
  | 74 => ⟨S_, .f32⟩
  | 75 => ⟨S4x128x32x1024, .f32⟩
  | 76 => ⟨S4x128x32x1024, .f32⟩
  | 77 => ⟨S4x128x32x1024, .f32⟩
  | 78 => ⟨S_, .f32⟩
  | 79 => ⟨S4x128x32x1024, .f32⟩
  | 80 => ⟨S4x128x32x1024, .f32⟩
  | 81 => ⟨S4x128x32x1024, .f32⟩
  | 82 => ⟨S1x1024x256, .f32⟩
  | 83 => ⟨S1024x256, .f32⟩
  | 84 => ⟨S4x128x32x256, .f32⟩
  | 85 => ⟨S4x128x32x256, .f32⟩
  | 86 => ⟨S1x256, .f32⟩
  | 87 => ⟨S256, .f32⟩
  | 88 => ⟨S1x1x1x256, .f32⟩
  | 89 => ⟨S4x128x32x256, .f32⟩
  | 90 => ⟨S4x128x32x256, .f32⟩
  | 91 => ⟨S1x256, .f32⟩
  | 92 => ⟨S256, .f32⟩
  | 93 => ⟨S1x256, .f32⟩
  | 94 => ⟨S256, .f32⟩
  | 95 => ⟨S_, .f32⟩
  | 96 => ⟨S4x128x32, .f32⟩
  | 97 => ⟨S4x128x32x1, .f32⟩
  | 98 => ⟨S_, .f32⟩
  | 99 => ⟨S4x128x32x1, .f32⟩
  | 100 => ⟨S4x128x32x1, .f32⟩
  | 101 => ⟨S4x128x32x256, .f32⟩
  | 102 => ⟨S4x128x32x256, .f32⟩
  | 103 => ⟨S4x128x32x256, .f32⟩
  | 104 => ⟨S4x128x32x256, .f32⟩
  | 105 => ⟨S4x128x32x256, .f32⟩
  | 106 => ⟨S_, .f32⟩
  | 107 => ⟨S4x128x32, .f32⟩
  | 108 => ⟨S4x128x32x1, .f32⟩
  | 109 => ⟨S_, .f32⟩
  | 110 => ⟨S4x128x32x1, .f32⟩
  | 111 => ⟨S4x128x32x1, .f32⟩
  | 112 => ⟨S4x128x32x256, .f32⟩
  | 113 => ⟨S4x128x32x256, .f32⟩
  | 114 => ⟨S_, .f32⟩
  | 115 => ⟨S4x128x32x1, .f32⟩
  | 116 => ⟨S4x128x32x1, .f32⟩
  | 117 => ⟨S4x128x32x1, .f32⟩
  | 118 => ⟨S4x128x32x256, .f32⟩
  | 119 => ⟨S4x128x32x256, .f32⟩
  | 120 => ⟨S1x1x1x256, .f32⟩
  | 121 => ⟨S4x128x32x256, .f32⟩
  | 122 => ⟨S4x128x32x256, .f32⟩
  | 123 => ⟨S1x1x1x256, .f32⟩
  | 124 => ⟨S4x128x32x256, .f32⟩
  | 125 => ⟨S4x128x32x256, .f32⟩
  | 126 => ⟨S_, .i32⟩
  | 127 => ⟨S_, .f32⟩
  | _ => ⟨S4x128x32x256, .f32⟩

abbrev hbmTy0_4 (i : Nat) : BufTy := match i % 128 with
  | 0 => ⟨S4x130x32x256, .f32⟩
  | 1 => ⟨S4x128x32x256, .f32⟩
  | 2 => ⟨S1x1x256x256, .f32⟩
  | 3 => ⟨S256x256, .f32⟩
  | 4 => ⟨S4x128x32x256, .f32⟩
  | 5 => ⟨S4x128x32x256, .f32⟩
  | 6 => ⟨S1x1x256x256, .f32⟩
  | 7 => ⟨S256x256, .f32⟩
  | 8 => ⟨S4x128x32x256, .f32⟩
  | 9 => ⟨S4x128x32x256, .f32⟩
  | 10 => ⟨S4x128x32x256, .f32⟩
  | 11 => ⟨S1x1x256x256, .f32⟩
  | 12 => ⟨S256x256, .f32⟩
  | 13 => ⟨S4x128x32x256, .f32⟩
  | 14 => ⟨S4x128x32x256, .f32⟩
  | 15 => ⟨S1x256, .f32⟩
  | 16 => ⟨S256, .f32⟩
  | 17 => ⟨S1x1x1x256, .f32⟩
  | 18 => ⟨S4x128x32x256, .f32⟩
  | 19 => ⟨S4x128x32x256, .f32⟩
  | 20 => ⟨S_, .f32⟩
  | 21 => ⟨S4x128x32x256, .f32⟩
  | 22 => ⟨S4x128x32x256, .f32⟩
  | 23 => ⟨S_, .f32⟩
  | 24 => ⟨S_, .f32⟩
  | 25 => ⟨S4x128x32x256, .f32⟩
  | 26 => ⟨S4x128x32x256, .f32⟩
  | 27 => ⟨S4x128x32x256, .f32⟩
  | 28 => ⟨S_, .f32⟩
  | 29 => ⟨S4x128x32x256, .f32⟩
  | 30 => ⟨S4x128x32x256, .f32⟩
  | 31 => ⟨S4x128x32x256, .f32⟩
  | 32 => ⟨S4x128x32x256, .f32⟩
  | 33 => ⟨S1x256, .f32⟩
  | 34 => ⟨S256, .f32⟩
  | 35 => ⟨S1x256, .f32⟩
  | 36 => ⟨S256, .f32⟩
  | 37 => ⟨S_, .f32⟩
  | 38 => ⟨S4x128x32, .f32⟩
  | 39 => ⟨S4x128x32x1, .f32⟩
  | 40 => ⟨S_, .f32⟩
  | 41 => ⟨S4x128x32x1, .f32⟩
  | 42 => ⟨S4x128x32x1, .f32⟩
  | 43 => ⟨S4x128x32x256, .f32⟩
  | 44 => ⟨S4x128x32x256, .f32⟩
  | 45 => ⟨S4x128x32x256, .f32⟩
  | 46 => ⟨S4x128x32x256, .f32⟩
  | 47 => ⟨S4x128x32x256, .f32⟩
  | 48 => ⟨S_, .f32⟩
  | 49 => ⟨S4x128x32, .f32⟩
  | 50 => ⟨S4x128x32x1, .f32⟩
  | 51 => ⟨S_, .f32⟩
  | 52 => ⟨S4x128x32x1, .f32⟩
  | 53 => ⟨S4x128x32x1, .f32⟩
  | 54 => ⟨S4x128x32x256, .f32⟩
  | 55 => ⟨S4x128x32x256, .f32⟩
  | 56 => ⟨S_, .f32⟩
  | 57 => ⟨S4x128x32x1, .f32⟩
  | 58 => ⟨S4x128x32x1, .f32⟩
  | 59 => ⟨S4x128x32x1, .f32⟩
  | 60 => ⟨S4x128x32x256, .f32⟩
  | 61 => ⟨S4x128x32x256, .f32⟩
  | 62 => ⟨S1x1x1x256, .f32⟩
  | 63 => ⟨S4x128x32x256, .f32⟩
  | 64 => ⟨S4x128x32x256, .f32⟩
  | 65 => ⟨S1x1x1x256, .f32⟩
  | 66 => ⟨S4x128x32x256, .f32⟩
  | 67 => ⟨S4x128x32x256, .f32⟩
  | 68 => ⟨S1x256x768, .f32⟩
  | 69 => ⟨S256x768, .f32⟩
  | 70 => ⟨S4x128x32x768, .f32⟩
  | 71 => ⟨S1x768, .f32⟩
  | 72 => ⟨S768, .f32⟩
  | 73 => ⟨S1x1x1x768, .f32⟩
  | 74 => ⟨S4x128x32x768, .f32⟩
  | 75 => ⟨S4x128x32x768, .f32⟩
  | 76 => ⟨S4x128x32x256, .f32⟩
  | 77 => ⟨S4x128x32x256, .f32⟩
  | 78 => ⟨S4x128x32x256, .f32⟩
  | 79 => ⟨S4x128x32x8x32, .f32⟩
  | 80 => ⟨S4x128x32x8x32, .f32⟩
  | 81 => ⟨S4x128x32x8x32, .f32⟩
  | 82 => ⟨S4x128x8x32x32, .f32⟩
  | 83 => ⟨S_, .f32⟩
  | 84 => ⟨S4x128x8x32x32, .f32⟩
  | 85 => ⟨S4x128x8x32x32, .f32⟩
  | 86 => ⟨S1x1x1x32x32, .i1⟩
  | 87 => ⟨S_, .f32⟩
  | 88 => ⟨S_, .f32⟩
  | 89 => ⟨S4x128x8x32x32, .i1⟩
  | 90 => ⟨S4x128x8x32x32, .f32⟩
  | 91 => ⟨S4x128x8x32x32, .f32⟩
  | 92 => ⟨S_, .f32⟩
  | 93 => ⟨S4x128x8x32, .f32⟩
  | 94 => ⟨S_, .f32⟩
  | 95 => ⟨S4x128x8x32, .f32⟩
  | 96 => ⟨S4x128x8x32, .f32⟩
  | 97 => ⟨S4x128x8x32x1, .f32⟩
  | 98 => ⟨S4x128x8x32x32, .f32⟩
  | 99 => ⟨S4x128x8x32x32, .f32⟩
  | 100 => ⟨S4x128x8x32x32, .f32⟩
  | 101 => ⟨S_, .f32⟩
  | 102 => ⟨S4x128x8x32, .f32⟩
  | 103 => ⟨S4x128x8x32x1, .f32⟩
  | 104 => ⟨S4x128x8x32x32, .f32⟩
  | 105 => ⟨S4x128x8x32x32, .f32⟩
  | 106 => ⟨S4x128x8x32x32, .f32⟩
  | 107 => ⟨S4x128x32x8x32, .f32⟩
  | 108 => ⟨S4x128x32x256, .f32⟩
  | 109 => ⟨S1x256x256, .f32⟩
  | 110 => ⟨S256x256, .f32⟩
  | 111 => ⟨S4x128x32x256, .f32⟩
  | 112 => ⟨S4x128x32x256, .f32⟩
  | 113 => ⟨S1x256, .f32⟩
  | 114 => ⟨S256, .f32⟩
  | 115 => ⟨S1x1x1x256, .f32⟩
  | 116 => ⟨S4x128x32x256, .f32⟩
  | 117 => ⟨S4x128x32x256, .f32⟩
  | 118 => ⟨S1x256, .f32⟩
  | 119 => ⟨S256, .f32⟩
  | 120 => ⟨S1x256, .f32⟩
  | 121 => ⟨S256, .f32⟩
  | 122 => ⟨S_, .f32⟩
  | 123 => ⟨S4x128x32, .f32⟩
  | 124 => ⟨S4x128x32x1, .f32⟩
  | 125 => ⟨S_, .f32⟩
  | 126 => ⟨S4x128x32x1, .f32⟩
  | 127 => ⟨S4x128x32x1, .f32⟩
  | _ => ⟨S4x128x32x256, .f32⟩

abbrev hbmTy0_5 (i : Nat) : BufTy := match i % 128 with
  | 0 => ⟨S4x128x32x256, .f32⟩
  | 1 => ⟨S4x128x32x256, .f32⟩
  | 2 => ⟨S4x128x32x256, .f32⟩
  | 3 => ⟨S4x128x32x256, .f32⟩
  | 4 => ⟨S4x128x32x256, .f32⟩
  | 5 => ⟨S_, .f32⟩
  | 6 => ⟨S4x128x32, .f32⟩
  | 7 => ⟨S4x128x32x1, .f32⟩
  | 8 => ⟨S_, .f32⟩
  | 9 => ⟨S4x128x32x1, .f32⟩
  | 10 => ⟨S4x128x32x1, .f32⟩
  | 11 => ⟨S4x128x32x256, .f32⟩
  | 12 => ⟨S4x128x32x256, .f32⟩
  | 13 => ⟨S_, .f32⟩
  | 14 => ⟨S4x128x32x1, .f32⟩
  | 15 => ⟨S4x128x32x1, .f32⟩
  | 16 => ⟨S4x128x32x1, .f32⟩
  | 17 => ⟨S4x128x32x256, .f32⟩
  | 18 => ⟨S4x128x32x256, .f32⟩
  | 19 => ⟨S1x1x1x256, .f32⟩
  | 20 => ⟨S4x128x32x256, .f32⟩
  | 21 => ⟨S4x128x32x256, .f32⟩
  | 22 => ⟨S1x1x1x256, .f32⟩
  | 23 => ⟨S4x128x32x256, .f32⟩
  | 24 => ⟨S4x128x32x256, .f32⟩
  | 25 => ⟨S1x256x1024, .f32⟩
  | 26 => ⟨S256x1024, .f32⟩
  | 27 => ⟨S4x128x32x1024, .f32⟩
  | 28 => ⟨S1x1024, .f32⟩
  | 29 => ⟨S1024, .f32⟩
  | 30 => ⟨S1x1x1x1024, .f32⟩
  | 31 => ⟨S4x128x32x1024, .f32⟩
  | 32 => ⟨S4x128x32x1024, .f32⟩
  | 33 => ⟨S_, .f32⟩
  | 34 => ⟨S4x128x32x1024, .f32⟩
  | 35 => ⟨S4x128x32x1024, .f32⟩
  | 36 => ⟨S_, .f32⟩
  | 37 => ⟨S_, .f32⟩
  | 38 => ⟨S4x128x32x1024, .f32⟩
  | 39 => ⟨S4x128x32x1024, .f32⟩
  | 40 => ⟨S4x128x32x1024, .f32⟩
  | 41 => ⟨S_, .f32⟩
  | 42 => ⟨S4x128x32x1024, .f32⟩
  | 43 => ⟨S4x128x32x1024, .f32⟩
  | 44 => ⟨S4x128x32x1024, .f32⟩
  | 45 => ⟨S1x1024x256, .f32⟩
  | 46 => ⟨S1024x256, .f32⟩
  | 47 => ⟨S4x128x32x256, .f32⟩
  | 48 => ⟨S4x128x32x256, .f32⟩
  | 49 => ⟨S1x256, .f32⟩
  | 50 => ⟨S256, .f32⟩
  | 51 => ⟨S1x1x1x256, .f32⟩
  | 52 => ⟨S4x128x32x256, .f32⟩
  | 53 => ⟨S4x128x32x256, .f32⟩
  | 54 => ⟨S1x256, .f32⟩
  | 55 => ⟨S256, .f32⟩
  | 56 => ⟨S1x256, .f32⟩
  | 57 => ⟨S256, .f32⟩
  | 58 => ⟨S_, .f32⟩
  | 59 => ⟨S4x128x32, .f32⟩
  | 60 => ⟨S4x128x32x1, .f32⟩
  | 61 => ⟨S_, .f32⟩
  | 62 => ⟨S4x128x32x1, .f32⟩
  | 63 => ⟨S4x128x32x1, .f32⟩
  | 64 => ⟨S4x128x32x256, .f32⟩
  | 65 => ⟨S4x128x32x256, .f32⟩
  | 66 => ⟨S4x128x32x256, .f32⟩
  | 67 => ⟨S4x128x32x256, .f32⟩
  | 68 => ⟨S4x128x32x256, .f32⟩
  | 69 => ⟨S_, .f32⟩
  | 70 => ⟨S4x128x32, .f32⟩
  | 71 => ⟨S4x128x32x1, .f32⟩
  | 72 => ⟨S_, .f32⟩
  | 73 => ⟨S4x128x32x1, .f32⟩
  | 74 => ⟨S4x128x32x1, .f32⟩
  | 75 => ⟨S4x128x32x256, .f32⟩
  | 76 => ⟨S4x128x32x256, .f32⟩
  | 77 => ⟨S_, .f32⟩
  | 78 => ⟨S4x128x32x1, .f32⟩
  | 79 => ⟨S4x128x32x1, .f32⟩
  | 80 => ⟨S4x128x32x1, .f32⟩
  | 81 => ⟨S4x128x32x256, .f32⟩
  | 82 => ⟨S4x128x32x256, .f32⟩
  | 83 => ⟨S1x1x1x256, .f32⟩
  | 84 => ⟨S4x128x32x256, .f32⟩
  | 85 => ⟨S4x128x32x256, .f32⟩
  | 86 => ⟨S1x1x1x256, .f32⟩
  | 87 => ⟨S4x128x32x256, .f32⟩
  | 88 => ⟨S4x128x32x256, .f32⟩
  | 89 => ⟨S_, .i32⟩
  | 90 => ⟨S_, .f32⟩
  | 91 => ⟨S4x130x32x256, .f32⟩
  | 92 => ⟨S4x128x32x256, .f32⟩
  | 93 => ⟨S1x1x256x256, .f32⟩
  | 94 => ⟨S256x256, .f32⟩
  | 95 => ⟨S4x128x32x256, .f32⟩
  | 96 => ⟨S4x128x32x256, .f32⟩
  | 97 => ⟨S1x1x256x256, .f32⟩
  | 98 => ⟨S256x256, .f32⟩
  | 99 => ⟨S4x128x32x256, .f32⟩
  | 100 => ⟨S4x128x32x256, .f32⟩
  | 101 => ⟨S4x128x32x256, .f32⟩
  | 102 => ⟨S1x1x256x256, .f32⟩
  | 103 => ⟨S256x256, .f32⟩
  | 104 => ⟨S4x128x32x256, .f32⟩
  | 105 => ⟨S4x128x32x256, .f32⟩
  | 106 => ⟨S1x256, .f32⟩
  | 107 => ⟨S256, .f32⟩
  | 108 => ⟨S1x1x1x256, .f32⟩
  | 109 => ⟨S4x128x32x256, .f32⟩
  | 110 => ⟨S4x128x32x256, .f32⟩
  | 111 => ⟨S_, .f32⟩
  | 112 => ⟨S4x128x32x256, .f32⟩
  | 113 => ⟨S4x128x32x256, .f32⟩
  | 114 => ⟨S_, .f32⟩
  | 115 => ⟨S_, .f32⟩
  | 116 => ⟨S4x128x32x256, .f32⟩
  | 117 => ⟨S4x128x32x256, .f32⟩
  | 118 => ⟨S4x128x32x256, .f32⟩
  | 119 => ⟨S_, .f32⟩
  | 120 => ⟨S4x128x32x256, .f32⟩
  | 121 => ⟨S4x128x32x256, .f32⟩
  | 122 => ⟨S4x128x32x256, .f32⟩
  | 123 => ⟨S4x128x32x256, .f32⟩
  | 124 => ⟨S1x256, .f32⟩
  | 125 => ⟨S256, .f32⟩
  | 126 => ⟨S1x256, .f32⟩
  | 127 => ⟨S256, .f32⟩
  | _ => ⟨S4x128x32x256, .f32⟩

abbrev hbmTy0_6 (i : Nat) : BufTy := match i % 128 with
  | 0 => ⟨S_, .f32⟩
  | 1 => ⟨S4x128x32, .f32⟩
  | 2 => ⟨S4x128x32x1, .f32⟩
  | 3 => ⟨S_, .f32⟩
  | 4 => ⟨S4x128x32x1, .f32⟩
  | 5 => ⟨S4x128x32x1, .f32⟩
  | 6 => ⟨S4x128x32x256, .f32⟩
  | 7 => ⟨S4x128x32x256, .f32⟩
  | 8 => ⟨S4x128x32x256, .f32⟩
  | 9 => ⟨S4x128x32x256, .f32⟩
  | 10 => ⟨S4x128x32x256, .f32⟩
  | 11 => ⟨S_, .f32⟩
  | 12 => ⟨S4x128x32, .f32⟩
  | 13 => ⟨S4x128x32x1, .f32⟩
  | 14 => ⟨S_, .f32⟩
  | 15 => ⟨S4x128x32x1, .f32⟩
  | 16 => ⟨S4x128x32x1, .f32⟩
  | 17 => ⟨S4x128x32x256, .f32⟩
  | 18 => ⟨S4x128x32x256, .f32⟩
  | 19 => ⟨S_, .f32⟩
  | 20 => ⟨S4x128x32x1, .f32⟩
  | 21 => ⟨S4x128x32x1, .f32⟩
  | 22 => ⟨S4x128x32x1, .f32⟩
  | 23 => ⟨S4x128x32x256, .f32⟩
  | 24 => ⟨S4x128x32x256, .f32⟩
  | 25 => ⟨S1x1x1x256, .f32⟩
  | 26 => ⟨S4x128x32x256, .f32⟩
  | 27 => ⟨S4x128x32x256, .f32⟩
  | 28 => ⟨S1x1x1x256, .f32⟩
  | 29 => ⟨S4x128x32x256, .f32⟩
  | 30 => ⟨S4x128x32x256, .f32⟩
  | 31 => ⟨S1x256x768, .f32⟩
  | 32 => ⟨S256x768, .f32⟩
  | 33 => ⟨S4x128x32x768, .f32⟩
  | 34 => ⟨S1x768, .f32⟩
  | 35 => ⟨S768, .f32⟩
  | 36 => ⟨S1x1x1x768, .f32⟩
  | 37 => ⟨S4x128x32x768, .f32⟩
  | 38 => ⟨S4x128x32x768, .f32⟩
  | 39 => ⟨S4x128x32x256, .f32⟩
  | 40 => ⟨S4x128x32x256, .f32⟩
  | 41 => ⟨S4x128x32x256, .f32⟩
  | 42 => ⟨S4x128x32x8x32, .f32⟩
  | 43 => ⟨S4x128x32x8x32, .f32⟩
  | 44 => ⟨S4x128x32x8x32, .f32⟩
  | 45 => ⟨S4x128x8x32x32, .f32⟩
  | 46 => ⟨S_, .f32⟩
  | 47 => ⟨S4x128x8x32x32, .f32⟩
  | 48 => ⟨S4x128x8x32x32, .f32⟩
  | 49 => ⟨S1x1x1x32x32, .i1⟩
  | 50 => ⟨S_, .f32⟩
  | 51 => ⟨S_, .f32⟩
  | 52 => ⟨S4x128x8x32x32, .i1⟩
  | 53 => ⟨S4x128x8x32x32, .f32⟩
  | 54 => ⟨S4x128x8x32x32, .f32⟩
  | 55 => ⟨S_, .f32⟩
  | 56 => ⟨S4x128x8x32, .f32⟩
  | 57 => ⟨S_, .f32⟩
  | 58 => ⟨S4x128x8x32, .f32⟩
  | 59 => ⟨S4x128x8x32, .f32⟩
  | 60 => ⟨S4x128x8x32x1, .f32⟩
  | 61 => ⟨S4x128x8x32x32, .f32⟩
  | 62 => ⟨S4x128x8x32x32, .f32⟩
  | 63 => ⟨S4x128x8x32x32, .f32⟩
  | 64 => ⟨S_, .f32⟩
  | 65 => ⟨S4x128x8x32, .f32⟩
  | 66 => ⟨S4x128x8x32x1, .f32⟩
  | 67 => ⟨S4x128x8x32x32, .f32⟩
  | 68 => ⟨S4x128x8x32x32, .f32⟩
  | 69 => ⟨S4x128x8x32x32, .f32⟩
  | 70 => ⟨S4x128x32x8x32, .f32⟩
  | 71 => ⟨S4x128x32x256, .f32⟩
  | 72 => ⟨S1x256x256, .f32⟩
  | 73 => ⟨S256x256, .f32⟩
  | 74 => ⟨S4x128x32x256, .f32⟩
  | 75 => ⟨S4x128x32x256, .f32⟩
  | 76 => ⟨S1x256, .f32⟩
  | 77 => ⟨S256, .f32⟩
  | 78 => ⟨S1x1x1x256, .f32⟩
  | 79 => ⟨S4x128x32x256, .f32⟩
  | 80 => ⟨S4x128x32x256, .f32⟩
  | 81 => ⟨S1x256, .f32⟩
  | 82 => ⟨S256, .f32⟩
  | 83 => ⟨S1x256, .f32⟩
  | 84 => ⟨S256, .f32⟩
  | 85 => ⟨S_, .f32⟩
  | 86 => ⟨S4x128x32, .f32⟩
  | 87 => ⟨S4x128x32x1, .f32⟩
  | 88 => ⟨S_, .f32⟩
  | 89 => ⟨S4x128x32x1, .f32⟩
  | 90 => ⟨S4x128x32x1, .f32⟩
  | 91 => ⟨S4x128x32x256, .f32⟩
  | 92 => ⟨S4x128x32x256, .f32⟩
  | 93 => ⟨S4x128x32x256, .f32⟩
  | 94 => ⟨S4x128x32x256, .f32⟩
  | 95 => ⟨S4x128x32x256, .f32⟩
  | 96 => ⟨S_, .f32⟩
  | 97 => ⟨S4x128x32, .f32⟩
  | 98 => ⟨S4x128x32x1, .f32⟩
  | 99 => ⟨S_, .f32⟩
  | 100 => ⟨S4x128x32x1, .f32⟩
  | 101 => ⟨S4x128x32x1, .f32⟩
  | 102 => ⟨S4x128x32x256, .f32⟩
  | 103 => ⟨S4x128x32x256, .f32⟩
  | 104 => ⟨S_, .f32⟩
  | 105 => ⟨S4x128x32x1, .f32⟩
  | 106 => ⟨S4x128x32x1, .f32⟩
  | 107 => ⟨S4x128x32x1, .f32⟩
  | 108 => ⟨S4x128x32x256, .f32⟩
  | 109 => ⟨S4x128x32x256, .f32⟩
  | 110 => ⟨S1x1x1x256, .f32⟩
  | 111 => ⟨S4x128x32x256, .f32⟩
  | 112 => ⟨S4x128x32x256, .f32⟩
  | 113 => ⟨S1x1x1x256, .f32⟩
  | 114 => ⟨S4x128x32x256, .f32⟩
  | 115 => ⟨S4x128x32x256, .f32⟩
  | 116 => ⟨S1x256x1024, .f32⟩
  | 117 => ⟨S256x1024, .f32⟩
  | 118 => ⟨S4x128x32x1024, .f32⟩
  | 119 => ⟨S1x1024, .f32⟩
  | 120 => ⟨S1024, .f32⟩
  | 121 => ⟨S1x1x1x1024, .f32⟩
  | 122 => ⟨S4x128x32x1024, .f32⟩
  | 123 => ⟨S4x128x32x1024, .f32⟩
  | 124 => ⟨S_, .f32⟩
  | 125 => ⟨S4x128x32x1024, .f32⟩
  | 126 => ⟨S4x128x32x1024, .f32⟩
  | 127 => ⟨S_, .f32⟩
  | _ => ⟨S4x128x32x256, .f32⟩

abbrev hbmTy0_7 (i : Nat) : BufTy := match i % 128 with
  | 0 => ⟨S_, .f32⟩
  | 1 => ⟨S4x128x32x1024, .f32⟩
  | 2 => ⟨S4x128x32x1024, .f32⟩
  | 3 => ⟨S4x128x32x1024, .f32⟩
  | 4 => ⟨S_, .f32⟩
  | 5 => ⟨S4x128x32x1024, .f32⟩
  | 6 => ⟨S4x128x32x1024, .f32⟩
  | 7 => ⟨S4x128x32x1024, .f32⟩
  | 8 => ⟨S1x1024x256, .f32⟩
  | 9 => ⟨S1024x256, .f32⟩
  | 10 => ⟨S4x128x32x256, .f32⟩
  | 11 => ⟨S4x128x32x256, .f32⟩
  | 12 => ⟨S1x256, .f32⟩
  | 13 => ⟨S256, .f32⟩
  | 14 => ⟨S1x1x1x256, .f32⟩
  | 15 => ⟨S4x128x32x256, .f32⟩
  | 16 => ⟨S4x128x32x256, .f32⟩
  | 17 => ⟨S1x256, .f32⟩
  | 18 => ⟨S256, .f32⟩
  | 19 => ⟨S1x256, .f32⟩
  | 20 => ⟨S256, .f32⟩
  | 21 => ⟨S_, .f32⟩
  | 22 => ⟨S4x128x32, .f32⟩
  | 23 => ⟨S4x128x32x1, .f32⟩
  | 24 => ⟨S_, .f32⟩
  | 25 => ⟨S4x128x32x1, .f32⟩
  | 26 => ⟨S4x128x32x1, .f32⟩
  | 27 => ⟨S4x128x32x256, .f32⟩
  | 28 => ⟨S4x128x32x256, .f32⟩
  | 29 => ⟨S4x128x32x256, .f32⟩
  | 30 => ⟨S4x128x32x256, .f32⟩
  | 31 => ⟨S4x128x32x256, .f32⟩
  | 32 => ⟨S_, .f32⟩
  | 33 => ⟨S4x128x32, .f32⟩
  | 34 => ⟨S4x128x32x1, .f32⟩
  | 35 => ⟨S_, .f32⟩
  | 36 => ⟨S4x128x32x1, .f32⟩
  | 37 => ⟨S4x128x32x1, .f32⟩
  | 38 => ⟨S4x128x32x256, .f32⟩
  | 39 => ⟨S4x128x32x256, .f32⟩
  | 40 => ⟨S_, .f32⟩
  | 41 => ⟨S4x128x32x1, .f32⟩
  | 42 => ⟨S4x128x32x1, .f32⟩
  | 43 => ⟨S4x128x32x1, .f32⟩
  | 44 => ⟨S4x128x32x256, .f32⟩
  | 45 => ⟨S4x128x32x256, .f32⟩
  | 46 => ⟨S1x1x1x256, .f32⟩
  | 47 => ⟨S4x128x32x256, .f32⟩
  | 48 => ⟨S4x128x32x256, .f32⟩
  | 49 => ⟨S1x1x1x256, .f32⟩
  | 50 => ⟨S4x128x32x256, .f32⟩
  | 51 => ⟨S4x128x32x256, .f32⟩
  | 52 => ⟨S_, .i32⟩
  | 53 => ⟨S_, .f32⟩
  | 54 => ⟨S4x130x32x256, .f32⟩
  | 55 => ⟨S4x128x32x256, .f32⟩
  | 56 => ⟨S1x1x256x256, .f32⟩
  | 57 => ⟨S256x256, .f32⟩
  | 58 => ⟨S4x128x32x256, .f32⟩
  | 59 => ⟨S4x128x32x256, .f32⟩
  | 60 => ⟨S1x1x256x256, .f32⟩
  | 61 => ⟨S256x256, .f32⟩
  | 62 => ⟨S4x128x32x256, .f32⟩
  | 63 => ⟨S4x128x32x256, .f32⟩
  | 64 => ⟨S4x128x32x256, .f32⟩
  | 65 => ⟨S1x1x256x256, .f32⟩
  | 66 => ⟨S256x256, .f32⟩
  | 67 => ⟨S4x128x32x256, .f32⟩
  | 68 => ⟨S4x128x32x256, .f32⟩
  | 69 => ⟨S1x256, .f32⟩
  | 70 => ⟨S256, .f32⟩
  | 71 => ⟨S1x1x1x256, .f32⟩
  | 72 => ⟨S4x128x32x256, .f32⟩
  | 73 => ⟨S4x128x32x256, .f32⟩
  | 74 => ⟨S_, .f32⟩
  | 75 => ⟨S4x128x32x256, .f32⟩
  | 76 => ⟨S4x128x32x256, .f32⟩
  | 77 => ⟨S_, .f32⟩
  | 78 => ⟨S_, .f32⟩
  | 79 => ⟨S4x128x32x256, .f32⟩
  | 80 => ⟨S4x128x32x256, .f32⟩
  | 81 => ⟨S4x128x32x256, .f32⟩
  | 82 => ⟨S_, .f32⟩
  | 83 => ⟨S4x128x32x256, .f32⟩
  | 84 => ⟨S4x128x32x256, .f32⟩
  | 85 => ⟨S4x128x32x256, .f32⟩
  | 86 => ⟨S4x128x32x256, .f32⟩
  | 87 => ⟨S1x256, .f32⟩
  | 88 => ⟨S256, .f32⟩
  | 89 => ⟨S1x256, .f32⟩
  | 90 => ⟨S256, .f32⟩
  | 91 => ⟨S_, .f32⟩
  | 92 => ⟨S4x128x32, .f32⟩
  | 93 => ⟨S4x128x32x1, .f32⟩
  | 94 => ⟨S_, .f32⟩
  | 95 => ⟨S4x128x32x1, .f32⟩
  | 96 => ⟨S4x128x32x1, .f32⟩
  | 97 => ⟨S4x128x32x256, .f32⟩
  | 98 => ⟨S4x128x32x256, .f32⟩
  | 99 => ⟨S4x128x32x256, .f32⟩
  | 100 => ⟨S4x128x32x256, .f32⟩
  | 101 => ⟨S4x128x32x256, .f32⟩
  | 102 => ⟨S_, .f32⟩
  | 103 => ⟨S4x128x32, .f32⟩
  | 104 => ⟨S4x128x32x1, .f32⟩
  | 105 => ⟨S_, .f32⟩
  | 106 => ⟨S4x128x32x1, .f32⟩
  | 107 => ⟨S4x128x32x1, .f32⟩
  | 108 => ⟨S4x128x32x256, .f32⟩
  | 109 => ⟨S4x128x32x256, .f32⟩
  | 110 => ⟨S_, .f32⟩
  | 111 => ⟨S4x128x32x1, .f32⟩
  | 112 => ⟨S4x128x32x1, .f32⟩
  | 113 => ⟨S4x128x32x1, .f32⟩
  | 114 => ⟨S4x128x32x256, .f32⟩
  | 115 => ⟨S4x128x32x256, .f32⟩
  | 116 => ⟨S1x1x1x256, .f32⟩
  | 117 => ⟨S4x128x32x256, .f32⟩
  | 118 => ⟨S4x128x32x256, .f32⟩
  | 119 => ⟨S1x1x1x256, .f32⟩
  | 120 => ⟨S4x128x32x256, .f32⟩
  | 121 => ⟨S4x128x32x256, .f32⟩
  | 122 => ⟨S1x256x768, .f32⟩
  | 123 => ⟨S256x768, .f32⟩
  | 124 => ⟨S4x128x32x768, .f32⟩
  | 125 => ⟨S1x768, .f32⟩
  | 126 => ⟨S768, .f32⟩
  | 127 => ⟨S1x1x1x768, .f32⟩
  | _ => ⟨S4x128x32x256, .f32⟩

abbrev hbmTy0_8 (i : Nat) : BufTy := match i % 128 with
  | 0 => ⟨S4x128x32x768, .f32⟩
  | 1 => ⟨S4x128x32x768, .f32⟩
  | 2 => ⟨S4x128x32x256, .f32⟩
  | 3 => ⟨S4x128x32x256, .f32⟩
  | 4 => ⟨S4x128x32x256, .f32⟩
  | 5 => ⟨S4x128x32x8x32, .f32⟩
  | 6 => ⟨S4x128x32x8x32, .f32⟩
  | 7 => ⟨S4x128x32x8x32, .f32⟩
  | 8 => ⟨S4x128x8x32x32, .f32⟩
  | 9 => ⟨S_, .f32⟩
  | 10 => ⟨S4x128x8x32x32, .f32⟩
  | 11 => ⟨S4x128x8x32x32, .f32⟩
  | 12 => ⟨S1x1x1x32x32, .i1⟩
  | 13 => ⟨S_, .f32⟩
  | 14 => ⟨S_, .f32⟩
  | 15 => ⟨S4x128x8x32x32, .i1⟩
  | 16 => ⟨S4x128x8x32x32, .f32⟩
  | 17 => ⟨S4x128x8x32x32, .f32⟩
  | 18 => ⟨S_, .f32⟩
  | 19 => ⟨S4x128x8x32, .f32⟩
  | 20 => ⟨S_, .f32⟩
  | 21 => ⟨S4x128x8x32, .f32⟩
  | 22 => ⟨S4x128x8x32, .f32⟩
  | 23 => ⟨S4x128x8x32x1, .f32⟩
  | 24 => ⟨S4x128x8x32x32, .f32⟩
  | 25 => ⟨S4x128x8x32x32, .f32⟩
  | 26 => ⟨S4x128x8x32x32, .f32⟩
  | 27 => ⟨S_, .f32⟩
  | 28 => ⟨S4x128x8x32, .f32⟩
  | 29 => ⟨S4x128x8x32x1, .f32⟩
  | 30 => ⟨S4x128x8x32x32, .f32⟩
  | 31 => ⟨S4x128x8x32x32, .f32⟩
  | 32 => ⟨S4x128x8x32x32, .f32⟩
  | 33 => ⟨S4x128x32x8x32, .f32⟩
  | 34 => ⟨S4x128x32x256, .f32⟩
  | 35 => ⟨S1x256x256, .f32⟩
  | 36 => ⟨S256x256, .f32⟩
  | 37 => ⟨S4x128x32x256, .f32⟩
  | 38 => ⟨S4x128x32x256, .f32⟩
  | 39 => ⟨S1x256, .f32⟩
  | 40 => ⟨S256, .f32⟩
  | 41 => ⟨S1x1x1x256, .f32⟩
  | 42 => ⟨S4x128x32x256, .f32⟩
  | 43 => ⟨S4x128x32x256, .f32⟩
  | 44 => ⟨S1x256, .f32⟩
  | 45 => ⟨S256, .f32⟩
  | 46 => ⟨S1x256, .f32⟩
  | 47 => ⟨S256, .f32⟩
  | 48 => ⟨S_, .f32⟩
  | 49 => ⟨S4x128x32, .f32⟩
  | 50 => ⟨S4x128x32x1, .f32⟩
  | 51 => ⟨S_, .f32⟩
  | 52 => ⟨S4x128x32x1, .f32⟩
  | 53 => ⟨S4x128x32x1, .f32⟩
  | 54 => ⟨S4x128x32x256, .f32⟩
  | 55 => ⟨S4x128x32x256, .f32⟩
  | 56 => ⟨S4x128x32x256, .f32⟩
  | 57 => ⟨S4x128x32x256, .f32⟩
  | 58 => ⟨S4x128x32x256, .f32⟩
  | 59 => ⟨S_, .f32⟩
  | 60 => ⟨S4x128x32, .f32⟩
  | 61 => ⟨S4x128x32x1, .f32⟩
  | 62 => ⟨S_, .f32⟩
  | 63 => ⟨S4x128x32x1, .f32⟩
  | 64 => ⟨S4x128x32x1, .f32⟩
  | 65 => ⟨S4x128x32x256, .f32⟩
  | 66 => ⟨S4x128x32x256, .f32⟩
  | 67 => ⟨S_, .f32⟩
  | 68 => ⟨S4x128x32x1, .f32⟩
  | 69 => ⟨S4x128x32x1, .f32⟩
  | 70 => ⟨S4x128x32x1, .f32⟩
  | 71 => ⟨S4x128x32x256, .f32⟩
  | 72 => ⟨S4x128x32x256, .f32⟩
  | 73 => ⟨S1x1x1x256, .f32⟩
  | 74 => ⟨S4x128x32x256, .f32⟩
  | 75 => ⟨S4x128x32x256, .f32⟩
  | 76 => ⟨S1x1x1x256, .f32⟩
  | 77 => ⟨S4x128x32x256, .f32⟩
  | 78 => ⟨S4x128x32x256, .f32⟩
  | 79 => ⟨S1x256x1024, .f32⟩
  | 80 => ⟨S256x1024, .f32⟩
  | 81 => ⟨S4x128x32x1024, .f32⟩
  | 82 => ⟨S1x1024, .f32⟩
  | 83 => ⟨S1024, .f32⟩
  | 84 => ⟨S1x1x1x1024, .f32⟩
  | 85 => ⟨S4x128x32x1024, .f32⟩
  | 86 => ⟨S4x128x32x1024, .f32⟩
  | 87 => ⟨S_, .f32⟩
  | 88 => ⟨S4x128x32x1024, .f32⟩
  | 89 => ⟨S4x128x32x1024, .f32⟩
  | 90 => ⟨S_, .f32⟩
  | 91 => ⟨S_, .f32⟩
  | 92 => ⟨S4x128x32x1024, .f32⟩
  | 93 => ⟨S4x128x32x1024, .f32⟩
  | 94 => ⟨S4x128x32x1024, .f32⟩
  | 95 => ⟨S_, .f32⟩
  | 96 => ⟨S4x128x32x1024, .f32⟩
  | 97 => ⟨S4x128x32x1024, .f32⟩
  | 98 => ⟨S4x128x32x1024, .f32⟩
  | 99 => ⟨S1x1024x256, .f32⟩
  | 100 => ⟨S1024x256, .f32⟩
  | 101 => ⟨S4x128x32x256, .f32⟩
  | 102 => ⟨S4x128x32x256, .f32⟩
  | 103 => ⟨S1x256, .f32⟩
  | 104 => ⟨S256, .f32⟩
  | 105 => ⟨S1x1x1x256, .f32⟩
  | 106 => ⟨S4x128x32x256, .f32⟩
  | 107 => ⟨S4x128x32x256, .f32⟩
  | 108 => ⟨S1x256, .f32⟩
  | 109 => ⟨S256, .f32⟩
  | 110 => ⟨S1x256, .f32⟩
  | 111 => ⟨S256, .f32⟩
  | 112 => ⟨S_, .f32⟩
  | 113 => ⟨S4x128x32, .f32⟩
  | 114 => ⟨S4x128x32x1, .f32⟩
  | 115 => ⟨S_, .f32⟩
  | 116 => ⟨S4x128x32x1, .f32⟩
  | 117 => ⟨S4x128x32x1, .f32⟩
  | 118 => ⟨S4x128x32x256, .f32⟩
  | 119 => ⟨S4x128x32x256, .f32⟩
  | 120 => ⟨S4x128x32x256, .f32⟩
  | 121 => ⟨S4x128x32x256, .f32⟩
  | 122 => ⟨S4x128x32x256, .f32⟩
  | 123 => ⟨S_, .f32⟩
  | 124 => ⟨S4x128x32, .f32⟩
  | 125 => ⟨S4x128x32x1, .f32⟩
  | 126 => ⟨S_, .f32⟩
  | 127 => ⟨S4x128x32x1, .f32⟩
  | _ => ⟨S4x128x32x256, .f32⟩

abbrev hbmTy0_9 (i : Nat) : BufTy := match i % 128 with
  | 0 => ⟨S4x128x32x1, .f32⟩
  | 1 => ⟨S4x128x32x256, .f32⟩
  | 2 => ⟨S4x128x32x256, .f32⟩
  | 3 => ⟨S_, .f32⟩
  | 4 => ⟨S4x128x32x1, .f32⟩
  | 5 => ⟨S4x128x32x1, .f32⟩
  | 6 => ⟨S4x128x32x1, .f32⟩
  | 7 => ⟨S4x128x32x256, .f32⟩
  | 8 => ⟨S4x128x32x256, .f32⟩
  | 9 => ⟨S1x1x1x256, .f32⟩
  | 10 => ⟨S4x128x32x256, .f32⟩
  | 11 => ⟨S4x128x32x256, .f32⟩
  | 12 => ⟨S1x1x1x256, .f32⟩
  | 13 => ⟨S4x128x32x256, .f32⟩
  | 14 => ⟨S4x128x32x256, .f32⟩
  | 15 => ⟨S_, .i32⟩
  | 16 => ⟨S_, .f32⟩
  | 17 => ⟨S4x130x32x256, .f32⟩
  | 18 => ⟨S4x128x32x256, .f32⟩
  | 19 => ⟨S1x1x256x256, .f32⟩
  | 20 => ⟨S256x256, .f32⟩
  | 21 => ⟨S4x128x32x256, .f32⟩
  | 22 => ⟨S4x128x32x256, .f32⟩
  | 23 => ⟨S1x1x256x256, .f32⟩
  | 24 => ⟨S256x256, .f32⟩
  | 25 => ⟨S4x128x32x256, .f32⟩
  | 26 => ⟨S4x128x32x256, .f32⟩
  | 27 => ⟨S4x128x32x256, .f32⟩
  | 28 => ⟨S1x1x256x256, .f32⟩
  | 29 => ⟨S256x256, .f32⟩
  | 30 => ⟨S4x128x32x256, .f32⟩
  | 31 => ⟨S4x128x32x256, .f32⟩
  | 32 => ⟨S1x256, .f32⟩
  | 33 => ⟨S256, .f32⟩
  | 34 => ⟨S1x1x1x256, .f32⟩
  | 35 => ⟨S4x128x32x256, .f32⟩
  | 36 => ⟨S4x128x32x256, .f32⟩
  | 37 => ⟨S_, .f32⟩
  | 38 => ⟨S4x128x32x256, .f32⟩
  | 39 => ⟨S4x128x32x256, .f32⟩
  | 40 => ⟨S_, .f32⟩
  | 41 => ⟨S_, .f32⟩
  | 42 => ⟨S4x128x32x256, .f32⟩
  | 43 => ⟨S4x128x32x256, .f32⟩
  | 44 => ⟨S4x128x32x256, .f32⟩
  | 45 => ⟨S_, .f32⟩
  | 46 => ⟨S4x128x32x256, .f32⟩
  | 47 => ⟨S4x128x32x256, .f32⟩
  | 48 => ⟨S4x128x32x256, .f32⟩
  | 49 => ⟨S4x128x32x256, .f32⟩
  | 50 => ⟨S1x256, .f32⟩
  | 51 => ⟨S256, .f32⟩
  | 52 => ⟨S1x256, .f32⟩
  | 53 => ⟨S256, .f32⟩
  | 54 => ⟨S_, .f32⟩
  | 55 => ⟨S4x128x32, .f32⟩
  | 56 => ⟨S4x128x32x1, .f32⟩
  | 57 => ⟨S_, .f32⟩
  | 58 => ⟨S4x128x32x1, .f32⟩
  | 59 => ⟨S4x128x32x1, .f32⟩
  | 60 => ⟨S4x128x32x256, .f32⟩
  | 61 => ⟨S4x128x32x256, .f32⟩
  | 62 => ⟨S4x128x32x256, .f32⟩
  | 63 => ⟨S4x128x32x256, .f32⟩
  | 64 => ⟨S4x128x32x256, .f32⟩
  | 65 => ⟨S_, .f32⟩
  | 66 => ⟨S4x128x32, .f32⟩
  | 67 => ⟨S4x128x32x1, .f32⟩
  | 68 => ⟨S_, .f32⟩
  | 69 => ⟨S4x128x32x1, .f32⟩
  | 70 => ⟨S4x128x32x1, .f32⟩
  | 71 => ⟨S4x128x32x256, .f32⟩
  | 72 => ⟨S4x128x32x256, .f32⟩
  | 73 => ⟨S_, .f32⟩
  | 74 => ⟨S4x128x32x1, .f32⟩
  | 75 => ⟨S4x128x32x1, .f32⟩
  | 76 => ⟨S4x128x32x1, .f32⟩
  | 77 => ⟨S4x128x32x256, .f32⟩
  | 78 => ⟨S4x128x32x256, .f32⟩
  | 79 => ⟨S1x1x1x256, .f32⟩
  | 80 => ⟨S4x128x32x256, .f32⟩
  | 81 => ⟨S4x128x32x256, .f32⟩
  | 82 => ⟨S1x1x1x256, .f32⟩
  | 83 => ⟨S4x128x32x256, .f32⟩
  | 84 => ⟨S4x128x32x256, .f32⟩
  | 85 => ⟨S1x256x768, .f32⟩
  | 86 => ⟨S256x768, .f32⟩
  | 87 => ⟨S4x128x32x768, .f32⟩
  | 88 => ⟨S1x768, .f32⟩
  | 89 => ⟨S768, .f32⟩
  | 90 => ⟨S1x1x1x768, .f32⟩
  | 91 => ⟨S4x128x32x768, .f32⟩
  | 92 => ⟨S4x128x32x768, .f32⟩
  | 93 => ⟨S4x128x32x256, .f32⟩
  | 94 => ⟨S4x128x32x256, .f32⟩
  | 95 => ⟨S4x128x32x256, .f32⟩
  | 96 => ⟨S4x128x32x8x32, .f32⟩
  | 97 => ⟨S4x128x32x8x32, .f32⟩
  | 98 => ⟨S4x128x32x8x32, .f32⟩
  | 99 => ⟨S4x128x8x32x32, .f32⟩
  | 100 => ⟨S_, .f32⟩
  | 101 => ⟨S4x128x8x32x32, .f32⟩
  | 102 => ⟨S4x128x8x32x32, .f32⟩
  | 103 => ⟨S1x1x1x32x32, .i1⟩
  | 104 => ⟨S_, .f32⟩
  | 105 => ⟨S_, .f32⟩
  | 106 => ⟨S4x128x8x32x32, .i1⟩
  | 107 => ⟨S4x128x8x32x32, .f32⟩
  | 108 => ⟨S4x128x8x32x32, .f32⟩
  | 109 => ⟨S_, .f32⟩
  | 110 => ⟨S4x128x8x32, .f32⟩
  | 111 => ⟨S_, .f32⟩
  | 112 => ⟨S4x128x8x32, .f32⟩
  | 113 => ⟨S4x128x8x32, .f32⟩
  | 114 => ⟨S4x128x8x32x1, .f32⟩
  | 115 => ⟨S4x128x8x32x32, .f32⟩
  | 116 => ⟨S4x128x8x32x32, .f32⟩
  | 117 => ⟨S4x128x8x32x32, .f32⟩
  | 118 => ⟨S_, .f32⟩
  | 119 => ⟨S4x128x8x32, .f32⟩
  | 120 => ⟨S4x128x8x32x1, .f32⟩
  | 121 => ⟨S4x128x8x32x32, .f32⟩
  | 122 => ⟨S4x128x8x32x32, .f32⟩
  | 123 => ⟨S4x128x8x32x32, .f32⟩
  | 124 => ⟨S4x128x32x8x32, .f32⟩
  | 125 => ⟨S4x128x32x256, .f32⟩
  | 126 => ⟨S1x256x256, .f32⟩
  | 127 => ⟨S256x256, .f32⟩
  | _ => ⟨S4x128x32x256, .f32⟩

abbrev hbmTy0_10 (i : Nat) : BufTy := match i % 128 with
  | 0 => ⟨S4x128x32x256, .f32⟩
  | 1 => ⟨S4x128x32x256, .f32⟩
  | 2 => ⟨S1x256, .f32⟩
  | 3 => ⟨S256, .f32⟩
  | 4 => ⟨S1x1x1x256, .f32⟩
  | 5 => ⟨S4x128x32x256, .f32⟩
  | 6 => ⟨S4x128x32x256, .f32⟩
  | 7 => ⟨S1x256, .f32⟩
  | 8 => ⟨S256, .f32⟩
  | 9 => ⟨S1x256, .f32⟩
  | 10 => ⟨S256, .f32⟩
  | 11 => ⟨S_, .f32⟩
  | 12 => ⟨S4x128x32, .f32⟩
  | 13 => ⟨S4x128x32x1, .f32⟩
  | 14 => ⟨S_, .f32⟩
  | 15 => ⟨S4x128x32x1, .f32⟩
  | 16 => ⟨S4x128x32x1, .f32⟩
  | 17 => ⟨S4x128x32x256, .f32⟩
  | 18 => ⟨S4x128x32x256, .f32⟩
  | 19 => ⟨S4x128x32x256, .f32⟩
  | 20 => ⟨S4x128x32x256, .f32⟩
  | 21 => ⟨S4x128x32x256, .f32⟩
  | 22 => ⟨S_, .f32⟩
  | 23 => ⟨S4x128x32, .f32⟩
  | 24 => ⟨S4x128x32x1, .f32⟩
  | 25 => ⟨S_, .f32⟩
  | 26 => ⟨S4x128x32x1, .f32⟩
  | 27 => ⟨S4x128x32x1, .f32⟩
  | 28 => ⟨S4x128x32x256, .f32⟩
  | 29 => ⟨S4x128x32x256, .f32⟩
  | 30 => ⟨S_, .f32⟩
  | 31 => ⟨S4x128x32x1, .f32⟩
  | 32 => ⟨S4x128x32x1, .f32⟩
  | 33 => ⟨S4x128x32x1, .f32⟩
  | 34 => ⟨S4x128x32x256, .f32⟩
  | 35 => ⟨S4x128x32x256, .f32⟩
  | 36 => ⟨S1x1x1x256, .f32⟩
  | 37 => ⟨S4x128x32x256, .f32⟩
  | 38 => ⟨S4x128x32x256, .f32⟩
  | 39 => ⟨S1x1x1x256, .f32⟩
  | 40 => ⟨S4x128x32x256, .f32⟩
  | 41 => ⟨S4x128x32x256, .f32⟩
  | 42 => ⟨S1x256x1024, .f32⟩
  | 43 => ⟨S256x1024, .f32⟩
  | 44 => ⟨S4x128x32x1024, .f32⟩
  | 45 => ⟨S1x1024, .f32⟩
  | 46 => ⟨S1024, .f32⟩
  | 47 => ⟨S1x1x1x1024, .f32⟩
  | 48 => ⟨S4x128x32x1024, .f32⟩
  | 49 => ⟨S4x128x32x1024, .f32⟩
  | 50 => ⟨S_, .f32⟩
  | 51 => ⟨S4x128x32x1024, .f32⟩
  | 52 => ⟨S4x128x32x1024, .f32⟩
  | 53 => ⟨S_, .f32⟩
  | 54 => ⟨S_, .f32⟩
  | 55 => ⟨S4x128x32x1024, .f32⟩
  | 56 => ⟨S4x128x32x1024, .f32⟩
  | 57 => ⟨S4x128x32x1024, .f32⟩
  | 58 => ⟨S_, .f32⟩
  | 59 => ⟨S4x128x32x1024, .f32⟩
  | 60 => ⟨S4x128x32x1024, .f32⟩
  | 61 => ⟨S4x128x32x1024, .f32⟩
  | 62 => ⟨S1x1024x256, .f32⟩
  | 63 => ⟨S1024x256, .f32⟩
  | 64 => ⟨S4x128x32x256, .f32⟩
  | 65 => ⟨S4x128x32x256, .f32⟩
  | 66 => ⟨S1x256, .f32⟩
  | 67 => ⟨S256, .f32⟩
  | 68 => ⟨S1x1x1x256, .f32⟩
  | 69 => ⟨S4x128x32x256, .f32⟩
  | 70 => ⟨S4x128x32x256, .f32⟩
  | 71 => ⟨S1x256, .f32⟩
  | 72 => ⟨S256, .f32⟩
  | 73 => ⟨S1x256, .f32⟩
  | 74 => ⟨S256, .f32⟩
  | 75 => ⟨S_, .f32⟩
  | 76 => ⟨S4x128x32, .f32⟩
  | 77 => ⟨S4x128x32x1, .f32⟩
  | 78 => ⟨S_, .f32⟩
  | 79 => ⟨S4x128x32x1, .f32⟩
  | 80 => ⟨S4x128x32x1, .f32⟩
  | 81 => ⟨S4x128x32x256, .f32⟩
  | 82 => ⟨S4x128x32x256, .f32⟩
  | 83 => ⟨S4x128x32x256, .f32⟩
  | 84 => ⟨S4x128x32x256, .f32⟩
  | 85 => ⟨S4x128x32x256, .f32⟩
  | 86 => ⟨S_, .f32⟩
  | 87 => ⟨S4x128x32, .f32⟩
  | 88 => ⟨S4x128x32x1, .f32⟩
  | 89 => ⟨S_, .f32⟩
  | 90 => ⟨S4x128x32x1, .f32⟩
  | 91 => ⟨S4x128x32x1, .f32⟩
  | 92 => ⟨S4x128x32x256, .f32⟩
  | 93 => ⟨S4x128x32x256, .f32⟩
  | 94 => ⟨S_, .f32⟩
  | 95 => ⟨S4x128x32x1, .f32⟩
  | 96 => ⟨S4x128x32x1, .f32⟩
  | 97 => ⟨S4x128x32x1, .f32⟩
  | 98 => ⟨S4x128x32x256, .f32⟩
  | 99 => ⟨S4x128x32x256, .f32⟩
  | 100 => ⟨S1x1x1x256, .f32⟩
  | 101 => ⟨S4x128x32x256, .f32⟩
  | 102 => ⟨S4x128x32x256, .f32⟩
  | 103 => ⟨S1x1x1x256, .f32⟩
  | 104 => ⟨S4x128x32x256, .f32⟩
  | 105 => ⟨S4x128x32x256, .f32⟩
  | 106 => ⟨S_, .i32⟩
  | 107 => ⟨S_, .f32⟩
  | 108 => ⟨S4x130x32x256, .f32⟩
  | 109 => ⟨S4x128x32x256, .f32⟩
  | 110 => ⟨S1x1x256x256, .f32⟩
  | 111 => ⟨S256x256, .f32⟩
  | 112 => ⟨S4x128x32x256, .f32⟩
  | 113 => ⟨S4x128x32x256, .f32⟩
  | 114 => ⟨S1x1x256x256, .f32⟩
  | 115 => ⟨S256x256, .f32⟩
  | 116 => ⟨S4x128x32x256, .f32⟩
  | 117 => ⟨S4x128x32x256, .f32⟩
  | 118 => ⟨S4x128x32x256, .f32⟩
  | 119 => ⟨S1x1x256x256, .f32⟩
  | 120 => ⟨S256x256, .f32⟩
  | 121 => ⟨S4x128x32x256, .f32⟩
  | 122 => ⟨S4x128x32x256, .f32⟩
  | 123 => ⟨S1x256, .f32⟩
  | 124 => ⟨S256, .f32⟩
  | 125 => ⟨S1x1x1x256, .f32⟩
  | 126 => ⟨S4x128x32x256, .f32⟩
  | 127 => ⟨S4x128x32x256, .f32⟩
  | _ => ⟨S4x128x32x256, .f32⟩

abbrev hbmTy0_11 (i : Nat) : BufTy := match i % 128 with
  | 0 => ⟨S_, .f32⟩
  | 1 => ⟨S4x128x32x256, .f32⟩
  | 2 => ⟨S4x128x32x256, .f32⟩
  | 3 => ⟨S_, .f32⟩
  | 4 => ⟨S_, .f32⟩
  | 5 => ⟨S4x128x32x256, .f32⟩
  | 6 => ⟨S4x128x32x256, .f32⟩
  | 7 => ⟨S4x128x32x256, .f32⟩
  | 8 => ⟨S_, .f32⟩
  | 9 => ⟨S4x128x32x256, .f32⟩
  | 10 => ⟨S4x128x32x256, .f32⟩
  | 11 => ⟨S4x128x32x256, .f32⟩
  | 12 => ⟨S4x128x32x256, .f32⟩
  | 13 => ⟨S4x128x32x256, .f32⟩
  | 14 => ⟨S1x1x1x256, .f32⟩
  | 15 => ⟨S4x128x32x256, .f32⟩
  | 16 => ⟨S4x128x32x256, .f32⟩
  | 17 => ⟨S4x4096x256, .f32⟩
  | _ => ⟨S4x128x32x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S4x128x32x256, .f32⟩

abbrev bufTy : (tb : Table) → Fin (tcTables nBuf tb) → BufTy
  | .hbm, ⟨i, _⟩ => hbmTy i
  | _, _ => ⟨S4x128x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_1 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_3 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_4 : Ref sig .tc := ⟨.hbm, 80, rfl⟩
abbrev main_v45 : Ref sig .tc := ⟨.hbm, 81, rfl⟩
abbrev main_v46 : Ref sig .tc := ⟨.hbm, 82, rfl⟩
abbrev main_cst_5 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_8 : Ref sig .tc := ⟨.hbm, 111, rfl⟩
abbrev main_v72 : Ref sig .tc := ⟨.hbm, 112, rfl⟩
abbrev main_v73 : Ref sig .tc := ⟨.hbm, 113, rfl⟩
abbrev main_cst_9 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_10 : Ref sig .tc := ⟨.hbm, 122, rfl⟩
abbrev main_v81 : Ref sig .tc := ⟨.hbm, 123, rfl⟩
abbrev main_v82 : Ref sig .tc := ⟨.hbm, 124, rfl⟩
abbrev main_cst_11 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_12 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_13 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_14 : Ref sig .tc := ⟨.hbm, 161, rfl⟩
abbrev main_call0_v0 : Ref sig .tc := ⟨.hbm, 162, rfl⟩
abbrev main_call0_v1 : Ref sig .tc := ⟨.hbm, 163, rfl⟩
abbrev main_call0_v2 : Ref sig .tc := ⟨.hbm, 164, rfl⟩
abbrev main_v116 : Ref sig .tc := ⟨.hbm, 165, rfl⟩
abbrev main_cst_15 : Ref sig .tc := ⟨.hbm, 166, rfl⟩
abbrev main_v117 : Ref sig .tc := ⟨.hbm, 167, rfl⟩
abbrev main_cst_16 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_17 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_18 : Ref sig .tc := ⟨.hbm, 196, rfl⟩
abbrev main_v144 : Ref sig .tc := ⟨.hbm, 197, rfl⟩
abbrev main_v145 : Ref sig .tc := ⟨.hbm, 198, rfl⟩
abbrev main_cst_19 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_20 : Ref sig .tc := ⟨.hbm, 207, rfl⟩
abbrev main_v153 : Ref sig .tc := ⟨.hbm, 208, rfl⟩
abbrev main_v154 : Ref sig .tc := ⟨.hbm, 209, rfl⟩
abbrev main_cst_21 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_22 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_23 : Ref sig .tc := ⟨.hbm, 235, rfl⟩
abbrev main_v178 : Ref sig .tc := ⟨.hbm, 236, rfl⟩
abbrev main_v179 : Ref sig .tc := ⟨.hbm, 237, rfl⟩
abbrev main_cst_24 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_25 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_cst_26 : Ref sig .tc := ⟨.hbm, 260, rfl⟩
abbrev main_v200 : Ref sig .tc := ⟨.hbm, 261, rfl⟩
abbrev main_v201 : Ref sig .tc := ⟨.hbm, 262, rfl⟩
abbrev main_cst_27 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_28 : Ref sig .tc := ⟨.hbm, 271, rfl⟩
abbrev main_v209 : Ref sig .tc := ⟨.hbm, 272, rfl⟩
abbrev main_v210 : Ref sig .tc := ⟨.hbm, 273, rfl⟩
abbrev main_cst_29 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_30 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_c_31 : Ref sig .tc := ⟨.hbm, 291, rfl⟩
abbrev main_call1_v0 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_cst_32 : Ref sig .tc := ⟨.hbm, 313, rfl⟩
abbrev main_v246 : Ref sig .tc := ⟨.hbm, 314, rfl⟩
abbrev main_v247 : Ref sig .tc := ⟨.hbm, 315, rfl⟩
abbrev main_cst_33 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_cst_34 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_cst_35 : Ref sig .tc := ⟨.hbm, 330, rfl⟩
abbrev main_v260 : Ref sig .tc := ⟨.hbm, 331, rfl⟩
abbrev main_v261 : Ref sig .tc := ⟨.hbm, 332, rfl⟩
abbrev main_cst_36 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_v268 : Ref sig .tc := ⟨.hbm, 340, rfl⟩
abbrev main_cst_37 : Ref sig .tc := ⟨.hbm, 341, rfl⟩
abbrev main_v269 : Ref sig .tc := ⟨.hbm, 342, rfl⟩
abbrev main_v270 : Ref sig .tc := ⟨.hbm, 343, rfl⟩
abbrev main_cst_38 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_v274 : Ref sig .tc := ⟨.hbm, 348, rfl⟩
abbrev main_cst_39 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_cst_40 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_cst_41 : Ref sig .tc := ⟨.hbm, 380, rfl⟩
abbrev main_call2_v0 : Ref sig .tc := ⟨.hbm, 381, rfl⟩
abbrev main_call2_v1 : Ref sig .tc := ⟨.hbm, 382, rfl⟩
abbrev main_call2_v2 : Ref sig .tc := ⟨.hbm, 383, rfl⟩
abbrev main_v304 : Ref sig .tc := ⟨.hbm, 384, rfl⟩
abbrev main_cst_42 : Ref sig .tc := ⟨.hbm, 385, rfl⟩
abbrev main_v305 : Ref sig .tc := ⟨.hbm, 386, rfl⟩
abbrev main_cst_43 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_cst_44 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_cst_45 : Ref sig .tc := ⟨.hbm, 415, rfl⟩
abbrev main_v332 : Ref sig .tc := ⟨.hbm, 416, rfl⟩
abbrev main_v333 : Ref sig .tc := ⟨.hbm, 417, rfl⟩
abbrev main_cst_46 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_cst_47 : Ref sig .tc := ⟨.hbm, 426, rfl⟩
abbrev main_v341 : Ref sig .tc := ⟨.hbm, 427, rfl⟩
abbrev main_v342 : Ref sig .tc := ⟨.hbm, 428, rfl⟩
abbrev main_cst_48 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_v346 : Ref sig .tc := ⟨.hbm, 433, rfl⟩
abbrev main_cst_49 : Ref sig .tc := ⟨.hbm, 434, rfl⟩
abbrev main_v347 : Ref sig .tc := ⟨.hbm, 435, rfl⟩
abbrev main_v348 : Ref sig .tc := ⟨.hbm, 436, rfl⟩
abbrev main_v349 : Ref sig .tc := ⟨.hbm, 437, rfl⟩
abbrev main_v350 : Ref sig .tc := ⟨.hbm, 438, rfl⟩
abbrev main_v351 : Ref sig .tc := ⟨.hbm, 439, rfl⟩
abbrev main_v352 : Ref sig .tc := ⟨.hbm, 440, rfl⟩
abbrev main_v353 : Ref sig .tc := ⟨.hbm, 441, rfl⟩
abbrev main_v354 : Ref sig .tc := ⟨.hbm, 442, rfl⟩
abbrev main_v355 : Ref sig .tc := ⟨.hbm, 443, rfl⟩
abbrev main_v356 : Ref sig .tc := ⟨.hbm, 444, rfl⟩
abbrev main_v357 : Ref sig .tc := ⟨.hbm, 445, rfl⟩
abbrev main_v358 : Ref sig .tc := ⟨.hbm, 446, rfl⟩
abbrev main_v359 : Ref sig .tc := ⟨.hbm, 447, rfl⟩
abbrev main_v360 : Ref sig .tc := ⟨.hbm, 448, rfl⟩
abbrev main_v361 : Ref sig .tc := ⟨.hbm, 449, rfl⟩
abbrev main_v362 : Ref sig .tc := ⟨.hbm, 450, rfl⟩
abbrev main_v363 : Ref sig .tc := ⟨.hbm, 451, rfl⟩
abbrev main_v364 : Ref sig .tc := ⟨.hbm, 452, rfl⟩
abbrev main_v365 : Ref sig .tc := ⟨.hbm, 453, rfl⟩
abbrev main_cst_50 : Ref sig .tc := ⟨.hbm, 454, rfl⟩
abbrev main_v366 : Ref sig .tc := ⟨.hbm, 455, rfl⟩
abbrev main_v367 : Ref sig .tc := ⟨.hbm, 456, rfl⟩
abbrev main_cst_51 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_cst_52 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_v375 : Ref sig .tc := ⟨.hbm, 466, rfl⟩
abbrev main_v376 : Ref sig .tc := ⟨.hbm, 467, rfl⟩
abbrev main_v377 : Ref sig .tc := ⟨.hbm, 468, rfl⟩
abbrev main_v378 : Ref sig .tc := ⟨.hbm, 469, rfl⟩
abbrev main_v379 : Ref sig .tc := ⟨.hbm, 470, rfl⟩
abbrev main_v380 : Ref sig .tc := ⟨.hbm, 471, rfl⟩
abbrev main_v381 : Ref sig .tc := ⟨.hbm, 472, rfl⟩
abbrev main_v382 : Ref sig .tc := ⟨.hbm, 473, rfl⟩
abbrev main_v383 : Ref sig .tc := ⟨.hbm, 474, rfl⟩
abbrev main_v384 : Ref sig .tc := ⟨.hbm, 475, rfl⟩
abbrev main_v385 : Ref sig .tc := ⟨.hbm, 476, rfl⟩
abbrev main_v386 : Ref sig .tc := ⟨.hbm, 477, rfl⟩
abbrev main_v387 : Ref sig .tc := ⟨.hbm, 478, rfl⟩
abbrev main_cst_53 : Ref sig .tc := ⟨.hbm, 479, rfl⟩
abbrev main_v388 : Ref sig .tc := ⟨.hbm, 480, rfl⟩
abbrev main_v389 : Ref sig .tc := ⟨.hbm, 481, rfl⟩
abbrev main_cst_54 : Ref sig .tc := ⟨.hbm, 482, rfl⟩
abbrev main_v390 : Ref sig .tc := ⟨.hbm, 483, rfl⟩
abbrev main_v391 : Ref sig .tc := ⟨.hbm, 484, rfl⟩
abbrev main_v392 : Ref sig .tc := ⟨.hbm, 485, rfl⟩
abbrev main_v393 : Ref sig .tc := ⟨.hbm, 486, rfl⟩
abbrev main_v394 : Ref sig .tc := ⟨.hbm, 487, rfl⟩
abbrev main_v395 : Ref sig .tc := ⟨.hbm, 488, rfl⟩
abbrev main_v396 : Ref sig .tc := ⟨.hbm, 489, rfl⟩
abbrev main_cst_55 : Ref sig .tc := ⟨.hbm, 490, rfl⟩
abbrev main_v397 : Ref sig .tc := ⟨.hbm, 491, rfl⟩
abbrev main_v398 : Ref sig .tc := ⟨.hbm, 492, rfl⟩
abbrev main_cst_56 : Ref sig .tc := ⟨.hbm, 493, rfl⟩
abbrev main_v399 : Ref sig .tc := ⟨.hbm, 494, rfl⟩
abbrev main_v400 : Ref sig .tc := ⟨.hbm, 495, rfl⟩
abbrev main_v401 : Ref sig .tc := ⟨.hbm, 496, rfl⟩
abbrev main_v402 : Ref sig .tc := ⟨.hbm, 497, rfl⟩
abbrev main_cst_57 : Ref sig .tc := ⟨.hbm, 498, rfl⟩
abbrev main_v403 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_v408 : Ref sig .tc := ⟨.hbm, 504, rfl⟩
abbrev main_v409 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_c_58 : Ref sig .tc := ⟨.hbm, 510, rfl⟩
abbrev main_call3_v0 : Ref sig .tc := ⟨.hbm, 511, rfl⟩
abbrev main_v414 : Ref sig .tc := ⟨.hbm, 512, rfl⟩
abbrev main_v415 : Ref sig .tc := ⟨.hbm, 513, rfl⟩
abbrev main_v416 : Ref sig .tc := ⟨.hbm, 514, rfl⟩
abbrev main_v417 : Ref sig .tc := ⟨.hbm, 515, rfl⟩
abbrev main_v418 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_v426 : Ref sig .tc := ⟨.hbm, 524, rfl⟩
abbrev main_v427 : Ref sig .tc := ⟨.hbm, 525, rfl⟩
abbrev main_v428 : Ref sig .tc := ⟨.hbm, 526, rfl⟩
abbrev main_v429 : Ref sig .tc := ⟨.hbm, 527, rfl⟩
abbrev main_v430 : Ref sig .tc := ⟨.hbm, 528, rfl⟩
abbrev main_v431 : Ref sig .tc := ⟨.hbm, 529, rfl⟩
abbrev main_v432 : Ref sig .tc := ⟨.hbm, 530, rfl⟩
abbrev main_v433 : Ref sig .tc := ⟨.hbm, 531, rfl⟩
abbrev main_cst_59 : Ref sig .tc := ⟨.hbm, 532, rfl⟩
abbrev main_v434 : Ref sig .tc := ⟨.hbm, 533, rfl⟩
abbrev main_v435 : Ref sig .tc := ⟨.hbm, 534, rfl⟩
abbrev main_cst_60 : Ref sig .tc := ⟨.hbm, 535, rfl⟩
abbrev main_v436 : Ref sig .tc := ⟨.hbm, 536, rfl⟩
abbrev main_v437 : Ref sig .tc := ⟨.hbm, 537, rfl⟩
abbrev main_v438 : Ref sig .tc := ⟨.hbm, 538, rfl⟩
abbrev main_v439 : Ref sig .tc := ⟨.hbm, 539, rfl⟩
abbrev main_cst_61 : Ref sig .tc := ⟨.hbm, 540, rfl⟩
abbrev main_v440 : Ref sig .tc := ⟨.hbm, 541, rfl⟩
abbrev main_v441 : Ref sig .tc := ⟨.hbm, 542, rfl⟩
abbrev main_v442 : Ref sig .tc := ⟨.hbm, 543, rfl⟩
abbrev main_v443 : Ref sig .tc := ⟨.hbm, 544, rfl⟩
abbrev main_v444 : Ref sig .tc := ⟨.hbm, 545, rfl⟩
abbrev main_v445 : Ref sig .tc := ⟨.hbm, 546, rfl⟩
abbrev main_v446 : Ref sig .tc := ⟨.hbm, 547, rfl⟩
abbrev main_v447 : Ref sig .tc := ⟨.hbm, 548, rfl⟩
abbrev main_cst_62 : Ref sig .tc := ⟨.hbm, 549, rfl⟩
abbrev main_v448 : Ref sig .tc := ⟨.hbm, 550, rfl⟩
abbrev main_v449 : Ref sig .tc := ⟨.hbm, 551, rfl⟩
abbrev main_cst_63 : Ref sig .tc := ⟨.hbm, 552, rfl⟩
abbrev main_v450 : Ref sig .tc := ⟨.hbm, 553, rfl⟩
abbrev main_v451 : Ref sig .tc := ⟨.hbm, 554, rfl⟩
abbrev main_v452 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_v456 : Ref sig .tc := ⟨.hbm, 559, rfl⟩
abbrev main_cst_64 : Ref sig .tc := ⟨.hbm, 560, rfl⟩
abbrev main_v457 : Ref sig .tc := ⟨.hbm, 561, rfl⟩
abbrev main_v458 : Ref sig .tc := ⟨.hbm, 562, rfl⟩
abbrev main_cst_65 : Ref sig .tc := ⟨.hbm, 563, rfl⟩
abbrev main_v459 : Ref sig .tc := ⟨.hbm, 564, rfl⟩
abbrev main_v460 : Ref sig .tc := ⟨.hbm, 565, rfl⟩
abbrev main_v461 : Ref sig .tc := ⟨.hbm, 566, rfl⟩
abbrev main_v462 : Ref sig .tc := ⟨.hbm, 567, rfl⟩
abbrev main_cst_66 : Ref sig .tc := ⟨.hbm, 568, rfl⟩
abbrev main_v463 : Ref sig .tc := ⟨.hbm, 569, rfl⟩
abbrev main_v464 : Ref sig .tc := ⟨.hbm, 570, rfl⟩
abbrev main_v465 : Ref sig .tc := ⟨.hbm, 571, rfl⟩
abbrev main_v466 : Ref sig .tc := ⟨.hbm, 572, rfl⟩
abbrev main_v467 : Ref sig .tc := ⟨.hbm, 573, rfl⟩
abbrev main_v468 : Ref sig .tc := ⟨.hbm, 574, rfl⟩
abbrev main_v469 : Ref sig .tc := ⟨.hbm, 575, rfl⟩
abbrev main_v470 : Ref sig .tc := ⟨.hbm, 576, rfl⟩
abbrev main_v471 : Ref sig .tc := ⟨.hbm, 577, rfl⟩
abbrev main_v472 : Ref sig .tc := ⟨.hbm, 578, rfl⟩
abbrev main_v473 : Ref sig .tc := ⟨.hbm, 579, rfl⟩
abbrev main_v474 : Ref sig .tc := ⟨.hbm, 580, rfl⟩
abbrev main_v475 : Ref sig .tc := ⟨.hbm, 581, rfl⟩
abbrev main_v476 : Ref sig .tc := ⟨.hbm, 582, rfl⟩
abbrev main_v477 : Ref sig .tc := ⟨.hbm, 583, rfl⟩
abbrev main_v478 : Ref sig .tc := ⟨.hbm, 584, rfl⟩
abbrev main_v479 : Ref sig .tc := ⟨.hbm, 585, rfl⟩
abbrev main_v480 : Ref sig .tc := ⟨.hbm, 586, rfl⟩
abbrev main_v481 : Ref sig .tc := ⟨.hbm, 587, rfl⟩
abbrev main_v482 : Ref sig .tc := ⟨.hbm, 588, rfl⟩
abbrev main_v483 : Ref sig .tc := ⟨.hbm, 589, rfl⟩
abbrev main_v484 : Ref sig .tc := ⟨.hbm, 590, rfl⟩
abbrev main_v485 : Ref sig .tc := ⟨.hbm, 591, rfl⟩
abbrev main_v486 : Ref sig .tc := ⟨.hbm, 592, rfl⟩
abbrev main_v487 : Ref sig .tc := ⟨.hbm, 593, rfl⟩
abbrev main_v488 : Ref sig .tc := ⟨.hbm, 594, rfl⟩
abbrev main_cst_67 : Ref sig .tc := ⟨.hbm, 595, rfl⟩
abbrev main_v489 : Ref sig .tc := ⟨.hbm, 596, rfl⟩
abbrev main_v490 : Ref sig .tc := ⟨.hbm, 597, rfl⟩
abbrev main_v491 : Ref sig .tc := ⟨.hbm, 598, rfl⟩
abbrev main_cst_68 : Ref sig .tc := ⟨.hbm, 599, rfl⟩
abbrev main_call4_v0 : Ref sig .tc := ⟨.hbm, 600, rfl⟩
abbrev main_call4_v1 : Ref sig .tc := ⟨.hbm, 601, rfl⟩
abbrev main_call4_v2 : Ref sig .tc := ⟨.hbm, 602, rfl⟩
abbrev main_v492 : Ref sig .tc := ⟨.hbm, 603, rfl⟩
abbrev main_cst_69 : Ref sig .tc := ⟨.hbm, 604, rfl⟩
abbrev main_v493 : Ref sig .tc := ⟨.hbm, 605, rfl⟩
abbrev main_cst_70 : Ref sig .tc := ⟨.hbm, 606, rfl⟩
abbrev main_v494 : Ref sig .tc := ⟨.hbm, 607, rfl⟩
abbrev main_v495 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_v499 : Ref sig .tc := ⟨.hbm, 612, rfl⟩
abbrev main_cst_71 : Ref sig .tc := ⟨.hbm, 613, rfl⟩
abbrev main_v500 : Ref sig .tc := ⟨.hbm, 614, rfl⟩
abbrev main_v501 : Ref sig .tc := ⟨.hbm, 615, rfl⟩
abbrev main_v502 : Ref sig .tc := ⟨.hbm, 616, rfl⟩
abbrev main_v503 : Ref sig .tc := ⟨.hbm, 617, rfl⟩
abbrev main_v504 : Ref sig .tc := ⟨.hbm, 618, rfl⟩
abbrev main_v505 : Ref sig .tc := ⟨.hbm, 619, rfl⟩
abbrev main_v506 : Ref sig .tc := ⟨.hbm, 620, rfl⟩
abbrev main_v507 : Ref sig .tc := ⟨.hbm, 621, rfl⟩
abbrev main_v508 : Ref sig .tc := ⟨.hbm, 622, rfl⟩
abbrev main_v509 : Ref sig .tc := ⟨.hbm, 623, rfl⟩
abbrev main_v510 : Ref sig .tc := ⟨.hbm, 624, rfl⟩
abbrev main_v511 : Ref sig .tc := ⟨.hbm, 625, rfl⟩
abbrev main_v512 : Ref sig .tc := ⟨.hbm, 626, rfl⟩
abbrev main_v513 : Ref sig .tc := ⟨.hbm, 627, rfl⟩
abbrev main_v514 : Ref sig .tc := ⟨.hbm, 628, rfl⟩
abbrev main_v515 : Ref sig .tc := ⟨.hbm, 629, rfl⟩
abbrev main_v516 : Ref sig .tc := ⟨.hbm, 630, rfl⟩
abbrev main_v517 : Ref sig .tc := ⟨.hbm, 631, rfl⟩
abbrev main_v518 : Ref sig .tc := ⟨.hbm, 632, rfl⟩
abbrev main_v519 : Ref sig .tc := ⟨.hbm, 633, rfl⟩
abbrev main_cst_72 : Ref sig .tc := ⟨.hbm, 634, rfl⟩
abbrev main_v520 : Ref sig .tc := ⟨.hbm, 635, rfl⟩
abbrev main_v521 : Ref sig .tc := ⟨.hbm, 636, rfl⟩
abbrev main_cst_73 : Ref sig .tc := ⟨.hbm, 637, rfl⟩
abbrev main_v522 : Ref sig .tc := ⟨.hbm, 638, rfl⟩
abbrev main_v523 : Ref sig .tc := ⟨.hbm, 639, rfl⟩
abbrev main_v524 : Ref sig .tc := ⟨.hbm, 640, rfl⟩
abbrev main_v525 : Ref sig .tc := ⟨.hbm, 641, rfl⟩
abbrev main_v526 : Ref sig .tc := ⟨.hbm, 642, rfl⟩
abbrev main_v527 : Ref sig .tc := ⟨.hbm, 643, rfl⟩
abbrev main_v528 : Ref sig .tc := ⟨.hbm, 644, rfl⟩
abbrev main_cst_74 : Ref sig .tc := ⟨.hbm, 645, rfl⟩
abbrev main_v529 : Ref sig .tc := ⟨.hbm, 646, rfl⟩
abbrev main_v530 : Ref sig .tc := ⟨.hbm, 647, rfl⟩
abbrev main_cst_75 : Ref sig .tc := ⟨.hbm, 648, rfl⟩
abbrev main_v531 : Ref sig .tc := ⟨.hbm, 649, rfl⟩
abbrev main_v532 : Ref sig .tc := ⟨.hbm, 650, rfl⟩
abbrev main_v533 : Ref sig .tc := ⟨.hbm, 651, rfl⟩
abbrev main_v534 : Ref sig .tc := ⟨.hbm, 652, rfl⟩
abbrev main_cst_76 : Ref sig .tc := ⟨.hbm, 653, rfl⟩
abbrev main_v535 : Ref sig .tc := ⟨.hbm, 654, rfl⟩
abbrev main_v536 : Ref sig .tc := ⟨.hbm, 655, rfl⟩
abbrev main_v537 : Ref sig .tc := ⟨.hbm, 656, rfl⟩
abbrev main_v538 : Ref sig .tc := ⟨.hbm, 657, rfl⟩
abbrev main_v539 : Ref sig .tc := ⟨.hbm, 658, rfl⟩
abbrev main_v540 : Ref sig .tc := ⟨.hbm, 659, rfl⟩
abbrev main_v541 : Ref sig .tc := ⟨.hbm, 660, rfl⟩
abbrev main_v542 : Ref sig .tc := ⟨.hbm, 661, rfl⟩
abbrev main_v543 : Ref sig .tc := ⟨.hbm, 662, rfl⟩
abbrev main_v544 : Ref sig .tc := ⟨.hbm, 663, rfl⟩
abbrev main_v545 : Ref sig .tc := ⟨.hbm, 664, rfl⟩
abbrev main_v546 : Ref sig .tc := ⟨.hbm, 665, rfl⟩
abbrev main_v547 : Ref sig .tc := ⟨.hbm, 666, rfl⟩
abbrev main_v548 : Ref sig .tc := ⟨.hbm, 667, rfl⟩
abbrev main_v549 : Ref sig .tc := ⟨.hbm, 668, rfl⟩
abbrev main_v550 : Ref sig .tc := ⟨.hbm, 669, rfl⟩
abbrev main_v551 : Ref sig .tc := ⟨.hbm, 670, rfl⟩
abbrev main_v552 : Ref sig .tc := ⟨.hbm, 671, rfl⟩
abbrev main_v553 : Ref sig .tc := ⟨.hbm, 672, rfl⟩
abbrev main_cst_77 : Ref sig .tc := ⟨.hbm, 673, rfl⟩
abbrev main_v554 : Ref sig .tc := ⟨.hbm, 674, rfl⟩
abbrev main_v555 : Ref sig .tc := ⟨.hbm, 675, rfl⟩
abbrev main_cst_78 : Ref sig .tc := ⟨.hbm, 676, rfl⟩
abbrev main_v556 : Ref sig .tc := ⟨.hbm, 677, rfl⟩
abbrev main_v557 : Ref sig .tc := ⟨.hbm, 678, rfl⟩
abbrev main_v558 : Ref sig .tc := ⟨.hbm, 679, rfl⟩
abbrev main_v559 : Ref sig .tc := ⟨.hbm, 680, rfl⟩
abbrev main_cst_79 : Ref sig .tc := ⟨.hbm, 681, rfl⟩
abbrev main_v560 : Ref sig .tc := ⟨.hbm, 682, rfl⟩
abbrev main_v561 : Ref sig .tc := ⟨.hbm, 683, rfl⟩
abbrev main_v562 : Ref sig .tc := ⟨.hbm, 684, rfl⟩
abbrev main_v563 : Ref sig .tc := ⟨.hbm, 685, rfl⟩
abbrev main_v564 : Ref sig .tc := ⟨.hbm, 686, rfl⟩
abbrev main_v565 : Ref sig .tc := ⟨.hbm, 687, rfl⟩
abbrev main_v566 : Ref sig .tc := ⟨.hbm, 688, rfl⟩
abbrev main_v567 : Ref sig .tc := ⟨.hbm, 689, rfl⟩
abbrev main_v568 : Ref sig .tc := ⟨.hbm, 690, rfl⟩
abbrev main_v569 : Ref sig .tc := ⟨.hbm, 691, rfl⟩
abbrev main_v570 : Ref sig .tc := ⟨.hbm, 692, rfl⟩
abbrev main_v571 : Ref sig .tc := ⟨.hbm, 693, rfl⟩
abbrev main_v572 : Ref sig .tc := ⟨.hbm, 694, rfl⟩
abbrev main_v573 : Ref sig .tc := ⟨.hbm, 695, rfl⟩
abbrev main_v574 : Ref sig .tc := ⟨.hbm, 696, rfl⟩
abbrev main_v575 : Ref sig .tc := ⟨.hbm, 697, rfl⟩
abbrev main_cst_80 : Ref sig .tc := ⟨.hbm, 698, rfl⟩
abbrev main_v576 : Ref sig .tc := ⟨.hbm, 699, rfl⟩
abbrev main_v577 : Ref sig .tc := ⟨.hbm, 700, rfl⟩
abbrev main_cst_81 : Ref sig .tc := ⟨.hbm, 701, rfl⟩
abbrev main_v578 : Ref sig .tc := ⟨.hbm, 702, rfl⟩
abbrev main_v579 : Ref sig .tc := ⟨.hbm, 703, rfl⟩
abbrev main_v580 : Ref sig .tc := ⟨.hbm, 704, rfl⟩
abbrev main_v581 : Ref sig .tc := ⟨.hbm, 705, rfl⟩
abbrev main_v582 : Ref sig .tc := ⟨.hbm, 706, rfl⟩
abbrev main_v583 : Ref sig .tc := ⟨.hbm, 707, rfl⟩
abbrev main_v584 : Ref sig .tc := ⟨.hbm, 708, rfl⟩
abbrev main_cst_82 : Ref sig .tc := ⟨.hbm, 709, rfl⟩
abbrev main_v585 : Ref sig .tc := ⟨.hbm, 710, rfl⟩
abbrev main_v586 : Ref sig .tc := ⟨.hbm, 711, rfl⟩
abbrev main_cst_83 : Ref sig .tc := ⟨.hbm, 712, rfl⟩
abbrev main_v587 : Ref sig .tc := ⟨.hbm, 713, rfl⟩
abbrev main_v588 : Ref sig .tc := ⟨.hbm, 714, rfl⟩
abbrev main_v589 : Ref sig .tc := ⟨.hbm, 715, rfl⟩
abbrev main_v590 : Ref sig .tc := ⟨.hbm, 716, rfl⟩
abbrev main_cst_84 : Ref sig .tc := ⟨.hbm, 717, rfl⟩
abbrev main_v591 : Ref sig .tc := ⟨.hbm, 718, rfl⟩
abbrev main_v592 : Ref sig .tc := ⟨.hbm, 719, rfl⟩
abbrev main_v593 : Ref sig .tc := ⟨.hbm, 720, rfl⟩
abbrev main_v594 : Ref sig .tc := ⟨.hbm, 721, rfl⟩
abbrev main_v595 : Ref sig .tc := ⟨.hbm, 722, rfl⟩
abbrev main_v596 : Ref sig .tc := ⟨.hbm, 723, rfl⟩
abbrev main_v597 : Ref sig .tc := ⟨.hbm, 724, rfl⟩
abbrev main_v598 : Ref sig .tc := ⟨.hbm, 725, rfl⟩
abbrev main_v599 : Ref sig .tc := ⟨.hbm, 726, rfl⟩
abbrev main_v600 : Ref sig .tc := ⟨.hbm, 727, rfl⟩
abbrev main_v601 : Ref sig .tc := ⟨.hbm, 728, rfl⟩
abbrev main_c_85 : Ref sig .tc := ⟨.hbm, 729, rfl⟩
abbrev main_call5_v0 : Ref sig .tc := ⟨.hbm, 730, rfl⟩
abbrev main_v602 : Ref sig .tc := ⟨.hbm, 731, rfl⟩
abbrev main_v603 : Ref sig .tc := ⟨.hbm, 732, rfl⟩
abbrev main_v604 : Ref sig .tc := ⟨.hbm, 733, rfl⟩
abbrev main_v605 : Ref sig .tc := ⟨.hbm, 734, rfl⟩
abbrev main_v606 : Ref sig .tc := ⟨.hbm, 735, rfl⟩
abbrev main_v607 : Ref sig .tc := ⟨.hbm, 736, rfl⟩
abbrev main_v608 : Ref sig .tc := ⟨.hbm, 737, rfl⟩
abbrev main_v609 : Ref sig .tc := ⟨.hbm, 738, rfl⟩
abbrev main_v610 : Ref sig .tc := ⟨.hbm, 739, rfl⟩
abbrev main_v611 : Ref sig .tc := ⟨.hbm, 740, rfl⟩
abbrev main_v612 : Ref sig .tc := ⟨.hbm, 741, rfl⟩
abbrev main_v613 : Ref sig .tc := ⟨.hbm, 742, rfl⟩
abbrev main_v614 : Ref sig .tc := ⟨.hbm, 743, rfl⟩
abbrev main_v615 : Ref sig .tc := ⟨.hbm, 744, rfl⟩
abbrev main_v616 : Ref sig .tc := ⟨.hbm, 745, rfl⟩
abbrev main_v617 : Ref sig .tc := ⟨.hbm, 746, rfl⟩
abbrev main_v618 : Ref sig .tc := ⟨.hbm, 747, rfl⟩
abbrev main_v619 : Ref sig .tc := ⟨.hbm, 748, rfl⟩
abbrev main_v620 : Ref sig .tc := ⟨.hbm, 749, rfl⟩
abbrev main_v621 : Ref sig .tc := ⟨.hbm, 750, rfl⟩
abbrev main_cst_86 : Ref sig .tc := ⟨.hbm, 751, rfl⟩
abbrev main_v622 : Ref sig .tc := ⟨.hbm, 752, rfl⟩
abbrev main_v623 : Ref sig .tc := ⟨.hbm, 753, rfl⟩
abbrev main_cst_87 : Ref sig .tc := ⟨.hbm, 754, rfl⟩
abbrev main_v624 : Ref sig .tc := ⟨.hbm, 755, rfl⟩
abbrev main_v625 : Ref sig .tc := ⟨.hbm, 756, rfl⟩
abbrev main_v626 : Ref sig .tc := ⟨.hbm, 757, rfl⟩
abbrev main_v627 : Ref sig .tc := ⟨.hbm, 758, rfl⟩
abbrev main_cst_88 : Ref sig .tc := ⟨.hbm, 759, rfl⟩
abbrev main_v628 : Ref sig .tc := ⟨.hbm, 760, rfl⟩
abbrev main_v629 : Ref sig .tc := ⟨.hbm, 761, rfl⟩
abbrev main_v630 : Ref sig .tc := ⟨.hbm, 762, rfl⟩
abbrev main_v631 : Ref sig .tc := ⟨.hbm, 763, rfl⟩
abbrev main_v632 : Ref sig .tc := ⟨.hbm, 764, rfl⟩
abbrev main_v633 : Ref sig .tc := ⟨.hbm, 765, rfl⟩
abbrev main_v634 : Ref sig .tc := ⟨.hbm, 766, rfl⟩
abbrev main_v635 : Ref sig .tc := ⟨.hbm, 767, rfl⟩
abbrev main_cst_89 : Ref sig .tc := ⟨.hbm, 768, rfl⟩
abbrev main_v636 : Ref sig .tc := ⟨.hbm, 769, rfl⟩
abbrev main_v637 : Ref sig .tc := ⟨.hbm, 770, rfl⟩
abbrev main_cst_90 : Ref sig .tc := ⟨.hbm, 771, rfl⟩
abbrev main_v638 : Ref sig .tc := ⟨.hbm, 772, rfl⟩
abbrev main_v639 : Ref sig .tc := ⟨.hbm, 773, rfl⟩
abbrev main_v640 : Ref sig .tc := ⟨.hbm, 774, rfl⟩
abbrev main_v641 : Ref sig .tc := ⟨.hbm, 775, rfl⟩
abbrev main_v642 : Ref sig .tc := ⟨.hbm, 776, rfl⟩
abbrev main_v643 : Ref sig .tc := ⟨.hbm, 777, rfl⟩
abbrev main_v644 : Ref sig .tc := ⟨.hbm, 778, rfl⟩
abbrev main_cst_91 : Ref sig .tc := ⟨.hbm, 779, rfl⟩
abbrev main_v645 : Ref sig .tc := ⟨.hbm, 780, rfl⟩
abbrev main_v646 : Ref sig .tc := ⟨.hbm, 781, rfl⟩
abbrev main_cst_92 : Ref sig .tc := ⟨.hbm, 782, rfl⟩
abbrev main_v647 : Ref sig .tc := ⟨.hbm, 783, rfl⟩
abbrev main_v648 : Ref sig .tc := ⟨.hbm, 784, rfl⟩
abbrev main_v649 : Ref sig .tc := ⟨.hbm, 785, rfl⟩
abbrev main_v650 : Ref sig .tc := ⟨.hbm, 786, rfl⟩
abbrev main_cst_93 : Ref sig .tc := ⟨.hbm, 787, rfl⟩
abbrev main_v651 : Ref sig .tc := ⟨.hbm, 788, rfl⟩
abbrev main_v652 : Ref sig .tc := ⟨.hbm, 789, rfl⟩
abbrev main_v653 : Ref sig .tc := ⟨.hbm, 790, rfl⟩
abbrev main_v654 : Ref sig .tc := ⟨.hbm, 791, rfl⟩
abbrev main_v655 : Ref sig .tc := ⟨.hbm, 792, rfl⟩
abbrev main_v656 : Ref sig .tc := ⟨.hbm, 793, rfl⟩
abbrev main_v657 : Ref sig .tc := ⟨.hbm, 794, rfl⟩
abbrev main_v658 : Ref sig .tc := ⟨.hbm, 795, rfl⟩
abbrev main_v659 : Ref sig .tc := ⟨.hbm, 796, rfl⟩
abbrev main_v660 : Ref sig .tc := ⟨.hbm, 797, rfl⟩
abbrev main_v661 : Ref sig .tc := ⟨.hbm, 798, rfl⟩
abbrev main_v662 : Ref sig .tc := ⟨.hbm, 799, rfl⟩
abbrev main_v663 : Ref sig .tc := ⟨.hbm, 800, rfl⟩
abbrev main_v664 : Ref sig .tc := ⟨.hbm, 801, rfl⟩
abbrev main_v665 : Ref sig .tc := ⟨.hbm, 802, rfl⟩
abbrev main_v666 : Ref sig .tc := ⟨.hbm, 803, rfl⟩
abbrev main_v667 : Ref sig .tc := ⟨.hbm, 804, rfl⟩
abbrev main_v668 : Ref sig .tc := ⟨.hbm, 805, rfl⟩
abbrev main_v669 : Ref sig .tc := ⟨.hbm, 806, rfl⟩
abbrev main_v670 : Ref sig .tc := ⟨.hbm, 807, rfl⟩
abbrev main_v671 : Ref sig .tc := ⟨.hbm, 808, rfl⟩
abbrev main_v672 : Ref sig .tc := ⟨.hbm, 809, rfl⟩
abbrev main_v673 : Ref sig .tc := ⟨.hbm, 810, rfl⟩
abbrev main_v674 : Ref sig .tc := ⟨.hbm, 811, rfl⟩
abbrev main_v675 : Ref sig .tc := ⟨.hbm, 812, rfl⟩
abbrev main_v676 : Ref sig .tc := ⟨.hbm, 813, rfl⟩
abbrev main_cst_94 : Ref sig .tc := ⟨.hbm, 814, rfl⟩
abbrev main_v677 : Ref sig .tc := ⟨.hbm, 815, rfl⟩
abbrev main_v678 : Ref sig .tc := ⟨.hbm, 816, rfl⟩
abbrev main_v679 : Ref sig .tc := ⟨.hbm, 817, rfl⟩
abbrev main_cst_95 : Ref sig .tc := ⟨.hbm, 818, rfl⟩
abbrev main_call6_v0 : Ref sig .tc := ⟨.hbm, 819, rfl⟩
abbrev main_call6_v1 : Ref sig .tc := ⟨.hbm, 820, rfl⟩
abbrev main_call6_v2 : Ref sig .tc := ⟨.hbm, 821, rfl⟩
abbrev main_v680 : Ref sig .tc := ⟨.hbm, 822, rfl⟩
abbrev main_cst_96 : Ref sig .tc := ⟨.hbm, 823, rfl⟩
abbrev main_v681 : Ref sig .tc := ⟨.hbm, 824, rfl⟩
abbrev main_cst_97 : Ref sig .tc := ⟨.hbm, 825, rfl⟩
abbrev main_v682 : Ref sig .tc := ⟨.hbm, 826, rfl⟩
abbrev main_v683 : Ref sig .tc := ⟨.hbm, 827, rfl⟩
abbrev main_v684 : Ref sig .tc := ⟨.hbm, 828, rfl⟩
abbrev main_v685 : Ref sig .tc := ⟨.hbm, 829, rfl⟩
abbrev main_v686 : Ref sig .tc := ⟨.hbm, 830, rfl⟩
abbrev main_v687 : Ref sig .tc := ⟨.hbm, 831, rfl⟩
abbrev main_cst_98 : Ref sig .tc := ⟨.hbm, 832, rfl⟩
abbrev main_v688 : Ref sig .tc := ⟨.hbm, 833, rfl⟩
abbrev main_v689 : Ref sig .tc := ⟨.hbm, 834, rfl⟩
abbrev main_v690 : Ref sig .tc := ⟨.hbm, 835, rfl⟩
abbrev main_v691 : Ref sig .tc := ⟨.hbm, 836, rfl⟩
abbrev main_v692 : Ref sig .tc := ⟨.hbm, 837, rfl⟩
abbrev main_v693 : Ref sig .tc := ⟨.hbm, 838, rfl⟩
abbrev main_v694 : Ref sig .tc := ⟨.hbm, 839, rfl⟩
abbrev main_v695 : Ref sig .tc := ⟨.hbm, 840, rfl⟩
abbrev main_v696 : Ref sig .tc := ⟨.hbm, 841, rfl⟩
abbrev main_v697 : Ref sig .tc := ⟨.hbm, 842, rfl⟩
abbrev main_v698 : Ref sig .tc := ⟨.hbm, 843, rfl⟩
abbrev main_v699 : Ref sig .tc := ⟨.hbm, 844, rfl⟩
abbrev main_v700 : Ref sig .tc := ⟨.hbm, 845, rfl⟩
abbrev main_v701 : Ref sig .tc := ⟨.hbm, 846, rfl⟩
abbrev main_v702 : Ref sig .tc := ⟨.hbm, 847, rfl⟩
abbrev main_v703 : Ref sig .tc := ⟨.hbm, 848, rfl⟩
abbrev main_v704 : Ref sig .tc := ⟨.hbm, 849, rfl⟩
abbrev main_v705 : Ref sig .tc := ⟨.hbm, 850, rfl⟩
abbrev main_v706 : Ref sig .tc := ⟨.hbm, 851, rfl⟩
abbrev main_v707 : Ref sig .tc := ⟨.hbm, 852, rfl⟩
abbrev main_cst_99 : Ref sig .tc := ⟨.hbm, 853, rfl⟩
abbrev main_v708 : Ref sig .tc := ⟨.hbm, 854, rfl⟩
abbrev main_v709 : Ref sig .tc := ⟨.hbm, 855, rfl⟩
abbrev main_cst_100 : Ref sig .tc := ⟨.hbm, 856, rfl⟩
abbrev main_v710 : Ref sig .tc := ⟨.hbm, 857, rfl⟩
abbrev main_v711 : Ref sig .tc := ⟨.hbm, 858, rfl⟩
abbrev main_v712 : Ref sig .tc := ⟨.hbm, 859, rfl⟩
abbrev main_v713 : Ref sig .tc := ⟨.hbm, 860, rfl⟩
abbrev main_v714 : Ref sig .tc := ⟨.hbm, 861, rfl⟩
abbrev main_v715 : Ref sig .tc := ⟨.hbm, 862, rfl⟩
abbrev main_v716 : Ref sig .tc := ⟨.hbm, 863, rfl⟩
abbrev main_cst_101 : Ref sig .tc := ⟨.hbm, 864, rfl⟩
abbrev main_v717 : Ref sig .tc := ⟨.hbm, 865, rfl⟩
abbrev main_v718 : Ref sig .tc := ⟨.hbm, 866, rfl⟩
abbrev main_cst_102 : Ref sig .tc := ⟨.hbm, 867, rfl⟩
abbrev main_v719 : Ref sig .tc := ⟨.hbm, 868, rfl⟩
abbrev main_v720 : Ref sig .tc := ⟨.hbm, 869, rfl⟩
abbrev main_v721 : Ref sig .tc := ⟨.hbm, 870, rfl⟩
abbrev main_v722 : Ref sig .tc := ⟨.hbm, 871, rfl⟩
abbrev main_cst_103 : Ref sig .tc := ⟨.hbm, 872, rfl⟩
abbrev main_v723 : Ref sig .tc := ⟨.hbm, 873, rfl⟩
abbrev main_v724 : Ref sig .tc := ⟨.hbm, 874, rfl⟩
abbrev main_v725 : Ref sig .tc := ⟨.hbm, 875, rfl⟩
abbrev main_v726 : Ref sig .tc := ⟨.hbm, 876, rfl⟩
abbrev main_v727 : Ref sig .tc := ⟨.hbm, 877, rfl⟩
abbrev main_v728 : Ref sig .tc := ⟨.hbm, 878, rfl⟩
abbrev main_v729 : Ref sig .tc := ⟨.hbm, 879, rfl⟩
abbrev main_v730 : Ref sig .tc := ⟨.hbm, 880, rfl⟩
abbrev main_v731 : Ref sig .tc := ⟨.hbm, 881, rfl⟩
abbrev main_v732 : Ref sig .tc := ⟨.hbm, 882, rfl⟩
abbrev main_v733 : Ref sig .tc := ⟨.hbm, 883, rfl⟩
abbrev main_v734 : Ref sig .tc := ⟨.hbm, 884, rfl⟩
abbrev main_v735 : Ref sig .tc := ⟨.hbm, 885, rfl⟩
abbrev main_v736 : Ref sig .tc := ⟨.hbm, 886, rfl⟩
abbrev main_v737 : Ref sig .tc := ⟨.hbm, 887, rfl⟩
abbrev main_v738 : Ref sig .tc := ⟨.hbm, 888, rfl⟩
abbrev main_v739 : Ref sig .tc := ⟨.hbm, 889, rfl⟩
abbrev main_v740 : Ref sig .tc := ⟨.hbm, 890, rfl⟩
abbrev main_v741 : Ref sig .tc := ⟨.hbm, 891, rfl⟩
abbrev main_cst_104 : Ref sig .tc := ⟨.hbm, 892, rfl⟩
abbrev main_v742 : Ref sig .tc := ⟨.hbm, 893, rfl⟩
abbrev main_v743 : Ref sig .tc := ⟨.hbm, 894, rfl⟩
abbrev main_cst_105 : Ref sig .tc := ⟨.hbm, 895, rfl⟩
abbrev main_v744 : Ref sig .tc := ⟨.hbm, 896, rfl⟩
abbrev main_v745 : Ref sig .tc := ⟨.hbm, 897, rfl⟩
abbrev main_v746 : Ref sig .tc := ⟨.hbm, 898, rfl⟩
abbrev main_v747 : Ref sig .tc := ⟨.hbm, 899, rfl⟩
abbrev main_cst_106 : Ref sig .tc := ⟨.hbm, 900, rfl⟩
abbrev main_v748 : Ref sig .tc := ⟨.hbm, 901, rfl⟩
abbrev main_v749 : Ref sig .tc := ⟨.hbm, 902, rfl⟩
abbrev main_v750 : Ref sig .tc := ⟨.hbm, 903, rfl⟩
abbrev main_v751 : Ref sig .tc := ⟨.hbm, 904, rfl⟩
abbrev main_v752 : Ref sig .tc := ⟨.hbm, 905, rfl⟩
abbrev main_v753 : Ref sig .tc := ⟨.hbm, 906, rfl⟩
abbrev main_v754 : Ref sig .tc := ⟨.hbm, 907, rfl⟩
abbrev main_v755 : Ref sig .tc := ⟨.hbm, 908, rfl⟩
abbrev main_v756 : Ref sig .tc := ⟨.hbm, 909, rfl⟩
abbrev main_v757 : Ref sig .tc := ⟨.hbm, 910, rfl⟩
abbrev main_v758 : Ref sig .tc := ⟨.hbm, 911, rfl⟩
abbrev main_v759 : Ref sig .tc := ⟨.hbm, 912, rfl⟩
abbrev main_v760 : Ref sig .tc := ⟨.hbm, 913, rfl⟩
abbrev main_v761 : Ref sig .tc := ⟨.hbm, 914, rfl⟩
abbrev main_v762 : Ref sig .tc := ⟨.hbm, 915, rfl⟩
abbrev main_v763 : Ref sig .tc := ⟨.hbm, 916, rfl⟩
abbrev main_cst_107 : Ref sig .tc := ⟨.hbm, 917, rfl⟩
abbrev main_v764 : Ref sig .tc := ⟨.hbm, 918, rfl⟩
abbrev main_v765 : Ref sig .tc := ⟨.hbm, 919, rfl⟩
abbrev main_cst_108 : Ref sig .tc := ⟨.hbm, 920, rfl⟩
abbrev main_v766 : Ref sig .tc := ⟨.hbm, 921, rfl⟩
abbrev main_v767 : Ref sig .tc := ⟨.hbm, 922, rfl⟩
abbrev main_v768 : Ref sig .tc := ⟨.hbm, 923, rfl⟩
abbrev main_v769 : Ref sig .tc := ⟨.hbm, 924, rfl⟩
abbrev main_v770 : Ref sig .tc := ⟨.hbm, 925, rfl⟩
abbrev main_v771 : Ref sig .tc := ⟨.hbm, 926, rfl⟩
abbrev main_v772 : Ref sig .tc := ⟨.hbm, 927, rfl⟩
abbrev main_cst_109 : Ref sig .tc := ⟨.hbm, 928, rfl⟩
abbrev main_v773 : Ref sig .tc := ⟨.hbm, 929, rfl⟩
abbrev main_v774 : Ref sig .tc := ⟨.hbm, 930, rfl⟩
abbrev main_cst_110 : Ref sig .tc := ⟨.hbm, 931, rfl⟩
abbrev main_v775 : Ref sig .tc := ⟨.hbm, 932, rfl⟩
abbrev main_v776 : Ref sig .tc := ⟨.hbm, 933, rfl⟩
abbrev main_v777 : Ref sig .tc := ⟨.hbm, 934, rfl⟩
abbrev main_v778 : Ref sig .tc := ⟨.hbm, 935, rfl⟩
abbrev main_cst_111 : Ref sig .tc := ⟨.hbm, 936, rfl⟩
abbrev main_v779 : Ref sig .tc := ⟨.hbm, 937, rfl⟩
abbrev main_v780 : Ref sig .tc := ⟨.hbm, 938, rfl⟩
abbrev main_v781 : Ref sig .tc := ⟨.hbm, 939, rfl⟩
abbrev main_v782 : Ref sig .tc := ⟨.hbm, 940, rfl⟩
abbrev main_v783 : Ref sig .tc := ⟨.hbm, 941, rfl⟩
abbrev main_v784 : Ref sig .tc := ⟨.hbm, 942, rfl⟩
abbrev main_v785 : Ref sig .tc := ⟨.hbm, 943, rfl⟩
abbrev main_v786 : Ref sig .tc := ⟨.hbm, 944, rfl⟩
abbrev main_v787 : Ref sig .tc := ⟨.hbm, 945, rfl⟩
abbrev main_v788 : Ref sig .tc := ⟨.hbm, 946, rfl⟩
abbrev main_v789 : Ref sig .tc := ⟨.hbm, 947, rfl⟩
abbrev main_c_112 : Ref sig .tc := ⟨.hbm, 948, rfl⟩
abbrev main_call7_v0 : Ref sig .tc := ⟨.hbm, 949, rfl⟩
abbrev main_v790 : Ref sig .tc := ⟨.hbm, 950, rfl⟩
abbrev main_v791 : Ref sig .tc := ⟨.hbm, 951, rfl⟩
abbrev main_v792 : Ref sig .tc := ⟨.hbm, 952, rfl⟩
abbrev main_v793 : Ref sig .tc := ⟨.hbm, 953, rfl⟩
abbrev main_v794 : Ref sig .tc := ⟨.hbm, 954, rfl⟩
abbrev main_v795 : Ref sig .tc := ⟨.hbm, 955, rfl⟩
abbrev main_v796 : Ref sig .tc := ⟨.hbm, 956, rfl⟩
abbrev main_v797 : Ref sig .tc := ⟨.hbm, 957, rfl⟩
abbrev main_v798 : Ref sig .tc := ⟨.hbm, 958, rfl⟩
abbrev main_v799 : Ref sig .tc := ⟨.hbm, 959, rfl⟩
abbrev main_v800 : Ref sig .tc := ⟨.hbm, 960, rfl⟩
abbrev main_v801 : Ref sig .tc := ⟨.hbm, 961, rfl⟩
abbrev main_v802 : Ref sig .tc := ⟨.hbm, 962, rfl⟩
abbrev main_v803 : Ref sig .tc := ⟨.hbm, 963, rfl⟩
abbrev main_v804 : Ref sig .tc := ⟨.hbm, 964, rfl⟩
abbrev main_v805 : Ref sig .tc := ⟨.hbm, 965, rfl⟩
abbrev main_v806 : Ref sig .tc := ⟨.hbm, 966, rfl⟩
abbrev main_v807 : Ref sig .tc := ⟨.hbm, 967, rfl⟩
abbrev main_v808 : Ref sig .tc := ⟨.hbm, 968, rfl⟩
abbrev main_v809 : Ref sig .tc := ⟨.hbm, 969, rfl⟩
abbrev main_cst_113 : Ref sig .tc := ⟨.hbm, 970, rfl⟩
abbrev main_v810 : Ref sig .tc := ⟨.hbm, 971, rfl⟩
abbrev main_v811 : Ref sig .tc := ⟨.hbm, 972, rfl⟩
abbrev main_cst_114 : Ref sig .tc := ⟨.hbm, 973, rfl⟩
abbrev main_v812 : Ref sig .tc := ⟨.hbm, 974, rfl⟩
abbrev main_v813 : Ref sig .tc := ⟨.hbm, 975, rfl⟩
abbrev main_v814 : Ref sig .tc := ⟨.hbm, 976, rfl⟩
abbrev main_v815 : Ref sig .tc := ⟨.hbm, 977, rfl⟩
abbrev main_cst_115 : Ref sig .tc := ⟨.hbm, 978, rfl⟩
abbrev main_v816 : Ref sig .tc := ⟨.hbm, 979, rfl⟩
abbrev main_v817 : Ref sig .tc := ⟨.hbm, 980, rfl⟩
abbrev main_v818 : Ref sig .tc := ⟨.hbm, 981, rfl⟩
abbrev main_v819 : Ref sig .tc := ⟨.hbm, 982, rfl⟩
abbrev main_v820 : Ref sig .tc := ⟨.hbm, 983, rfl⟩
abbrev main_v821 : Ref sig .tc := ⟨.hbm, 984, rfl⟩
abbrev main_v822 : Ref sig .tc := ⟨.hbm, 985, rfl⟩
abbrev main_v823 : Ref sig .tc := ⟨.hbm, 986, rfl⟩
abbrev main_cst_116 : Ref sig .tc := ⟨.hbm, 987, rfl⟩
abbrev main_v824 : Ref sig .tc := ⟨.hbm, 988, rfl⟩
abbrev main_v825 : Ref sig .tc := ⟨.hbm, 989, rfl⟩
abbrev main_cst_117 : Ref sig .tc := ⟨.hbm, 990, rfl⟩
abbrev main_v826 : Ref sig .tc := ⟨.hbm, 991, rfl⟩
abbrev main_v827 : Ref sig .tc := ⟨.hbm, 992, rfl⟩
abbrev main_v828 : Ref sig .tc := ⟨.hbm, 993, rfl⟩
abbrev main_v829 : Ref sig .tc := ⟨.hbm, 994, rfl⟩
abbrev main_v830 : Ref sig .tc := ⟨.hbm, 995, rfl⟩
abbrev main_v831 : Ref sig .tc := ⟨.hbm, 996, rfl⟩
abbrev main_v832 : Ref sig .tc := ⟨.hbm, 997, rfl⟩
abbrev main_cst_118 : Ref sig .tc := ⟨.hbm, 998, rfl⟩
abbrev main_v833 : Ref sig .tc := ⟨.hbm, 999, rfl⟩
abbrev main_v834 : Ref sig .tc := ⟨.hbm, 1000, rfl⟩
abbrev main_cst_119 : Ref sig .tc := ⟨.hbm, 1001, rfl⟩
abbrev main_v835 : Ref sig .tc := ⟨.hbm, 1002, rfl⟩
abbrev main_v836 : Ref sig .tc := ⟨.hbm, 1003, rfl⟩
abbrev main_v837 : Ref sig .tc := ⟨.hbm, 1004, rfl⟩
abbrev main_v838 : Ref sig .tc := ⟨.hbm, 1005, rfl⟩
abbrev main_cst_120 : Ref sig .tc := ⟨.hbm, 1006, rfl⟩
abbrev main_v839 : Ref sig .tc := ⟨.hbm, 1007, rfl⟩
abbrev main_v840 : Ref sig .tc := ⟨.hbm, 1008, rfl⟩
abbrev main_v841 : Ref sig .tc := ⟨.hbm, 1009, rfl⟩
abbrev main_v842 : Ref sig .tc := ⟨.hbm, 1010, rfl⟩
abbrev main_v843 : Ref sig .tc := ⟨.hbm, 1011, rfl⟩
abbrev main_v844 : Ref sig .tc := ⟨.hbm, 1012, rfl⟩
abbrev main_v845 : Ref sig .tc := ⟨.hbm, 1013, rfl⟩
abbrev main_v846 : Ref sig .tc := ⟨.hbm, 1014, rfl⟩
abbrev main_v847 : Ref sig .tc := ⟨.hbm, 1015, rfl⟩
abbrev main_v848 : Ref sig .tc := ⟨.hbm, 1016, rfl⟩
abbrev main_v849 : Ref sig .tc := ⟨.hbm, 1017, rfl⟩
abbrev main_v850 : Ref sig .tc := ⟨.hbm, 1018, rfl⟩
abbrev main_v851 : Ref sig .tc := ⟨.hbm, 1019, rfl⟩
abbrev main_v852 : Ref sig .tc := ⟨.hbm, 1020, rfl⟩
abbrev main_v853 : Ref sig .tc := ⟨.hbm, 1021, rfl⟩
abbrev main_v854 : Ref sig .tc := ⟨.hbm, 1022, rfl⟩
abbrev main_v855 : Ref sig .tc := ⟨.hbm, 1023, rfl⟩
abbrev main_v856 : Ref sig .tc := ⟨.hbm, 1024, rfl⟩
abbrev main_v857 : Ref sig .tc := ⟨.hbm, 1025, rfl⟩
abbrev main_v858 : Ref sig .tc := ⟨.hbm, 1026, rfl⟩
abbrev main_v859 : Ref sig .tc := ⟨.hbm, 1027, rfl⟩
abbrev main_v860 : Ref sig .tc := ⟨.hbm, 1028, rfl⟩
abbrev main_v861 : Ref sig .tc := ⟨.hbm, 1029, rfl⟩
abbrev main_v862 : Ref sig .tc := ⟨.hbm, 1030, rfl⟩
abbrev main_v863 : Ref sig .tc := ⟨.hbm, 1031, rfl⟩
abbrev main_v864 : Ref sig .tc := ⟨.hbm, 1032, rfl⟩
abbrev main_cst_121 : Ref sig .tc := ⟨.hbm, 1033, rfl⟩
abbrev main_v865 : Ref sig .tc := ⟨.hbm, 1034, rfl⟩
abbrev main_v866 : Ref sig .tc := ⟨.hbm, 1035, rfl⟩
abbrev main_v867 : Ref sig .tc := ⟨.hbm, 1036, rfl⟩
abbrev main_cst_122 : Ref sig .tc := ⟨.hbm, 1037, rfl⟩
abbrev main_call8_v0 : Ref sig .tc := ⟨.hbm, 1038, rfl⟩
abbrev main_call8_v1 : Ref sig .tc := ⟨.hbm, 1039, rfl⟩
abbrev main_call8_v2 : Ref sig .tc := ⟨.hbm, 1040, rfl⟩
abbrev main_v868 : Ref sig .tc := ⟨.hbm, 1041, rfl⟩
abbrev main_cst_123 : Ref sig .tc := ⟨.hbm, 1042, rfl⟩
abbrev main_v869 : Ref sig .tc := ⟨.hbm, 1043, rfl⟩
abbrev main_cst_124 : Ref sig .tc := ⟨.hbm, 1044, rfl⟩
abbrev main_v870 : Ref sig .tc := ⟨.hbm, 1045, rfl⟩
abbrev main_v871 : Ref sig .tc := ⟨.hbm, 1046, rfl⟩
abbrev main_v872 : Ref sig .tc := ⟨.hbm, 1047, rfl⟩
abbrev main_v873 : Ref sig .tc := ⟨.hbm, 1048, rfl⟩
abbrev main_v874 : Ref sig .tc := ⟨.hbm, 1049, rfl⟩
abbrev main_v875 : Ref sig .tc := ⟨.hbm, 1050, rfl⟩
abbrev main_cst_125 : Ref sig .tc := ⟨.hbm, 1051, rfl⟩
abbrev main_v876 : Ref sig .tc := ⟨.hbm, 1052, rfl⟩
abbrev main_v877 : Ref sig .tc := ⟨.hbm, 1053, rfl⟩
abbrev main_v878 : Ref sig .tc := ⟨.hbm, 1054, rfl⟩
abbrev main_v879 : Ref sig .tc := ⟨.hbm, 1055, rfl⟩
abbrev main_v880 : Ref sig .tc := ⟨.hbm, 1056, rfl⟩
abbrev main_v881 : Ref sig .tc := ⟨.hbm, 1057, rfl⟩
abbrev main_v882 : Ref sig .tc := ⟨.hbm, 1058, rfl⟩
abbrev main_v883 : Ref sig .tc := ⟨.hbm, 1059, rfl⟩
abbrev main_v884 : Ref sig .tc := ⟨.hbm, 1060, rfl⟩
abbrev main_v885 : Ref sig .tc := ⟨.hbm, 1061, rfl⟩
abbrev main_v886 : Ref sig .tc := ⟨.hbm, 1062, rfl⟩
abbrev main_v887 : Ref sig .tc := ⟨.hbm, 1063, rfl⟩
abbrev main_v888 : Ref sig .tc := ⟨.hbm, 1064, rfl⟩
abbrev main_v889 : Ref sig .tc := ⟨.hbm, 1065, rfl⟩
abbrev main_v890 : Ref sig .tc := ⟨.hbm, 1066, rfl⟩
abbrev main_v891 : Ref sig .tc := ⟨.hbm, 1067, rfl⟩
abbrev main_v892 : Ref sig .tc := ⟨.hbm, 1068, rfl⟩
abbrev main_v893 : Ref sig .tc := ⟨.hbm, 1069, rfl⟩
abbrev main_v894 : Ref sig .tc := ⟨.hbm, 1070, rfl⟩
abbrev main_v895 : Ref sig .tc := ⟨.hbm, 1071, rfl⟩
abbrev main_cst_126 : Ref sig .tc := ⟨.hbm, 1072, rfl⟩
abbrev main_v896 : Ref sig .tc := ⟨.hbm, 1073, rfl⟩
abbrev main_v897 : Ref sig .tc := ⟨.hbm, 1074, rfl⟩
abbrev main_cst_127 : Ref sig .tc := ⟨.hbm, 1075, rfl⟩
abbrev main_v898 : Ref sig .tc := ⟨.hbm, 1076, rfl⟩
abbrev main_v899 : Ref sig .tc := ⟨.hbm, 1077, rfl⟩
abbrev main_v900 : Ref sig .tc := ⟨.hbm, 1078, rfl⟩
abbrev main_v901 : Ref sig .tc := ⟨.hbm, 1079, rfl⟩
abbrev main_v902 : Ref sig .tc := ⟨.hbm, 1080, rfl⟩
abbrev main_v903 : Ref sig .tc := ⟨.hbm, 1081, rfl⟩
abbrev main_v904 : Ref sig .tc := ⟨.hbm, 1082, rfl⟩
abbrev main_cst_128 : Ref sig .tc := ⟨.hbm, 1083, rfl⟩
abbrev main_v905 : Ref sig .tc := ⟨.hbm, 1084, rfl⟩
abbrev main_v906 : Ref sig .tc := ⟨.hbm, 1085, rfl⟩
abbrev main_cst_129 : Ref sig .tc := ⟨.hbm, 1086, rfl⟩
abbrev main_v907 : Ref sig .tc := ⟨.hbm, 1087, rfl⟩
abbrev main_v908 : Ref sig .tc := ⟨.hbm, 1088, rfl⟩
abbrev main_v909 : Ref sig .tc := ⟨.hbm, 1089, rfl⟩
abbrev main_v910 : Ref sig .tc := ⟨.hbm, 1090, rfl⟩
abbrev main_cst_130 : Ref sig .tc := ⟨.hbm, 1091, rfl⟩
abbrev main_v911 : Ref sig .tc := ⟨.hbm, 1092, rfl⟩
abbrev main_v912 : Ref sig .tc := ⟨.hbm, 1093, rfl⟩
abbrev main_v913 : Ref sig .tc := ⟨.hbm, 1094, rfl⟩
abbrev main_v914 : Ref sig .tc := ⟨.hbm, 1095, rfl⟩
abbrev main_v915 : Ref sig .tc := ⟨.hbm, 1096, rfl⟩
abbrev main_v916 : Ref sig .tc := ⟨.hbm, 1097, rfl⟩
abbrev main_v917 : Ref sig .tc := ⟨.hbm, 1098, rfl⟩
abbrev main_v918 : Ref sig .tc := ⟨.hbm, 1099, rfl⟩
abbrev main_v919 : Ref sig .tc := ⟨.hbm, 1100, rfl⟩
abbrev main_v920 : Ref sig .tc := ⟨.hbm, 1101, rfl⟩
abbrev main_v921 : Ref sig .tc := ⟨.hbm, 1102, rfl⟩
abbrev main_v922 : Ref sig .tc := ⟨.hbm, 1103, rfl⟩
abbrev main_v923 : Ref sig .tc := ⟨.hbm, 1104, rfl⟩
abbrev main_v924 : Ref sig .tc := ⟨.hbm, 1105, rfl⟩
abbrev main_v925 : Ref sig .tc := ⟨.hbm, 1106, rfl⟩
abbrev main_v926 : Ref sig .tc := ⟨.hbm, 1107, rfl⟩
abbrev main_v927 : Ref sig .tc := ⟨.hbm, 1108, rfl⟩
abbrev main_v928 : Ref sig .tc := ⟨.hbm, 1109, rfl⟩
abbrev main_v929 : Ref sig .tc := ⟨.hbm, 1110, rfl⟩
abbrev main_cst_131 : Ref sig .tc := ⟨.hbm, 1111, rfl⟩
abbrev main_v930 : Ref sig .tc := ⟨.hbm, 1112, rfl⟩
abbrev main_v931 : Ref sig .tc := ⟨.hbm, 1113, rfl⟩
abbrev main_cst_132 : Ref sig .tc := ⟨.hbm, 1114, rfl⟩
abbrev main_v932 : Ref sig .tc := ⟨.hbm, 1115, rfl⟩
abbrev main_v933 : Ref sig .tc := ⟨.hbm, 1116, rfl⟩
abbrev main_v934 : Ref sig .tc := ⟨.hbm, 1117, rfl⟩
abbrev main_v935 : Ref sig .tc := ⟨.hbm, 1118, rfl⟩
abbrev main_cst_133 : Ref sig .tc := ⟨.hbm, 1119, rfl⟩
abbrev main_v936 : Ref sig .tc := ⟨.hbm, 1120, rfl⟩
abbrev main_v937 : Ref sig .tc := ⟨.hbm, 1121, rfl⟩
abbrev main_v938 : Ref sig .tc := ⟨.hbm, 1122, rfl⟩
abbrev main_v939 : Ref sig .tc := ⟨.hbm, 1123, rfl⟩
abbrev main_v940 : Ref sig .tc := ⟨.hbm, 1124, rfl⟩
abbrev main_v941 : Ref sig .tc := ⟨.hbm, 1125, rfl⟩
abbrev main_v942 : Ref sig .tc := ⟨.hbm, 1126, rfl⟩
abbrev main_v943 : Ref sig .tc := ⟨.hbm, 1127, rfl⟩
abbrev main_v944 : Ref sig .tc := ⟨.hbm, 1128, rfl⟩
abbrev main_v945 : Ref sig .tc := ⟨.hbm, 1129, rfl⟩
abbrev main_v946 : Ref sig .tc := ⟨.hbm, 1130, rfl⟩
abbrev main_v947 : Ref sig .tc := ⟨.hbm, 1131, rfl⟩
abbrev main_v948 : Ref sig .tc := ⟨.hbm, 1132, rfl⟩
abbrev main_v949 : Ref sig .tc := ⟨.hbm, 1133, rfl⟩
abbrev main_v950 : Ref sig .tc := ⟨.hbm, 1134, rfl⟩
abbrev main_v951 : Ref sig .tc := ⟨.hbm, 1135, rfl⟩
abbrev main_cst_134 : Ref sig .tc := ⟨.hbm, 1136, rfl⟩
abbrev main_v952 : Ref sig .tc := ⟨.hbm, 1137, rfl⟩
abbrev main_v953 : Ref sig .tc := ⟨.hbm, 1138, rfl⟩
abbrev main_cst_135 : Ref sig .tc := ⟨.hbm, 1139, rfl⟩
abbrev main_v954 : Ref sig .tc := ⟨.hbm, 1140, rfl⟩
abbrev main_v955 : Ref sig .tc := ⟨.hbm, 1141, rfl⟩
abbrev main_v956 : Ref sig .tc := ⟨.hbm, 1142, rfl⟩
abbrev main_v957 : Ref sig .tc := ⟨.hbm, 1143, rfl⟩
abbrev main_v958 : Ref sig .tc := ⟨.hbm, 1144, rfl⟩
abbrev main_v959 : Ref sig .tc := ⟨.hbm, 1145, rfl⟩
abbrev main_v960 : Ref sig .tc := ⟨.hbm, 1146, rfl⟩
abbrev main_cst_136 : Ref sig .tc := ⟨.hbm, 1147, rfl⟩
abbrev main_v961 : Ref sig .tc := ⟨.hbm, 1148, rfl⟩
abbrev main_v962 : Ref sig .tc := ⟨.hbm, 1149, rfl⟩
abbrev main_cst_137 : Ref sig .tc := ⟨.hbm, 1150, rfl⟩
abbrev main_v963 : Ref sig .tc := ⟨.hbm, 1151, rfl⟩
abbrev main_v964 : Ref sig .tc := ⟨.hbm, 1152, rfl⟩
abbrev main_v965 : Ref sig .tc := ⟨.hbm, 1153, rfl⟩
abbrev main_v966 : Ref sig .tc := ⟨.hbm, 1154, rfl⟩
abbrev main_cst_138 : Ref sig .tc := ⟨.hbm, 1155, rfl⟩
abbrev main_v967 : Ref sig .tc := ⟨.hbm, 1156, rfl⟩
abbrev main_v968 : Ref sig .tc := ⟨.hbm, 1157, rfl⟩
abbrev main_v969 : Ref sig .tc := ⟨.hbm, 1158, rfl⟩
abbrev main_v970 : Ref sig .tc := ⟨.hbm, 1159, rfl⟩
abbrev main_v971 : Ref sig .tc := ⟨.hbm, 1160, rfl⟩
abbrev main_v972 : Ref sig .tc := ⟨.hbm, 1161, rfl⟩
abbrev main_v973 : Ref sig .tc := ⟨.hbm, 1162, rfl⟩
abbrev main_v974 : Ref sig .tc := ⟨.hbm, 1163, rfl⟩
abbrev main_v975 : Ref sig .tc := ⟨.hbm, 1164, rfl⟩
abbrev main_v976 : Ref sig .tc := ⟨.hbm, 1165, rfl⟩
abbrev main_v977 : Ref sig .tc := ⟨.hbm, 1166, rfl⟩
abbrev main_c_139 : Ref sig .tc := ⟨.hbm, 1167, rfl⟩
abbrev main_call9_v0 : Ref sig .tc := ⟨.hbm, 1168, rfl⟩
abbrev main_v978 : Ref sig .tc := ⟨.hbm, 1169, rfl⟩
abbrev main_v979 : Ref sig .tc := ⟨.hbm, 1170, rfl⟩
abbrev main_v980 : Ref sig .tc := ⟨.hbm, 1171, rfl⟩
abbrev main_v981 : Ref sig .tc := ⟨.hbm, 1172, rfl⟩
abbrev main_v982 : Ref sig .tc := ⟨.hbm, 1173, rfl⟩
abbrev main_v983 : Ref sig .tc := ⟨.hbm, 1174, rfl⟩
abbrev main_v984 : Ref sig .tc := ⟨.hbm, 1175, rfl⟩
abbrev main_v985 : Ref sig .tc := ⟨.hbm, 1176, rfl⟩
abbrev main_v986 : Ref sig .tc := ⟨.hbm, 1177, rfl⟩
abbrev main_v987 : Ref sig .tc := ⟨.hbm, 1178, rfl⟩
abbrev main_v988 : Ref sig .tc := ⟨.hbm, 1179, rfl⟩
abbrev main_v989 : Ref sig .tc := ⟨.hbm, 1180, rfl⟩
abbrev main_v990 : Ref sig .tc := ⟨.hbm, 1181, rfl⟩
abbrev main_v991 : Ref sig .tc := ⟨.hbm, 1182, rfl⟩
abbrev main_v992 : Ref sig .tc := ⟨.hbm, 1183, rfl⟩
abbrev main_v993 : Ref sig .tc := ⟨.hbm, 1184, rfl⟩
abbrev main_v994 : Ref sig .tc := ⟨.hbm, 1185, rfl⟩
abbrev main_v995 : Ref sig .tc := ⟨.hbm, 1186, rfl⟩
abbrev main_v996 : Ref sig .tc := ⟨.hbm, 1187, rfl⟩
abbrev main_v997 : Ref sig .tc := ⟨.hbm, 1188, rfl⟩
abbrev main_cst_140 : Ref sig .tc := ⟨.hbm, 1189, rfl⟩
abbrev main_v998 : Ref sig .tc := ⟨.hbm, 1190, rfl⟩
abbrev main_v999 : Ref sig .tc := ⟨.hbm, 1191, rfl⟩
abbrev main_cst_141 : Ref sig .tc := ⟨.hbm, 1192, rfl⟩
abbrev main_v1000 : Ref sig .tc := ⟨.hbm, 1193, rfl⟩
abbrev main_v1001 : Ref sig .tc := ⟨.hbm, 1194, rfl⟩
abbrev main_v1002 : Ref sig .tc := ⟨.hbm, 1195, rfl⟩
abbrev main_v1003 : Ref sig .tc := ⟨.hbm, 1196, rfl⟩
abbrev main_cst_142 : Ref sig .tc := ⟨.hbm, 1197, rfl⟩
abbrev main_v1004 : Ref sig .tc := ⟨.hbm, 1198, rfl⟩
abbrev main_v1005 : Ref sig .tc := ⟨.hbm, 1199, rfl⟩
abbrev main_v1006 : Ref sig .tc := ⟨.hbm, 1200, rfl⟩
abbrev main_v1007 : Ref sig .tc := ⟨.hbm, 1201, rfl⟩
abbrev main_v1008 : Ref sig .tc := ⟨.hbm, 1202, rfl⟩
abbrev main_v1009 : Ref sig .tc := ⟨.hbm, 1203, rfl⟩
abbrev main_v1010 : Ref sig .tc := ⟨.hbm, 1204, rfl⟩
abbrev main_v1011 : Ref sig .tc := ⟨.hbm, 1205, rfl⟩
abbrev main_cst_143 : Ref sig .tc := ⟨.hbm, 1206, rfl⟩
abbrev main_v1012 : Ref sig .tc := ⟨.hbm, 1207, rfl⟩
abbrev main_v1013 : Ref sig .tc := ⟨.hbm, 1208, rfl⟩
abbrev main_cst_144 : Ref sig .tc := ⟨.hbm, 1209, rfl⟩
abbrev main_v1014 : Ref sig .tc := ⟨.hbm, 1210, rfl⟩
abbrev main_v1015 : Ref sig .tc := ⟨.hbm, 1211, rfl⟩
abbrev main_v1016 : Ref sig .tc := ⟨.hbm, 1212, rfl⟩
abbrev main_v1017 : Ref sig .tc := ⟨.hbm, 1213, rfl⟩
abbrev main_v1018 : Ref sig .tc := ⟨.hbm, 1214, rfl⟩
abbrev main_v1019 : Ref sig .tc := ⟨.hbm, 1215, rfl⟩
abbrev main_v1020 : Ref sig .tc := ⟨.hbm, 1216, rfl⟩
abbrev main_cst_145 : Ref sig .tc := ⟨.hbm, 1217, rfl⟩
abbrev main_v1021 : Ref sig .tc := ⟨.hbm, 1218, rfl⟩
abbrev main_v1022 : Ref sig .tc := ⟨.hbm, 1219, rfl⟩
abbrev main_cst_146 : Ref sig .tc := ⟨.hbm, 1220, rfl⟩
abbrev main_v1023 : Ref sig .tc := ⟨.hbm, 1221, rfl⟩
abbrev main_v1024 : Ref sig .tc := ⟨.hbm, 1222, rfl⟩
abbrev main_v1025 : Ref sig .tc := ⟨.hbm, 1223, rfl⟩
abbrev main_v1026 : Ref sig .tc := ⟨.hbm, 1224, rfl⟩
abbrev main_cst_147 : Ref sig .tc := ⟨.hbm, 1225, rfl⟩
abbrev main_v1027 : Ref sig .tc := ⟨.hbm, 1226, rfl⟩
abbrev main_v1028 : Ref sig .tc := ⟨.hbm, 1227, rfl⟩
abbrev main_v1029 : Ref sig .tc := ⟨.hbm, 1228, rfl⟩
abbrev main_v1030 : Ref sig .tc := ⟨.hbm, 1229, rfl⟩
abbrev main_v1031 : Ref sig .tc := ⟨.hbm, 1230, rfl⟩
abbrev main_v1032 : Ref sig .tc := ⟨.hbm, 1231, rfl⟩
abbrev main_v1033 : Ref sig .tc := ⟨.hbm, 1232, rfl⟩
abbrev main_v1034 : Ref sig .tc := ⟨.hbm, 1233, rfl⟩
abbrev main_v1035 : Ref sig .tc := ⟨.hbm, 1234, rfl⟩
abbrev main_v1036 : Ref sig .tc := ⟨.hbm, 1235, rfl⟩
abbrev main_v1037 : Ref sig .tc := ⟨.hbm, 1236, rfl⟩
abbrev main_v1038 : Ref sig .tc := ⟨.hbm, 1237, rfl⟩
abbrev main_v1039 : Ref sig .tc := ⟨.hbm, 1238, rfl⟩
abbrev main_v1040 : Ref sig .tc := ⟨.hbm, 1239, rfl⟩
abbrev main_v1041 : Ref sig .tc := ⟨.hbm, 1240, rfl⟩
abbrev main_v1042 : Ref sig .tc := ⟨.hbm, 1241, rfl⟩
abbrev main_v1043 : Ref sig .tc := ⟨.hbm, 1242, rfl⟩
abbrev main_v1044 : Ref sig .tc := ⟨.hbm, 1243, rfl⟩
abbrev main_v1045 : Ref sig .tc := ⟨.hbm, 1244, rfl⟩
abbrev main_v1046 : Ref sig .tc := ⟨.hbm, 1245, rfl⟩
abbrev main_v1047 : Ref sig .tc := ⟨.hbm, 1246, rfl⟩
abbrev main_v1048 : Ref sig .tc := ⟨.hbm, 1247, rfl⟩
abbrev main_v1049 : Ref sig .tc := ⟨.hbm, 1248, rfl⟩
abbrev main_v1050 : Ref sig .tc := ⟨.hbm, 1249, rfl⟩
abbrev main_v1051 : Ref sig .tc := ⟨.hbm, 1250, rfl⟩
abbrev main_v1052 : Ref sig .tc := ⟨.hbm, 1251, rfl⟩
abbrev main_cst_148 : Ref sig .tc := ⟨.hbm, 1252, rfl⟩
abbrev main_v1053 : Ref sig .tc := ⟨.hbm, 1253, rfl⟩
abbrev main_v1054 : Ref sig .tc := ⟨.hbm, 1254, rfl⟩
abbrev main_v1055 : Ref sig .tc := ⟨.hbm, 1255, rfl⟩
abbrev main_cst_149 : Ref sig .tc := ⟨.hbm, 1256, rfl⟩
abbrev main_call10_v0 : Ref sig .tc := ⟨.hbm, 1257, rfl⟩
abbrev main_call10_v1 : Ref sig .tc := ⟨.hbm, 1258, rfl⟩
abbrev main_call10_v2 : Ref sig .tc := ⟨.hbm, 1259, rfl⟩
abbrev main_v1056 : Ref sig .tc := ⟨.hbm, 1260, rfl⟩
abbrev main_cst_150 : Ref sig .tc := ⟨.hbm, 1261, rfl⟩
abbrev main_v1057 : Ref sig .tc := ⟨.hbm, 1262, rfl⟩
abbrev main_cst_151 : Ref sig .tc := ⟨.hbm, 1263, rfl⟩
abbrev main_v1058 : Ref sig .tc := ⟨.hbm, 1264, rfl⟩
abbrev main_v1059 : Ref sig .tc := ⟨.hbm, 1265, rfl⟩
abbrev main_v1060 : Ref sig .tc := ⟨.hbm, 1266, rfl⟩
abbrev main_v1061 : Ref sig .tc := ⟨.hbm, 1267, rfl⟩
abbrev main_v1062 : Ref sig .tc := ⟨.hbm, 1268, rfl⟩
abbrev main_v1063 : Ref sig .tc := ⟨.hbm, 1269, rfl⟩
abbrev main_cst_152 : Ref sig .tc := ⟨.hbm, 1270, rfl⟩
abbrev main_v1064 : Ref sig .tc := ⟨.hbm, 1271, rfl⟩
abbrev main_v1065 : Ref sig .tc := ⟨.hbm, 1272, rfl⟩
abbrev main_v1066 : Ref sig .tc := ⟨.hbm, 1273, rfl⟩
abbrev main_v1067 : Ref sig .tc := ⟨.hbm, 1274, rfl⟩
abbrev main_v1068 : Ref sig .tc := ⟨.hbm, 1275, rfl⟩
abbrev main_v1069 : Ref sig .tc := ⟨.hbm, 1276, rfl⟩
abbrev main_v1070 : Ref sig .tc := ⟨.hbm, 1277, rfl⟩
abbrev main_v1071 : Ref sig .tc := ⟨.hbm, 1278, rfl⟩
abbrev main_v1072 : Ref sig .tc := ⟨.hbm, 1279, rfl⟩
abbrev main_v1073 : Ref sig .tc := ⟨.hbm, 1280, rfl⟩
abbrev main_v1074 : Ref sig .tc := ⟨.hbm, 1281, rfl⟩
abbrev main_v1075 : Ref sig .tc := ⟨.hbm, 1282, rfl⟩
abbrev main_v1076 : Ref sig .tc := ⟨.hbm, 1283, rfl⟩
abbrev main_v1077 : Ref sig .tc := ⟨.hbm, 1284, rfl⟩
abbrev main_v1078 : Ref sig .tc := ⟨.hbm, 1285, rfl⟩
abbrev main_v1079 : Ref sig .tc := ⟨.hbm, 1286, rfl⟩
abbrev main_v1080 : Ref sig .tc := ⟨.hbm, 1287, rfl⟩
abbrev main_v1081 : Ref sig .tc := ⟨.hbm, 1288, rfl⟩
abbrev main_v1082 : Ref sig .tc := ⟨.hbm, 1289, rfl⟩
abbrev main_v1083 : Ref sig .tc := ⟨.hbm, 1290, rfl⟩
abbrev main_cst_153 : Ref sig .tc := ⟨.hbm, 1291, rfl⟩
abbrev main_v1084 : Ref sig .tc := ⟨.hbm, 1292, rfl⟩
abbrev main_v1085 : Ref sig .tc := ⟨.hbm, 1293, rfl⟩
abbrev main_cst_154 : Ref sig .tc := ⟨.hbm, 1294, rfl⟩
abbrev main_v1086 : Ref sig .tc := ⟨.hbm, 1295, rfl⟩
abbrev main_v1087 : Ref sig .tc := ⟨.hbm, 1296, rfl⟩
abbrev main_v1088 : Ref sig .tc := ⟨.hbm, 1297, rfl⟩
abbrev main_v1089 : Ref sig .tc := ⟨.hbm, 1298, rfl⟩
abbrev main_v1090 : Ref sig .tc := ⟨.hbm, 1299, rfl⟩
abbrev main_v1091 : Ref sig .tc := ⟨.hbm, 1300, rfl⟩
abbrev main_v1092 : Ref sig .tc := ⟨.hbm, 1301, rfl⟩
abbrev main_cst_155 : Ref sig .tc := ⟨.hbm, 1302, rfl⟩
abbrev main_v1093 : Ref sig .tc := ⟨.hbm, 1303, rfl⟩
abbrev main_v1094 : Ref sig .tc := ⟨.hbm, 1304, rfl⟩
abbrev main_cst_156 : Ref sig .tc := ⟨.hbm, 1305, rfl⟩
abbrev main_v1095 : Ref sig .tc := ⟨.hbm, 1306, rfl⟩
abbrev main_v1096 : Ref sig .tc := ⟨.hbm, 1307, rfl⟩
abbrev main_v1097 : Ref sig .tc := ⟨.hbm, 1308, rfl⟩
abbrev main_v1098 : Ref sig .tc := ⟨.hbm, 1309, rfl⟩
abbrev main_cst_157 : Ref sig .tc := ⟨.hbm, 1310, rfl⟩
abbrev main_v1099 : Ref sig .tc := ⟨.hbm, 1311, rfl⟩
abbrev main_v1100 : Ref sig .tc := ⟨.hbm, 1312, rfl⟩
abbrev main_v1101 : Ref sig .tc := ⟨.hbm, 1313, rfl⟩
abbrev main_v1102 : Ref sig .tc := ⟨.hbm, 1314, rfl⟩
abbrev main_v1103 : Ref sig .tc := ⟨.hbm, 1315, rfl⟩
abbrev main_v1104 : Ref sig .tc := ⟨.hbm, 1316, rfl⟩
abbrev main_v1105 : Ref sig .tc := ⟨.hbm, 1317, rfl⟩
abbrev main_v1106 : Ref sig .tc := ⟨.hbm, 1318, rfl⟩
abbrev main_v1107 : Ref sig .tc := ⟨.hbm, 1319, rfl⟩
abbrev main_v1108 : Ref sig .tc := ⟨.hbm, 1320, rfl⟩
abbrev main_v1109 : Ref sig .tc := ⟨.hbm, 1321, rfl⟩
abbrev main_v1110 : Ref sig .tc := ⟨.hbm, 1322, rfl⟩
abbrev main_v1111 : Ref sig .tc := ⟨.hbm, 1323, rfl⟩
abbrev main_v1112 : Ref sig .tc := ⟨.hbm, 1324, rfl⟩
abbrev main_v1113 : Ref sig .tc := ⟨.hbm, 1325, rfl⟩
abbrev main_v1114 : Ref sig .tc := ⟨.hbm, 1326, rfl⟩
abbrev main_v1115 : Ref sig .tc := ⟨.hbm, 1327, rfl⟩
abbrev main_v1116 : Ref sig .tc := ⟨.hbm, 1328, rfl⟩
abbrev main_v1117 : Ref sig .tc := ⟨.hbm, 1329, rfl⟩
abbrev main_cst_158 : Ref sig .tc := ⟨.hbm, 1330, rfl⟩
abbrev main_v1118 : Ref sig .tc := ⟨.hbm, 1331, rfl⟩
abbrev main_v1119 : Ref sig .tc := ⟨.hbm, 1332, rfl⟩
abbrev main_cst_159 : Ref sig .tc := ⟨.hbm, 1333, rfl⟩
abbrev main_v1120 : Ref sig .tc := ⟨.hbm, 1334, rfl⟩
abbrev main_v1121 : Ref sig .tc := ⟨.hbm, 1335, rfl⟩
abbrev main_v1122 : Ref sig .tc := ⟨.hbm, 1336, rfl⟩
abbrev main_v1123 : Ref sig .tc := ⟨.hbm, 1337, rfl⟩
abbrev main_cst_160 : Ref sig .tc := ⟨.hbm, 1338, rfl⟩
abbrev main_v1124 : Ref sig .tc := ⟨.hbm, 1339, rfl⟩
abbrev main_v1125 : Ref sig .tc := ⟨.hbm, 1340, rfl⟩
abbrev main_v1126 : Ref sig .tc := ⟨.hbm, 1341, rfl⟩
abbrev main_v1127 : Ref sig .tc := ⟨.hbm, 1342, rfl⟩
abbrev main_v1128 : Ref sig .tc := ⟨.hbm, 1343, rfl⟩
abbrev main_v1129 : Ref sig .tc := ⟨.hbm, 1344, rfl⟩
abbrev main_v1130 : Ref sig .tc := ⟨.hbm, 1345, rfl⟩
abbrev main_v1131 : Ref sig .tc := ⟨.hbm, 1346, rfl⟩
abbrev main_v1132 : Ref sig .tc := ⟨.hbm, 1347, rfl⟩
abbrev main_v1133 : Ref sig .tc := ⟨.hbm, 1348, rfl⟩
abbrev main_v1134 : Ref sig .tc := ⟨.hbm, 1349, rfl⟩
abbrev main_v1135 : Ref sig .tc := ⟨.hbm, 1350, rfl⟩
abbrev main_v1136 : Ref sig .tc := ⟨.hbm, 1351, rfl⟩
abbrev main_v1137 : Ref sig .tc := ⟨.hbm, 1352, rfl⟩
abbrev main_v1138 : Ref sig .tc := ⟨.hbm, 1353, rfl⟩
abbrev main_v1139 : Ref sig .tc := ⟨.hbm, 1354, rfl⟩
abbrev main_cst_161 : Ref sig .tc := ⟨.hbm, 1355, rfl⟩
abbrev main_v1140 : Ref sig .tc := ⟨.hbm, 1356, rfl⟩
abbrev main_v1141 : Ref sig .tc := ⟨.hbm, 1357, rfl⟩
abbrev main_cst_162 : Ref sig .tc := ⟨.hbm, 1358, rfl⟩
abbrev main_v1142 : Ref sig .tc := ⟨.hbm, 1359, rfl⟩
abbrev main_v1143 : Ref sig .tc := ⟨.hbm, 1360, rfl⟩
abbrev main_v1144 : Ref sig .tc := ⟨.hbm, 1361, rfl⟩
abbrev main_v1145 : Ref sig .tc := ⟨.hbm, 1362, rfl⟩
abbrev main_v1146 : Ref sig .tc := ⟨.hbm, 1363, rfl⟩
abbrev main_v1147 : Ref sig .tc := ⟨.hbm, 1364, rfl⟩
abbrev main_v1148 : Ref sig .tc := ⟨.hbm, 1365, rfl⟩
abbrev main_cst_163 : Ref sig .tc := ⟨.hbm, 1366, rfl⟩
abbrev main_v1149 : Ref sig .tc := ⟨.hbm, 1367, rfl⟩
abbrev main_v1150 : Ref sig .tc := ⟨.hbm, 1368, rfl⟩
abbrev main_cst_164 : Ref sig .tc := ⟨.hbm, 1369, rfl⟩
abbrev main_v1151 : Ref sig .tc := ⟨.hbm, 1370, rfl⟩
abbrev main_v1152 : Ref sig .tc := ⟨.hbm, 1371, rfl⟩
abbrev main_v1153 : Ref sig .tc := ⟨.hbm, 1372, rfl⟩
abbrev main_v1154 : Ref sig .tc := ⟨.hbm, 1373, rfl⟩
abbrev main_cst_165 : Ref sig .tc := ⟨.hbm, 1374, rfl⟩
abbrev main_v1155 : Ref sig .tc := ⟨.hbm, 1375, rfl⟩
abbrev main_v1156 : Ref sig .tc := ⟨.hbm, 1376, rfl⟩
abbrev main_v1157 : Ref sig .tc := ⟨.hbm, 1377, rfl⟩
abbrev main_v1158 : Ref sig .tc := ⟨.hbm, 1378, rfl⟩
abbrev main_v1159 : Ref sig .tc := ⟨.hbm, 1379, rfl⟩
abbrev main_v1160 : Ref sig .tc := ⟨.hbm, 1380, rfl⟩
abbrev main_v1161 : Ref sig .tc := ⟨.hbm, 1381, rfl⟩
abbrev main_v1162 : Ref sig .tc := ⟨.hbm, 1382, rfl⟩
abbrev main_v1163 : Ref sig .tc := ⟨.hbm, 1383, rfl⟩
abbrev main_v1164 : Ref sig .tc := ⟨.hbm, 1384, rfl⟩
abbrev main_v1165 : Ref sig .tc := ⟨.hbm, 1385, rfl⟩
abbrev main_c_166 : Ref sig .tc := ⟨.hbm, 1386, rfl⟩
abbrev main_call11_v0 : Ref sig .tc := ⟨.hbm, 1387, rfl⟩
abbrev main_v1166 : Ref sig .tc := ⟨.hbm, 1388, rfl⟩
abbrev main_v1167 : Ref sig .tc := ⟨.hbm, 1389, rfl⟩
abbrev main_v1168 : Ref sig .tc := ⟨.hbm, 1390, rfl⟩
abbrev main_v1169 : Ref sig .tc := ⟨.hbm, 1391, rfl⟩
abbrev main_v1170 : Ref sig .tc := ⟨.hbm, 1392, rfl⟩
abbrev main_v1171 : Ref sig .tc := ⟨.hbm, 1393, rfl⟩
abbrev main_v1172 : Ref sig .tc := ⟨.hbm, 1394, rfl⟩
abbrev main_v1173 : Ref sig .tc := ⟨.hbm, 1395, rfl⟩
abbrev main_v1174 : Ref sig .tc := ⟨.hbm, 1396, rfl⟩
abbrev main_v1175 : Ref sig .tc := ⟨.hbm, 1397, rfl⟩
abbrev main_v1176 : Ref sig .tc := ⟨.hbm, 1398, rfl⟩
abbrev main_v1177 : Ref sig .tc := ⟨.hbm, 1399, rfl⟩
abbrev main_v1178 : Ref sig .tc := ⟨.hbm, 1400, rfl⟩
abbrev main_v1179 : Ref sig .tc := ⟨.hbm, 1401, rfl⟩
abbrev main_v1180 : Ref sig .tc := ⟨.hbm, 1402, rfl⟩
abbrev main_v1181 : Ref sig .tc := ⟨.hbm, 1403, rfl⟩
abbrev main_v1182 : Ref sig .tc := ⟨.hbm, 1404, rfl⟩
abbrev main_v1183 : Ref sig .tc := ⟨.hbm, 1405, rfl⟩
abbrev main_v1184 : Ref sig .tc := ⟨.hbm, 1406, rfl⟩
abbrev main_v1185 : Ref sig .tc := ⟨.hbm, 1407, rfl⟩
abbrev main_cst_167 : Ref sig .tc := ⟨.hbm, 1408, rfl⟩
abbrev main_v1186 : Ref sig .tc := ⟨.hbm, 1409, rfl⟩
abbrev main_v1187 : Ref sig .tc := ⟨.hbm, 1410, rfl⟩
abbrev main_cst_168 : Ref sig .tc := ⟨.hbm, 1411, rfl⟩
abbrev main_v1188 : Ref sig .tc := ⟨.hbm, 1412, rfl⟩
abbrev main_v1189 : Ref sig .tc := ⟨.hbm, 1413, rfl⟩
abbrev main_v1190 : Ref sig .tc := ⟨.hbm, 1414, rfl⟩
abbrev main_v1191 : Ref sig .tc := ⟨.hbm, 1415, rfl⟩
abbrev main_cst_169 : Ref sig .tc := ⟨.hbm, 1416, rfl⟩
abbrev main_v1192 : Ref sig .tc := ⟨.hbm, 1417, rfl⟩
abbrev main_v1193 : Ref sig .tc := ⟨.hbm, 1418, rfl⟩
abbrev main_v1194 : Ref sig .tc := ⟨.hbm, 1419, rfl⟩
abbrev main_v1195 : Ref sig .tc := ⟨.hbm, 1420, rfl⟩
abbrev main_v1196 : Ref sig .tc := ⟨.hbm, 1421, rfl⟩
abbrev main_v1197 : Ref sig .tc := ⟨.hbm, 1422, rfl⟩
abbrev main_v1198 : Ref sig .tc := ⟨.hbm, 1423, rfl⟩
abbrev main_v1199 : Ref sig .tc := ⟨.hbm, 1424, rfl⟩
abbrev main_v1200 : Ref sig .tc := ⟨.hbm, 1425, rfl⟩

abbrev nD : Nat := 1
abbrev τ : Topo := Topo.v7x

variable {F : FTy → Type} [FloatOps F]
-- ==== Proof.IdealFrame.lean ====
/- The frame of the idealized kernel: the body's triple at every grid point, the launch with the contents of the result, and
   that every argument array ends unchanged. It follows the generated frame module, with a larger budget for the one
   restatement of the body's triple over the 26 windows. -/
module

public import proofs.«01_k».proof.Proof.Gen.KernelIdeal.Frame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 25 tile its block (1 store of `S1x4096x256`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x4096x256 .f32) (harg1 : arg1.IsWhole) (arg2 : Memref sig .tc .vmem S1x1x1 .f32) (harg2 : arg2.IsWhole) (arg3 : Memref sig .tc .vmem S1x1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S6x256x768 .bf16) (harg12 : arg12.IsWhole) (arg13 : Memref sig .tc .vmem S6x768 .bf16) (harg13 : arg13.IsWhole) (arg14 : Memref sig .tc .vmem S6x256x256 .bf16) (harg14 : arg14.IsWhole) (arg15 : Memref sig .tc .vmem S6x256 .f32) (harg15 : arg15.IsWhole) (arg16 : Memref sig .tc .vmem S6x256x1024 .bf16) (harg16 : arg16.IsWhole) (arg17 : Memref sig .tc .vmem S6x1024 .bf16) (harg17 : arg17.IsWhole) (arg18 : Memref sig .tc .vmem S6x1024x256 .bf16) (harg18 : arg18.IsWhole) (arg19 : Memref sig .tc .vmem S6x256 .f32) (harg19 : arg19.IsWhole) (arg20 : Memref sig .tc .vmem S6x256 .f32) (harg20 : arg20.IsWhole) (arg21 : Memref sig .tc .vmem S6x256 .f32) (harg21 : arg21.IsWhole) (arg22 : Memref sig .tc .vmem S6x3x256x256 .bf16) (harg22 : arg22.IsWhole) (arg23 : Memref sig .tc .vmem S6x256 .bf16) (harg23 : arg23.IsWhole) (arg24 : Memref sig .tc .vmem S256x256 .bf16) (harg24 : arg24.IsWhole) (arg25 : Memref sig .tc .vmem S1x256 .f32) (harg25 : arg25.IsWhole) (arg26 : Memref sig .tc .vmem S1x4096x256 .f32) (harg26 : arg26.IsWhole) (arg27 : Memref sig .tc .vmem S4096x256 .f32) (harg27 : arg27.IsWhole)
    (x0 : Vec F S1x4096x256 .f32) (x1 : Vec F S1x1x1 .f32) (x2 : Vec F S1x1x256 .f32) (x3 : Vec F S256x256 .f32) (x4 : Vec F S1x256 .f32) (x5 : Vec F S256x256 .f32) (x6 : Vec F S1x256 .f32) (x7 : Vec F S256x512 .f32) (x8 : Vec F S1x512 .f32) (x9 : Vec F S512x512 .f32) (x10 : Vec F S1x512 .f32) (x11 : Vec F S6x256x768 .bf16) (x12 : Vec F S6x768 .bf16) (x13 : Vec F S6x256x256 .bf16) (x14 : Vec F S6x256 .f32) (x15 : Vec F S6x256x1024 .bf16) (x16 : Vec F S6x1024 .bf16) (x17 : Vec F S6x1024x256 .bf16) (x18 : Vec F S6x256 .f32) (x19 : Vec F S6x256 .f32) (x20 : Vec F S6x256 .f32) (x21 : Vec F S6x3x256x256 .bf16) (x22 : Vec F S6x256 .bf16) (x23 : Vec F S256x256 .bf16) (x24 : Vec F S1x256 .f32) (y : S1x4096x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24).1 S1x4096x256.size (by sl_kernel_rfl) y

/-- What the run leaves in output 25's staging buffer: its pieces read back over junk. -/
def out0_A_25 (c : Dev nD) (i : grid0.Coords) (arg1 : Memref sig .tc .vmem S1x4096x256 .f32) (harg1 : arg1.IsWhole) (arg2 : Memref sig .tc .vmem S1x1x1 .f32) (harg2 : arg2.IsWhole) (arg3 : Memref sig .tc .vmem S1x1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S6x256x768 .bf16) (harg12 : arg12.IsWhole) (arg13 : Memref sig .tc .vmem S6x768 .bf16) (harg13 : arg13.IsWhole) (arg14 : Memref sig .tc .vmem S6x256x256 .bf16) (harg14 : arg14.IsWhole) (arg15 : Memref sig .tc .vmem S6x256 .f32) (harg15 : arg15.IsWhole) (arg16 : Memref sig .tc .vmem S6x256x1024 .bf16) (harg16 : arg16.IsWhole) (arg17 : Memref sig .tc .vmem S6x1024 .bf16) (harg17 : arg17.IsWhole) (arg18 : Memref sig .tc .vmem S6x1024x256 .bf16) (harg18 : arg18.IsWhole) (arg19 : Memref sig .tc .vmem S6x256 .f32) (harg19 : arg19.IsWhole) (arg20 : Memref sig .tc .vmem S6x256 .f32) (harg20 : arg20.IsWhole) (arg21 : Memref sig .tc .vmem S6x256 .f32) (harg21 : arg21.IsWhole) (arg22 : Memref sig .tc .vmem S6x3x256x256 .bf16) (harg22 : arg22.IsWhole) (arg23 : Memref sig .tc .vmem S6x256 .bf16) (harg23 : arg23.IsWhole) (arg24 : Memref sig .tc .vmem S256x256 .bf16) (harg24 : arg24.IsWhole) (arg25 : Memref sig .tc .vmem S1x256 .f32) (harg25 : arg25.IsWhole) (arg26 : Memref sig .tc .vmem S1x4096x256 .f32) (harg26 : arg26.IsWhole) (arg27 : Memref sig .tc .vmem S4096x256 .f32) (harg27 : arg27.IsWhole)
    (x0 : Vec F S1x4096x256 .f32) (x1 : Vec F S1x1x1 .f32) (x2 : Vec F S1x1x256 .f32) (x3 : Vec F S256x256 .f32) (x4 : Vec F S1x256 .f32) (x5 : Vec F S256x256 .f32) (x6 : Vec F S1x256 .f32) (x7 : Vec F S256x512 .f32) (x8 : Vec F S1x512 .f32) (x9 : Vec F S512x512 .f32) (x10 : Vec F S1x512 .f32) (x11 : Vec F S6x256x768 .bf16) (x12 : Vec F S6x768 .bf16) (x13 : Vec F S6x256x256 .bf16) (x14 : Vec F S6x256 .f32) (x15 : Vec F S6x256x1024 .bf16) (x16 : Vec F S6x1024 .bf16) (x17 : Vec F S6x1024x256 .bf16) (x18 : Vec F S6x256 .f32) (x19 : Vec F S6x256 .f32) (x20 : Vec F S6x256 .f32) (x21 : Vec F S6x3x256x256 .bf16) (x22 : Vec F S6x256 .bf16) (x23 : Vec F S256x256 .bf16) (x24 : Vec F S1x256 .f32) : Vec F S1x4096x256 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24).1)

/-! ## What the outputs hold after each point -/

/-- What the outputs' staging buffers hold after the body at point `t`: the run's contents at
    the point's memrefs and input blocks. -/
def outsAt0 (c : Dev nD) (t : Fin cfg0.N) : Vec F S1x4096x256 .f32 :=
  out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t)
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- Window 1 holds the argument's block after every step. -/
theorem after0_1 (c : Dev nD) (t : Fin cfg0.N) : (dats m 0 c).after 1 t = iblk m c 1 t := by dsimp only [dats]
/-- Window 2 holds the argument's block after every step. -/
theorem after0_2 (c : Dev nD) (t : Fin cfg0.N) : (dats m 0 c).after 2 t = iblk m c 2 t := by dsimp only [dats]
/-- Window 3 holds the argument's block after every step. -/
theorem after0_3 (c : Dev nD) (t : Fin cfg0.N) : (dats m 0 c).after 3 t = iblk m c 3 t := by dsimp only [dats]
/-- Window 4 holds the argument's block after every step. -/
theorem after0_4 (c : Dev nD) (t : Fin cfg0.N) : (dats m 0 c).after 4 t = iblk m c 4 t := by dsimp only [dats]
/-- Window 5 holds the argument's block after every step. -/
theorem after0_5 (c : Dev nD) (t : Fin cfg0.N) : (dats m 0 c).after 5 t = iblk m c 5 t := by dsimp only [dats]
/-- Window 6 holds the argument's block after every step. -/
theorem after0_6 (c : Dev nD) (t : Fin cfg0.N) : (dats m 0 c).after 6 t = iblk m c 6 t := by dsimp only [dats]
/-- Window 7 holds the argument's block after every step. -/
theorem after0_7 (c : Dev nD) (t : Fin cfg0.N) : (dats m 0 c).after 7 t = iblk m c 7 t := by dsimp only [dats]
/-- Window 8 holds the argument's block after every step. -/
theorem after0_8 (c : Dev nD) (t : Fin cfg0.N) : (dats m 0 c).after 8 t = iblk m c 8 t := by dsimp only [dats]
/-- Window 9 holds the argument's block after every step. -/
theorem after0_9 (c : Dev nD) (t : Fin cfg0.N) : (dats m 0 c).after 9 t = iblk m c 9 t := by dsimp only [dats]
/-- Window 10 holds the argument's block after every step. -/
theorem after0_10 (c : Dev nD) (t : Fin cfg0.N) : (dats m 0 c).after 10 t = iblk m c 10 t := by dsimp only [dats]
/-- Window 11 holds the argument's block after every step. -/
theorem after0_11 (c : Dev nD) (t : Fin cfg0.N) : (dats m 0 c).after 11 t = iblk m c 11 t := by dsimp only [dats]
/-- Window 12 holds the argument's block after every step. -/
theorem after0_12 (c : Dev nD) (t : Fin cfg0.N) : (dats m 0 c).after 12 t = iblk m c 12 t := by dsimp only [dats]
/-- Window 13 holds the argument's block after every step. -/
theorem after0_13 (c : Dev nD) (t : Fin cfg0.N) : (dats m 0 c).after 13 t = iblk m c 13 t := by dsimp only [dats]
/-- Window 14 holds the argument's block after every step. -/
theorem after0_14 (c : Dev nD) (t : Fin cfg0.N) : (dats m 0 c).after 14 t = iblk m c 14 t := by dsimp only [dats]
/-- Window 15 holds the argument's block after every step. -/
theorem after0_15 (c : Dev nD) (t : Fin cfg0.N) : (dats m 0 c).after 15 t = iblk m c 15 t := by dsimp only [dats]
/-- Window 16 holds the argument's block after every step. -/
theorem after0_16 (c : Dev nD) (t : Fin cfg0.N) : (dats m 0 c).after 16 t = iblk m c 16 t := by dsimp only [dats]
/-- Window 17 holds the argument's block after every step. -/
theorem after0_17 (c : Dev nD) (t : Fin cfg0.N) : (dats m 0 c).after 17 t = iblk m c 17 t := by dsimp only [dats]
/-- Window 18 holds the argument's block after every step. -/
theorem after0_18 (c : Dev nD) (t : Fin cfg0.N) : (dats m 0 c).after 18 t = iblk m c 18 t := by dsimp only [dats]
/-- Window 19 holds the argument's block after every step. -/
theorem after0_19 (c : Dev nD) (t : Fin cfg0.N) : (dats m 0 c).after 19 t = iblk m c 19 t := by dsimp only [dats]
/-- Window 20 holds the argument's block after every step. -/
theorem after0_20 (c : Dev nD) (t : Fin cfg0.N) : (dats m 0 c).after 20 t = iblk m c 20 t := by dsimp only [dats]
/-- Window 21 holds the argument's block after every step. -/
theorem after0_21 (c : Dev nD) (t : Fin cfg0.N) : (dats m 0 c).after 21 t = iblk m c 21 t := by dsimp only [dats]
/-- Window 22 holds the argument's block after every step. -/
theorem after0_22 (c : Dev nD) (t : Fin cfg0.N) : (dats m 0 c).after 22 t = iblk m c 22 t := by dsimp only [dats]
/-- Window 23 holds the argument's block after every step. -/
theorem after0_23 (c : Dev nD) (t : Fin cfg0.N) : (dats m 0 c).after 23 t = iblk m c 23 t := by dsimp only [dats]
/-- Window 24 holds the argument's block after every step. -/
theorem after0_24 (c : Dev nD) (t : Fin cfg0.N) : (dats m 0 c).after 24 t = iblk m c 24 t := by dsimp only [dats]
/-- The result's window holds the step's block after it. -/
theorem after0_25 (c : Dev nD) (t : Fin cfg0.N) : (dats m 0 c).after 25 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 holds the argument's block before every step. -/
theorem before0_1 (c : Dev nD) (t : Fin cfg0.N) (d) : (dats m 0 c).before 1 t d = iblk m c 1 t :=
  before0_1_of m (dats m 0 c) (A_eq m c 1) (after0_1 m c) t d
/-- Window 2 holds the argument's block before every step. -/
theorem before0_2 (c : Dev nD) (t : Fin cfg0.N) (d) : (dats m 0 c).before 2 t d = iblk m c 2 t :=
  before0_2_of m (dats m 0 c) (A_eq m c 2) (after0_2 m c) t d
/-- Window 3 holds the argument's block before every step. -/
theorem before0_3 (c : Dev nD) (t : Fin cfg0.N) (d) : (dats m 0 c).before 3 t d = iblk m c 3 t :=
  before0_3_of m (dats m 0 c) (A_eq m c 3) (after0_3 m c) t d
/-- Window 4 holds the argument's block before every step. -/
theorem before0_4 (c : Dev nD) (t : Fin cfg0.N) (d) : (dats m 0 c).before 4 t d = iblk m c 4 t :=
  before0_4_of m (dats m 0 c) (A_eq m c 4) (after0_4 m c) t d
/-- Window 5 holds the argument's block before every step. -/
theorem before0_5 (c : Dev nD) (t : Fin cfg0.N) (d) : (dats m 0 c).before 5 t d = iblk m c 5 t :=
  before0_5_of m (dats m 0 c) (A_eq m c 5) (after0_5 m c) t d
/-- Window 6 holds the argument's block before every step. -/
theorem before0_6 (c : Dev nD) (t : Fin cfg0.N) (d) : (dats m 0 c).before 6 t d = iblk m c 6 t :=
  before0_6_of m (dats m 0 c) (A_eq m c 6) (after0_6 m c) t d
/-- Window 7 holds the argument's block before every step. -/
theorem before0_7 (c : Dev nD) (t : Fin cfg0.N) (d) : (dats m 0 c).before 7 t d = iblk m c 7 t :=
  before0_7_of m (dats m 0 c) (A_eq m c 7) (after0_7 m c) t d
/-- Window 8 holds the argument's block before every step. -/
theorem before0_8 (c : Dev nD) (t : Fin cfg0.N) (d) : (dats m 0 c).before 8 t d = iblk m c 8 t :=
  before0_8_of m (dats m 0 c) (A_eq m c 8) (after0_8 m c) t d
/-- Window 9 holds the argument's block before every step. -/
theorem before0_9 (c : Dev nD) (t : Fin cfg0.N) (d) : (dats m 0 c).before 9 t d = iblk m c 9 t :=
  before0_9_of m (dats m 0 c) (A_eq m c 9) (after0_9 m c) t d
/-- Window 10 holds the argument's block before every step. -/
theorem before0_10 (c : Dev nD) (t : Fin cfg0.N) (d) : (dats m 0 c).before 10 t d = iblk m c 10 t :=
  before0_10_of m (dats m 0 c) (A_eq m c 10) (after0_10 m c) t d
/-- Window 11 holds the argument's block before every step. -/
theorem before0_11 (c : Dev nD) (t : Fin cfg0.N) (d) : (dats m 0 c).before 11 t d = iblk m c 11 t :=
  before0_11_of m (dats m 0 c) (A_eq m c 11) (after0_11 m c) t d
/-- Window 12 holds the argument's block before every step. -/
theorem before0_12 (c : Dev nD) (t : Fin cfg0.N) (d) : (dats m 0 c).before 12 t d = iblk m c 12 t :=
  before0_12_of m (dats m 0 c) (A_eq m c 12) (after0_12 m c) t d
/-- Window 13 holds the argument's block before every step. -/
theorem before0_13 (c : Dev nD) (t : Fin cfg0.N) (d) : (dats m 0 c).before 13 t d = iblk m c 13 t :=
  before0_13_of m (dats m 0 c) (A_eq m c 13) (after0_13 m c) t d
/-- Window 14 holds the argument's block before every step. -/
theorem before0_14 (c : Dev nD) (t : Fin cfg0.N) (d) : (dats m 0 c).before 14 t d = iblk m c 14 t :=
  before0_14_of m (dats m 0 c) (A_eq m c 14) (after0_14 m c) t d
/-- Window 15 holds the argument's block before every step. -/
theorem before0_15 (c : Dev nD) (t : Fin cfg0.N) (d) : (dats m 0 c).before 15 t d = iblk m c 15 t :=
  before0_15_of m (dats m 0 c) (A_eq m c 15) (after0_15 m c) t d
/-- Window 16 holds the argument's block before every step. -/
theorem before0_16 (c : Dev nD) (t : Fin cfg0.N) (d) : (dats m 0 c).before 16 t d = iblk m c 16 t :=
  before0_16_of m (dats m 0 c) (A_eq m c 16) (after0_16 m c) t d
/-- Window 17 holds the argument's block before every step. -/
theorem before0_17 (c : Dev nD) (t : Fin cfg0.N) (d) : (dats m 0 c).before 17 t d = iblk m c 17 t :=
  before0_17_of m (dats m 0 c) (A_eq m c 17) (after0_17 m c) t d
/-- Window 18 holds the argument's block before every step. -/
theorem before0_18 (c : Dev nD) (t : Fin cfg0.N) (d) : (dats m 0 c).before 18 t d = iblk m c 18 t :=
  before0_18_of m (dats m 0 c) (A_eq m c 18) (after0_18 m c) t d
/-- Window 19 holds the argument's block before every step. -/
theorem before0_19 (c : Dev nD) (t : Fin cfg0.N) (d) : (dats m 0 c).before 19 t d = iblk m c 19 t :=
  before0_19_of m (dats m 0 c) (A_eq m c 19) (after0_19 m c) t d
/-- Window 20 holds the argument's block before every step. -/
theorem before0_20 (c : Dev nD) (t : Fin cfg0.N) (d) : (dats m 0 c).before 20 t d = iblk m c 20 t :=
  before0_20_of m (dats m 0 c) (A_eq m c 20) (after0_20 m c) t d
/-- Window 21 holds the argument's block before every step. -/
theorem before0_21 (c : Dev nD) (t : Fin cfg0.N) (d) : (dats m 0 c).before 21 t d = iblk m c 21 t :=
  before0_21_of m (dats m 0 c) (A_eq m c 21) (after0_21 m c) t d
/-- Window 22 holds the argument's block before every step. -/
theorem before0_22 (c : Dev nD) (t : Fin cfg0.N) (d) : (dats m 0 c).before 22 t d = iblk m c 22 t :=
  before0_22_of m (dats m 0 c) (A_eq m c 22) (after0_22 m c) t d
/-- Window 23 holds the argument's block before every step. -/
theorem before0_23 (c : Dev nD) (t : Fin cfg0.N) (d) : (dats m 0 c).before 23 t d = iblk m c 23 t :=
  before0_23_of m (dats m 0 c) (A_eq m c 23) (after0_23 m c) t d
/-- Window 24 holds the argument's block before every step. -/
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_25
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [HS0]; · iexact HS0
  iintro ⟨H0, H1, H2, H3, H4, H5, H6, H7, H8, H9, H10, H11, H12, H13, H14, H15, H16, H17, H18, H19, H20, H21, H22, H23, H24, ⟨%e25, H25⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  θ_run_and (unchanged m ρ) ((θ_run defs _ _).mono (fun _ h => h.2) (run_main_quiescent m ρ))

end Cert.KernelIdeal.Gen

end
-- ==== Proof.IdealValue.lean ====
/- The value of the idealized kernel block by block: what each grid point writes back to the result, and that block `t` of the
   final array is what point `t` wrote. It follows the generated value module. -/
module

public import proofs.«01_k».proof.Proof.IdealFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 25's array: the run's contents for that window after the body (`Gen.outsAt0`), read through the window's block. -/
theorem flushed25 (c : Dev nD) (t : Fin cfg0.N) :
    (dats m 0 c).flushed 25 t = (cfg0.win 25).cut (grid0.coords t) (outsAt0 m c t) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  simp only [flushed25, outsAt0]

/-- The index map sends distinct grid points to distinct block indices (decided over the 4 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S4x4096x256.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v37) = (dats m 0 c).arrAt 25 cfg0.N :=
  (h c).1 25

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: input window 14 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 14).trans (((dats m 0 c).arrAt_in 14 rfl _).trans ((A_eq m c 14).trans (V_main_arg16 m c)))

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- After the frame run, argument `main_arg22` is as launched: input window 18 stages it and never writes it back. -/
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).1 18).trans (((dats m 0 c).arrAt_in 18 rfl _).trans ((A_eq m c 18).trans (V_main_arg22 m c)))

/-- After the frame run, argument `main_arg23` is as launched: input window 19 stages it and never writes it back. -/
theorem kept_main_arg23 (r : PUnit × MemSt nD τ sig (Elt F)) (h : Pipeline.FramePost cfgs (dats m) 0 (V m) r) (c : Dev nD) :
    r.2.mem ((c : Thread nD τ).loc main_arg23) = m ((c : Thread nD τ).loc main_arg23) :=
  ((h c).1 19).trans (((dats m 0 c).arrAt_in 19 rfl _).trans ((A_eq m c 19).trans (V_main_arg23 m c)))

/-- After the frame run, argument `main_arg24` is as launched: input window 20 stages it and never writes it back. -/
theorem kept_main_arg24 (r : PUnit × MemSt nD τ sig (Elt F)) (h : Pipeline.FramePost cfgs (dats m) 0 (V m) r) (c : Dev nD) :
    r.2.mem ((c : Thread nD τ).loc main_arg24) = m ((c : Thread nD τ).loc main_arg24) :=
  ((h c).1 20).trans (((dats m 0 c).arrAt_in 20 rfl _).trans ((A_eq m c 20).trans (V_main_arg24 m c)))

/-- After the frame run, argument `main_arg25` is as launched: no window stages it, and the run leaves the region's other buffers as they were. -/
theorem kept_main_arg25 (r : PUnit × MemSt nD τ sig (Elt F)) (h : Pipeline.FramePost cfgs (dats m) 0 (V m) r) (c : Dev nD) :
    r.2.mem ((c : Thread nD τ).loc main_arg25) = m ((c : Thread nD τ).loc main_arg25) :=
  ((h c).2 main_arg25 (Pipeline.mem_restRefs_of main_arg25 (by decide) (by decide))).trans (V_main_arg25 m c)

/-- After the frame run, argument `main_arg26` is as launched: no window stages it, and the run leaves the region's other buffers as they were. -/
theorem kept_main_arg26 (r : PUnit × MemSt nD τ sig (Elt F)) (h : Pipeline.FramePost cfgs (dats m) 0 (V m) r) (c : Dev nD) :
    r.2.mem ((c : Thread nD τ).loc main_arg26) = m ((c : Thread nD τ).loc main_arg26) :=
  ((h c).2 main_arg26 (Pipeline.mem_restRefs_of main_arg26 (by decide) (by decide))).trans (V_main_arg26 m c)

/-- After the frame run, argument `main_arg27` is as launched: no window stages it, and the run leaves the region's other buffers as they were. -/
theorem kept_main_arg27 (r : PUnit × MemSt nD τ sig (Elt F)) (h : Pipeline.FramePost cfgs (dats m) 0 (V m) r) (c : Dev nD) :
    r.2.mem ((c : Thread nD τ).loc main_arg27) = m ((c : Thread nD τ).loc main_arg27) :=
  ((h c).2 main_arg27 (Pipeline.mem_restRefs_of main_arg27 (by decide) (by decide))).trans (V_main_arg27 m c)

/-- After the frame run, argument `main_arg28` is as launched: no window stages it, and the run leaves the region's other buffers as they were. -/
theorem kept_main_arg28 (r : PUnit × MemSt nD τ sig (Elt F)) (h : Pipeline.FramePost cfgs (dats m) 0 (V m) r) (c : Dev nD) :
    r.2.mem ((c : Thread nD τ).loc main_arg28) = m ((c : Thread nD τ).loc main_arg28) :=
  ((h c).2 main_arg28 (Pipeline.mem_restRefs_of main_arg28 (by decide) (by decide))).trans (V_main_arg28 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v37) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28) :=
  (θ_run defs _ _).mono (fun r h c => ⟨post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c,
      kept_main_arg28 m r h c⟩)
    (run_main m ρ)

end Cert.KernelIdeal.Value

end
-- ==== Proof.Claims.lean ====
/- The frames of the three programs, and that the idealized kernel is the kernel with its constant named. -/
module

public import proofs.«01_k».proof.Defs
public import proofs.«01_k».proof.Proof.Gen.Kernel
public import proofs.«01_k».proof.Proof.KernelFrame
public import proofs.«01_k».proof.Proof.Gen.KernelIdeal
public import proofs.«01_k».proof.Proof.IdealValue
public import proofs.«01_k».proof.Proof.Gen.ReferenceIdeal.Run
public import Idealize.ShloMosaic.Lib.Quiescent

@[expose] public section

noncomputable section

namespace Cert.Claims

open Idealize.ShloMosaic Idealize.ShloMosaic.TcCoe Idealize.SL.Sem

/-- The kernel ends with its arguments unchanged. -/
theorem frame_p : Cert.quiescent_Kernel := fun m ρ _ => Cert.Kernel.Gen.frame m ρ
/-- The idealized kernel ends with its arguments unchanged. -/
theorem frame_pi : Cert.quiescent_KernelIdeal := fun m ρ _ => Cert.KernelIdeal.Gen.frame m ρ
/-- The reference ends with its arguments unchanged. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two spellings of `1/√2` the kernel holds are named by the real number they were rounded from. -/
theorem preserves : Cert.preserves_Kernel_KernelIdeal :=
  ⟨IdealRules.named_const.statement Cert.KernelIdeal.κ "inv_sqrt2" .f32 0x3F3504F3#32 (((Real.sqrt 2)⁻¹ : ℝ) : EReal) rfl,
   IdealRules.named_const.statement Cert.KernelIdeal.κ "inv_sqrt2" .bf16 0x3F35#16 (((Real.sqrt 2)⁻¹ : ℝ) : EReal) rfl⟩

end Cert.Claims

end
-- ==== Proof.Model.lean ====
/- The network over the real numbers: what one layer of the spatio-temporal denoiser computes, row by row, frame by
   frame. Both programs are read as these functions; nothing here mentions a program. -/
module

public import Idealize.ShloMosaic.PureOps.Ideal

@[expose] public section

noncomputable section

open scoped BigOperators

namespace Cert.Model

/-- One row of channels. -/
abbrev Row := Fin 256 → ℝ
/-- The rows of the 32 joints of one frame. -/
abbrev Frame := Fin 32 → Row
/-- The 128 frames of one batch element. -/
abbrev Body := Fin 128 → Frame

/-- The variance offset `1e-5`, as the single-precision word both programs hold. -/
def eps : ℝ := 10995116 / 2 ^ 40
/-- The attention scale `1/√32`, as the single-precision word both programs hold. -/
def scale : ℝ := 11863283 / 2 ^ 26
/-- `-log 10000`, as the single-precision word the reference holds. -/
def logBase : ℝ := -(9657742 / 2 ^ 20)

/-- The variance's offset is positive. -/
theorem eps_pos : 0 < eps := by unfold eps; norm_num

/-- The mean of a row. -/
def mean (x : Row) : ℝ := (∑ d, x d) / 256
/-- The variance of a row. -/
def var (x : Row) : ℝ := mean fun d => (x d - mean x) * (x d - mean x)
/-- A row centred and divided by its deviation. -/
def nrm (x : Row) : Row := fun d => (x d - mean x) / Real.sqrt (var x + eps)
/-- Layer normalisation with gain `g` and offset `b`. -/
def ln (x g b : Row) : Row := fun d => nrm x d * g d + b d
/-- A vector times a matrix, plus an offset. -/
def lin {n k : ℕ} (y : Fin n → ℝ) (W : Fin n → Fin k → ℝ) (b : Fin k → ℝ) : Fin k → ℝ := fun j => (∑ i, y i * W i j) + b j
/-- The error function. -/
def erf (x : ℝ) : ℝ := 2 / Real.sqrt Real.pi * ∫ t in (0 : ℝ)..x, Real.exp (-(t ^ 2))
/-- The Gaussian error linear unit. -/
def gelu (x : ℝ) : ℝ := 1 / 2 * x * (1 + erf (x / Real.sqrt 2))

/-- A variance isn't negative. -/
theorem var_nonneg (x : Row) : 0 ≤ var x :=
  div_nonneg (Finset.sum_nonneg fun _ _ => mul_self_nonneg _) (by norm_num)
/-- A variance plus the offset is positive. -/
theorem var_eps_pos (x : Row) : 0 < var x + eps := add_pos_of_nonneg_of_pos (var_nonneg x) eps_pos
/-- Its root isn't zero. -/
theorem sqrt_var_ne (x : Row) : Real.sqrt (var x + eps) ≠ 0 := (Real.sqrt_pos.mpr (var_eps_pos x)).ne'

/-- The channel of position `e` in head `h`. -/
def chan (h : Fin 8) (e : Fin 32) : Fin 256 := ⟨h.val * 32 + e.val, by omega⟩
/-- The head a channel belongs to. -/
def headOf (d : Fin 256) : Fin 8 := ⟨d.val / 32, by omega⟩
/-- Two joints of the chain are the same or adjacent. -/
def near (i j : Fin 32) : Prop := i.val ≤ j.val + 1 ∧ j.val ≤ i.val + 1
/-- Whether two joints are neighbours is decidable. -/
instance (i j : Fin 32) : Decidable (near i j) := inferInstanceAs (Decidable (_ ∧ _))

/-- The scaled product of joint `i`'s query and joint `j`'s key in head `h`. -/
def score (Q K : Frame) (h : Fin 8) (i j : Fin 32) : ℝ := (∑ e, Q i (chan h e) * K j (chan h e)) * scale
/-- The unnormalised attention weight: nothing outside the neighbourhood. -/
def wgt (Q K : Frame) (h : Fin 8) (i j : Fin 32) : ℝ := if near i j then Real.exp (score Q K h i j) else 0
/-- The attended row of joint `i`. -/
def att (Q K V : Frame) (i : Fin 32) : Row := fun d =>
  ∑ j, V j d * (wgt Q K (headOf d) i j / ∑ j', wgt Q K (headOf d) i j')

/-- The parameters of one layer. -/
structure Par where
  g1 : Row
  b1 : Row
  Wqkv : Fin 256 → Fin 768 → ℝ
  bqkv : Fin 768 → ℝ
  Wo : Fin 256 → Fin 256 → ℝ
  bo : Row
  g2 : Row
  b2 : Row
  W1 : Fin 256 → Fin 1024 → ℝ
  c1 : Fin 1024 → ℝ
  W2 : Fin 1024 → Fin 256 → ℝ
  c2 : Row
  g3 : Row
  b3 : Row
  Wc : Fin 3 → Fin 256 → Fin 256 → ℝ
  bc : Row

/-- Queries, keys and values of one row, side by side. -/
def qkv (p : Par) (x : Row) : Fin 768 → ℝ := lin (ln x p.g1 p.b1) p.Wqkv p.bqkv
/-- The queries among the projected columns. -/
def qOf (f : Fin 768 → ℝ) : Row := fun d => f ⟨d.val, by omega⟩
/-- The keys among them. -/
def kOf (f : Fin 768 → ℝ) : Row := fun d => f ⟨256 + d.val, by omega⟩
/-- The values among them. -/
def vOf (f : Fin 768 → ℝ) : Row := fun d => f ⟨512 + d.val, by omega⟩

/-- The attended rows of a frame. -/
def attended (p : Par) (x : Frame) : Frame :=
  att (fun i => qOf (qkv p (x i))) (fun i => kOf (qkv p (x i))) (fun i => vOf (qkv p (x i)))
/-- The attention block of one frame, with its residual. -/
def attn (p : Par) (x : Frame) : Frame := fun i k => (x i k + ∑ d, attended p x i d * p.Wo d k) + p.bo k
/-- The feed-forward block of one row, with its residual. -/
def mlp (p : Par) (x : Row) : Row := fun k =>
  (x k + ∑ u, gelu (lin (ln x p.g2 p.b2) p.W1 p.c1 u) * p.W2 u k) + p.c2 k
/-- The normalised rows the convolution reads, zero before the first frame and after the last. -/
def convIn (p : Par) (X : Body) (t : ℕ) (i : Fin 32) : Row := fun d =>
  if h : 1 ≤ t ∧ t - 1 < 128 then ln (X ⟨t - 1, h.2⟩ i) p.g3 p.b3 d else 0
/-- The temporal convolution of width three (tap `s` at frame `t` reads padded frame `t + s`). -/
def convAt (p : Par) (X : Body) (t : Fin 128) (i : Fin 32) : Row := fun k =>
  (∑ d, convIn p X (t.val + 0) i d * p.Wc 0 d k) + (∑ d, convIn p X (t.val + 1) i d * p.Wc 1 d k)
    + (∑ d, convIn p X (t.val + 2) i d * p.Wc 2 d k) + p.bc k
/-- The convolution block, with its residual. -/
def conv (p : Par) (X : Body) : Body := fun t i k => X t i k + gelu (convAt p X t i k)
/-- One layer. -/
def layer (p : Par) (X : Body) : Body := conv p fun t i => mlp p (attn p (X t) i)

/-- The sinusoidal embedding of a time step. -/
def temb (t : ℝ) : Row := fun d =>
  if d.val < 128 then Real.cos (t * Real.exp (logBase * (d.val : ℝ) / 128))
  else Real.sin (t * Real.exp (logBase * ((d.val - 128 : ℕ) : ℝ) / 128))

/-- The parameters of the input stage. -/
structure Emb where
  tW1 : Fin 256 → Fin 256 → ℝ
  tb1 : Row
  tW2 : Fin 256 → Fin 256 → ℝ
  tb2 : Row
  cW1 : Fin 256 → Fin 512 → ℝ
  cb1 : Fin 512 → ℝ
  cW2 : Fin 512 → Fin 512 → ℝ
  cb2 : Fin 512 → ℝ

/-- The time step's row. -/
def timeRow (p : Emb) (t : ℝ) : Row := lin (fun u => gelu (lin (temb t) p.tW1 p.tb1 u)) p.tW2 p.tb2
/-- The gains and offsets the conditioning vector gives. -/
def film (p : Emb) (h : Row) : Fin 512 → ℝ := lin (fun u => gelu (lin h p.cW1 p.cb1 u)) p.cW2 p.cb2
/-- The state before the first layer. -/
def start (p : Emb) (t : ℝ) (h : Row) (z : Body) : Body := fun f i d =>
  (z f i d + timeRow p t d) * (1 + film p h ⟨d.val, by omega⟩) + film p h ⟨256 + d.val, by omega⟩

/-- The output projection. -/
def out (W : Fin 256 → Fin 256 → ℝ) (b : Row) (X : Body) : Body := fun f i => lin (X f i) W b

/-- The whole network on one batch element. -/
def net (e : Emb) (p : Fin 6 → Par) (W : Fin 256 → Fin 256 → ℝ) (b : Row) (t : ℝ) (h : Row) (z : Body) : Body :=
  out W b (layer (p 5) (layer (p 4) (layer (p 3) (layer (p 2) (layer (p 1) (layer (p 0) (start e t h z)))))))

end Cert.Model

end
-- ==== Proof.Args.lean ====
/- The real numbers the arguments hold, and what it means that the argument arrays hold them. -/
module

public import proofs.«01_k».proof.Proof.Model
public import Idealize.ShloMosaic.Lib.Pointwise

@[expose] public section

noncomputable section

namespace Cert

open Idealize.ShloMosaic

/-- The real arguments of the network, in the order of the programs' arguments. -/
structure Args where
  z : Fin 4 → Model.Body
  t : Fin 4 → ℝ
  h : Fin 4 → Model.Row
  emb : Model.Emb
  par : Fin 6 → Model.Par
  oW : Fin 256 → Fin 256 → ℝ
  ob : Model.Row

/-- The state before the first layer. -/
def Args.start (A : Args) : Fin 4 → Model.Body := fun b => Model.start A.emb (A.t b) (A.h b) (A.z b)
/-- The state after the first `n` layers. -/
def Args.after (A : Args) : ℕ → Fin 4 → Model.Body
  | 0 => A.start
  | n + 1 => fun b => Model.layer (A.par (Fin.ofNat 6 n)) (A.after n b)
/-- The network's result. -/
def Args.result (A : Args) : Fin 4 → Model.Body := fun b => Model.out A.oW A.ob (A.after 6 b)

/-- The array holds the real numbers of `g`, layer by layer. -/
def Holds2 {l n : ℕ} (x : FVec Ideal ⟨2, ![l, n]⟩ .f32) (g : Fin l → Fin n → ℝ) : Prop :=
  ∀ a i, x (ix2 a i) = ((g a i : ℝ) : EReal)
/-- The same with one more axis. -/
def Holds3 {l n k : ℕ} (x : FVec Ideal ⟨3, ![l, n, k]⟩ .f32) (g : Fin l → Fin n → Fin k → ℝ) : Prop :=
  ∀ a i j, x (ix3 a i j) = ((g a i j : ℝ) : EReal)
/-- The same with two more axes. -/
def Holds4 {l s n k : ℕ} (x : FVec Ideal ⟨4, ![l, s, n, k]⟩ .f32) (g : Fin l → Fin s → Fin n → Fin k → ℝ) : Prop :=
  ∀ a s i j, x (ix4 a s i j) = ((g a s i j : ℝ) : EReal)
/-- The vector holds the real numbers of `g`. -/
def Holds1 {n : ℕ} (x : FVec Ideal ⟨1, ![n]⟩ .f32) (g : Fin n → ℝ) : Prop := ∀ d, x (ix1 d) = ((g d : ℝ) : EReal)

/-- The arrays hold the real arguments `A`. -/
structure Held (A : Args)
    (a0 : FVec Ideal ⟨4, ![4, 128, 32, 256]⟩ .f32) (a1 : IVec ⟨1, ![4]⟩ 32) (a2 : FVec Ideal ⟨2, ![4, 256]⟩ .f32)
    (a3 : FVec Ideal ⟨2, ![256, 256]⟩ .f32) (a4 : FVec Ideal ⟨1, ![256]⟩ .f32) (a5 : FVec Ideal ⟨2, ![256, 256]⟩ .f32)
    (a6 : FVec Ideal ⟨1, ![256]⟩ .f32) (a7 : FVec Ideal ⟨2, ![256, 512]⟩ .f32) (a8 : FVec Ideal ⟨1, ![512]⟩ .f32)
    (a9 : FVec Ideal ⟨2, ![512, 512]⟩ .f32) (a10 : FVec Ideal ⟨1, ![512]⟩ .f32)
    (a11 a12 : FVec Ideal ⟨2, ![6, 256]⟩ .f32) (a13 : FVec Ideal ⟨3, ![6, 256, 768]⟩ .f32) (a14 : FVec Ideal ⟨2, ![6, 768]⟩ .f32)
    (a15 : FVec Ideal ⟨3, ![6, 256, 256]⟩ .f32) (a16 a17 a18 : FVec Ideal ⟨2, ![6, 256]⟩ .f32)
    (a19 : FVec Ideal ⟨3, ![6, 256, 1024]⟩ .f32) (a20 : FVec Ideal ⟨2, ![6, 1024]⟩ .f32)
    (a21 : FVec Ideal ⟨3, ![6, 1024, 256]⟩ .f32) (a22 a23 a24 : FVec Ideal ⟨2, ![6, 256]⟩ .f32)
    (a25 : FVec Ideal ⟨4, ![6, 3, 256, 256]⟩ .f32) (a26 : FVec Ideal ⟨2, ![6, 256]⟩ .f32)
    (a27 : FVec Ideal ⟨2, ![256, 256]⟩ .f32) (a28 : FVec Ideal ⟨1, ![256]⟩ .f32) : Prop where
  h0 : Holds4 a0 A.z
  h1 : ∀ b, ((a1 (ix1 b)).toInt : ℝ) = A.t b
  h2 : Holds2 a2 A.h
  h3 : Holds2 a3 A.emb.tW1
  h4 : Holds1 a4 A.emb.tb1
  h5 : Holds2 a5 A.emb.tW2
  h6 : Holds1 a6 A.emb.tb2
  h7 : Holds2 a7 A.emb.cW1
  h8 : Holds1 a8 A.emb.cb1
  h9 : Holds2 a9 A.emb.cW2
  h10 : Holds1 a10 A.emb.cb2
  h11 : Holds2 a11 fun l => (A.par l).g1
  h12 : Holds2 a12 fun l => (A.par l).b1
  h13 : Holds3 a13 fun l => (A.par l).Wqkv
  h14 : Holds2 a14 fun l => (A.par l).bqkv
  h15 : Holds3 a15 fun l => (A.par l).Wo
  h16 : Holds2 a16 fun l => (A.par l).bo
  h17 : Holds2 a17 fun l => (A.par l).g2
  h18 : Holds2 a18 fun l => (A.par l).b2
  h19 : Holds3 a19 fun l => (A.par l).W1
  h20 : Holds2 a20 fun l => (A.par l).c1
  h21 : Holds3 a21 fun l => (A.par l).W2
  h22 : Holds2 a22 fun l => (A.par l).c2
  h23 : Holds2 a23 fun l => (A.par l).g3
  h24 : Holds2 a24 fun l => (A.par l).b3
  h25 : Holds4 a25 fun l => (A.par l).Wc
  h26 : Holds2 a26 fun l => (A.par l).bc
  h27 : Holds2 a27 A.oW
  h28 : Holds1 a28 A.ob

end Cert

end
-- ==== Proof.Finite.lean ====
/- The precondition says that every number of the arguments is finite: the arguments then hold real numbers. -/
module

public import proofs.«01_k».proof.Proof.Args
public import proofs.«01_k».proof.Proof.Gen.Pre_finite_arguments
public import Idealize.ShloMosaic.Lib.Pointwise
public import Idealize.ShloMosaic.Lib.ReduceAll

@[expose] public section

set_option maxRecDepth 16384

noncomputable section

namespace Cert.Finite

open Idealize.ShloMosaic Cert.Pre_finite_arguments Cert.Pre_finite_arguments.Gen

/-- Every entry of the array is a real number. -/
def AllReal {s : Shape} (x : FVec Ideal s .f32) : Prop := ∀ i, x i = (((x i).toReal : ℝ) : EReal)

/-- A number whose absolute value is below +∞ is a real number. -/
theorem real_of_abs_lt (x : Ideal .f32)
    (h : Ideal.cmp .olt (max (x : EReal) (-(x : EReal))) (Ideal.ofBits .f32 0x7F800000#32) = 1#1) :
    x = ((EReal.toReal x : ℝ) : EReal) := by
  have htop : Ideal.ofBits .f32 0x7F800000#32 = ⊤ := by simp [Ideal.ofBits, Ideal.ieee]
  rw [htop] at h
  have hlt : max (x : EReal) (-(x : EReal)) < ⊤ := by
    by_contra hn
    simp [Ideal.cmp, hn] at h
  obtain ⟨h1, h2⟩ := max_lt_iff.1 hlt
  refine (EReal.coe_toReal h1.ne fun hb => ?_).symm
  rw [hb] at h2
  simp at h2

/-- The scalars' one index. -/
instance : Subsingleton S_.Idx := ⟨fun _ _ => funext fun a => a.elim0⟩

/-- If "every absolute value is below +∞" came out true, every entry of the array is a real number. -/
theorem allReal_of_all {s : Shape} {axes : List (Fin s.rank)} (x : FVec Ideal s .f32)
    (hb : S_.BroadcastsInDim s (![] : Fin 0 → Fin s.rank)) (init : IVec S_ 1) (h : s.ReducesTo axes S_) (hu : 0 < S_.numel)
    (j : S_.Idx)
    (e : Host.reduce IntOp.andi (cmpf .olt (Host.absf x) (broadcastInDim s ![] hb (constant S_ .f32 0x7F800000#32))) init h hu j
      = 1#1) : AllReal x := fun i =>
  real_of_abs_lt (x i) (Host.reduce_andi_all _ _ _ _ j e i)

/-- If the conjunction is true, both parts are. -/
theorem both {a b : IVec S_ 1} {j : S_.Idx} (h : andi a b j = 1#1) : a j = 1#1 ∧ b j = 1#1 := IntOp.andi_eq_one.1 h

/-- The real numbers the argument arrays hold. -/
def argsOf (a0 : FVec Ideal S4x128x32x256 .f32) (a1 : IVec S4 32) (a2 : FVec Ideal S4x256 .f32)
    (a3 : FVec Ideal S256x256 .f32) (a4 : FVec Ideal S256 .f32) (a5 : FVec Ideal S256x256 .f32)
    (a6 : FVec Ideal S256 .f32) (a7 : FVec Ideal S256x512 .f32) (a8 : FVec Ideal S512 .f32)
    (a9 : FVec Ideal S512x512 .f32) (a10 : FVec Ideal S512 .f32) (a11 : FVec Ideal S6x256 .f32)
    (a12 : FVec Ideal S6x256 .f32) (a13 : FVec Ideal S6x256x768 .f32) (a14 : FVec Ideal S6x768 .f32)
    (a15 : FVec Ideal S6x256x256 .f32) (a16 : FVec Ideal S6x256 .f32) (a17 : FVec Ideal S6x256 .f32)
    (a18 : FVec Ideal S6x256 .f32) (a19 : FVec Ideal S6x256x1024 .f32) (a20 : FVec Ideal S6x1024 .f32)
    (a21 : FVec Ideal S6x1024x256 .f32) (a22 : FVec Ideal S6x256 .f32) (a23 : FVec Ideal S6x256 .f32)
    (a24 : FVec Ideal S6x256 .f32) (a25 : FVec Ideal S6x3x256x256 .f32) (a26 : FVec Ideal S6x256 .f32)
    (a27 : FVec Ideal S256x256 .f32) (a28 : FVec Ideal S256 .f32) : Args where
  z := fun i j k l => (a0 (ix4 i j k l)).toReal
  t := fun i => ((a1 (ix1 i)).toInt : ℝ)
  h := fun i j => (a2 (ix2 i j)).toReal
  emb :=
    { tW1 := fun i j => (a3 (ix2 i j)).toReal,
      tb1 := fun i => (a4 (ix1 i)).toReal,
      tW2 := fun i j => (a5 (ix2 i j)).toReal,
      tb2 := fun i => (a6 (ix1 i)).toReal,
      cW1 := fun i j => (a7 (ix2 i j)).toReal,
      cb1 := fun i => (a8 (ix1 i)).toReal,
      cW2 := fun i j => (a9 (ix2 i j)).toReal,
      cb2 := fun i => (a10 (ix1 i)).toReal }
  par := fun i =>
    { g1 := fun j => (a11 (ix2 i j)).toReal,
      b1 := fun j => (a12 (ix2 i j)).toReal,
      Wqkv := fun j k => (a13 (ix3 i j k)).toReal,
      bqkv := fun j => (a14 (ix2 i j)).toReal,
      Wo := fun j k => (a15 (ix3 i j k)).toReal,
      bo := fun j => (a16 (ix2 i j)).toReal,
      g2 := fun j => (a17 (ix2 i j)).toReal,
      b2 := fun j => (a18 (ix2 i j)).toReal,
      W1 := fun j k => (a19 (ix3 i j k)).toReal,
      c1 := fun j => (a20 (ix2 i j)).toReal,
      W2 := fun j k => (a21 (ix3 i j k)).toReal,
      c2 := fun j => (a22 (ix2 i j)).toReal,
      g3 := fun j => (a23 (ix2 i j)).toReal,
      b3 := fun j => (a24 (ix2 i j)).toReal,
      Wc := fun j k l => (a25 (ix4 i j k l)).toReal,
      bc := fun j => (a26 (ix2 i j)).toReal }
  oW := fun i j => (a27 (ix2 i j)).toReal
  ob := fun i => (a28 (ix1 i)).toReal

set_option maxHeartbeats 4000000 in
/-- Under the precondition the argument arrays hold real numbers. -/
theorem held_of_finite (a0 : FVec Ideal S4x128x32x256 .f32) (a1 : IVec S4 32) (a2 : FVec Ideal S4x256 .f32)
    (a3 : FVec Ideal S256x256 .f32) (a4 : FVec Ideal S256 .f32) (a5 : FVec Ideal S256x256 .f32)
    (a6 : FVec Ideal S256 .f32) (a7 : FVec Ideal S256x512 .f32) (a8 : FVec Ideal S512 .f32)
    (a9 : FVec Ideal S512x512 .f32) (a10 : FVec Ideal S512 .f32) (a11 : FVec Ideal S6x256 .f32)
    (a12 : FVec Ideal S6x256 .f32) (a13 : FVec Ideal S6x256x768 .f32) (a14 : FVec Ideal S6x768 .f32)
    (a15 : FVec Ideal S6x256x256 .f32) (a16 : FVec Ideal S6x256 .f32) (a17 : FVec Ideal S6x256 .f32)
    (a18 : FVec Ideal S6x256 .f32) (a19 : FVec Ideal S6x256x1024 .f32) (a20 : FVec Ideal S6x1024 .f32)
    (a21 : FVec Ideal S6x1024x256 .f32) (a22 : FVec Ideal S6x256 .f32) (a23 : FVec Ideal S6x256 .f32)
    (a24 : FVec Ideal S6x256 .f32) (a25 : FVec Ideal S6x3x256x256 .f32) (a26 : FVec Ideal S6x256 .f32)
    (a27 : FVec Ideal S256x256 .f32) (a28 : FVec Ideal S256 .f32)
    (h : fn (F := Ideal) a0 a1 a2 a3 a4 a5 a6 a7 a8 a9 a10 a11 a12 a13 a14 a15 a16 a17 a18 a19 a20 a21 a22 a23 a24 a25 a26 a27 a28 = fun _ => 1#1) :
    Held (argsOf a0 a1 a2 a3 a4 a5 a6 a7 a8 a9 a10 a11 a12 a13 a14 a15 a16 a17 a18 a19 a20 a21 a22 a23 a24 a25 a26 a27 a28) a0 a1 a2 a3 a4 a5 a6 a7 a8 a9 a10 a11 a12 a13 a14 a15 a16 a17 a18 a19 a20 a21 a22 a23 a24 a25 a26 a27 a28 := by
  have h0 := congrFun h ((fun a => a.elim0 : S_.Idx))
  simp only [fn, fn_part1, fn_part2, fn_part3, fn_part4, fn_part5, fn_part6, fn_part7, fn_part8] at h0
  obtain ⟨h0, e28⟩ := both h0
  obtain ⟨h0, e27⟩ := both h0
  obtain ⟨h0, e26⟩ := both h0
  obtain ⟨h0, e25⟩ := both h0
  obtain ⟨h0, e24⟩ := both h0
  obtain ⟨h0, e23⟩ := both h0
  obtain ⟨h0, e22⟩ := both h0
  obtain ⟨h0, e21⟩ := both h0
  obtain ⟨h0, e20⟩ := both h0
  obtain ⟨h0, e19⟩ := both h0
  obtain ⟨h0, e18⟩ := both h0
  obtain ⟨h0, e17⟩ := both h0
  obtain ⟨h0, e16⟩ := both h0
  obtain ⟨h0, e15⟩ := both h0
  obtain ⟨h0, e14⟩ := both h0
  obtain ⟨h0, e13⟩ := both h0
  obtain ⟨h0, e12⟩ := both h0
  obtain ⟨h0, e11⟩ := both h0
  obtain ⟨h0, e10⟩ := both h0
  obtain ⟨h0, e9⟩ := both h0
  obtain ⟨h0, e8⟩ := both h0
  obtain ⟨h0, e7⟩ := both h0
  obtain ⟨h0, e6⟩ := both h0
  obtain ⟨h0, e5⟩ := both h0
  obtain ⟨h0, e4⟩ := both h0
  obtain ⟨h0, e3⟩ := both h0
  obtain ⟨e0, e2⟩ := both h0
  exact
    { h0 := fun i j k l => allReal_of_all a0 _ _ _ _ _ e0 (ix4 i j k l),
      h1 := fun _ => rfl,
      h2 := fun i j => allReal_of_all a2 _ _ _ _ _ e2 (ix2 i j),
      h3 := fun i j => allReal_of_all a3 _ _ _ _ _ e3 (ix2 i j),
      h4 := fun i => allReal_of_all a4 _ _ _ _ _ e4 (ix1 i),
      h5 := fun i j => allReal_of_all a5 _ _ _ _ _ e5 (ix2 i j),
      h6 := fun i => allReal_of_all a6 _ _ _ _ _ e6 (ix1 i),
      h7 := fun i j => allReal_of_all a7 _ _ _ _ _ e7 (ix2 i j),
      h8 := fun i => allReal_of_all a8 _ _ _ _ _ e8 (ix1 i),
      h9 := fun i j => allReal_of_all a9 _ _ _ _ _ e9 (ix2 i j),
      h10 := fun i => allReal_of_all a10 _ _ _ _ _ e10 (ix1 i),
      h11 := fun i j => allReal_of_all a11 _ _ _ _ _ e11 (ix2 i j),
      h12 := fun i j => allReal_of_all a12 _ _ _ _ _ e12 (ix2 i j),
      h13 := fun i j k => allReal_of_all a13 _ _ _ _ _ e13 (ix3 i j k),
      h14 := fun i j => allReal_of_all a14 _ _ _ _ _ e14 (ix2 i j),
      h15 := fun i j k => allReal_of_all a15 _ _ _ _ _ e15 (ix3 i j k),
      h16 := fun i j => allReal_of_all a16 _ _ _ _ _ e16 (ix2 i j),
      h17 := fun i j => allReal_of_all a17 _ _ _ _ _ e17 (ix2 i j),
      h18 := fun i j => allReal_of_all a18 _ _ _ _ _ e18 (ix2 i j),
      h19 := fun i j k => allReal_of_all a19 _ _ _ _ _ e19 (ix3 i j k),
      h20 := fun i j => allReal_of_all a20 _ _ _ _ _ e20 (ix2 i j),
      h21 := fun i j k => allReal_of_all a21 _ _ _ _ _ e21 (ix3 i j k),
      h22 := fun i j => allReal_of_all a22 _ _ _ _ _ e22 (ix2 i j),
      h23 := fun i j => allReal_of_all a23 _ _ _ _ _ e23 (ix2 i j),
      h24 := fun i j => allReal_of_all a24 _ _ _ _ _ e24 (ix2 i j),
      h25 := fun i j k l => allReal_of_all a25 _ _ _ _ _ e25 (ix4 i j k l),
      h26 := fun i j => allReal_of_all a26 _ _ _ _ _ e26 (ix2 i j),
      h27 := fun i j => allReal_of_all a27 _ _ _ _ _ e27 (ix2 i j),
      h28 := fun i => allReal_of_all a28 _ _ _ _ _ e28 (ix1 i) }

end Cert.Finite

end
-- ==== Proof.Reals.lean ====
/- The float constants the two programs spell, as the real numbers they denote, and the arithmetic of the extended reals on
   finite numbers: sums, quotients and roots of real numbers are real. -/
module

public import Idealize.ShloMosaic.PureOps.Ideal
public import proofs.«01_k».proof.Proof.Model

@[expose] public section

noncomputable section

open scoped BigOperators

namespace Cert.Reals

open Idealize.ShloMosaic

/-- The word of 0. -/
theorem f32_zero : Ideal.ofBits .f32 0x00000000#32 = ((0 : ℝ) : EReal) := by
  simp [Ideal.ofBits, Ideal.ieee, -EReal.coe_mul]
/-- The word of 1/2. -/
theorem f32_half : Ideal.ofBits .f32 0x3F000000#32 = ((1 / 2 : ℝ) : EReal) := by
  simp [Ideal.ofBits, Ideal.ieee, -EReal.coe_mul]; norm_num
/-- The word of 1. -/
theorem f32_one : Ideal.ofBits .f32 0x3F800000#32 = ((1 : ℝ) : EReal) := by
  simp [Ideal.ofBits, Ideal.ieee, -EReal.coe_mul]; norm_num
/-- The word of 2. -/
theorem f32_two : Ideal.ofBits .f32 0x40000000#32 = ((2 : ℝ) : EReal) := by
  simp [Ideal.ofBits, Ideal.ieee, -EReal.coe_mul]; norm_num
/-- The word of 128. -/
theorem f32_128 : Ideal.ofBits .f32 0x43000000#32 = ((128 : ℝ) : EReal) := by
  simp [Ideal.ofBits, Ideal.ieee, -EReal.coe_mul]; norm_num
/-- The word of 256. -/
theorem f32_256 : Ideal.ofBits .f32 0x43800000#32 = ((256 : ℝ) : EReal) := by
  simp [Ideal.ofBits, Ideal.ieee, -EReal.coe_mul]; norm_num
/-- The variance offset. -/
theorem f32_eps : Ideal.ofBits .f32 0x3727C5AC#32 = ((Model.eps : ℝ) : EReal) := by
  unfold Model.eps; simp [Ideal.ofBits, Ideal.ieee, -EReal.coe_mul]; norm_num
/-- The attention scale. -/
theorem f32_scale : Ideal.ofBits .f32 0x3E3504F3#32 = ((Model.scale : ℝ) : EReal) := by
  unfold Model.scale; simp [Ideal.ofBits, Ideal.ieee, -EReal.coe_mul]; norm_num
/-- The reference's logarithm of the longest period, negated. -/
theorem f32_log : Ideal.ofBits .f32 0xC1135D8E#32 = ((Model.logBase : ℝ) : EReal) := by
  unfold Model.logBase; simp [Ideal.ofBits, Ideal.ieee, -EReal.coe_mul]; norm_num
/-- The same over 128, as the kernel spells it: the division is exact. -/
theorem f32_log128 : Ideal.ofBits .f32 0xBD935D8E#32 = ((Model.logBase / 128 : ℝ) : EReal) := by
  unfold Model.logBase; simp [Ideal.ofBits, Ideal.ieee, -EReal.coe_mul]; norm_num
/-- The word of −∞. -/
theorem f32_bot : Ideal.ofBits .f32 0xFF800000#32 = (⊥ : EReal) := by
  simp [Ideal.ofBits, Ideal.ieee, -EReal.coe_mul]
/-- The bf16 word of 0. -/
theorem bf16_zero : Ideal.ofBits .bf16 0x0000#16 = ((0 : ℝ) : EReal) := by
  simp [Ideal.ofBits, Ideal.ieee, -EReal.coe_mul]
/-- The bf16 word of 1/2. -/
theorem bf16_half : Ideal.ofBits .bf16 0x3F00#16 = ((1 / 2 : ℝ) : EReal) := by
  simp [Ideal.ofBits, Ideal.ieee, -EReal.coe_mul]; norm_num
/-- The bf16 word of 1. -/
theorem bf16_one : Ideal.ofBits .bf16 0x3F80#16 = ((1 : ℝ) : EReal) := by
  simp [Ideal.ofBits, Ideal.ieee, -EReal.coe_mul]; norm_num

/-- A sum of real numbers is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]
/-- The quotient of two real numbers is real, the divisor not zero. -/
theorem coe_div (x : ℝ) {y : ℝ} (h : y ≠ 0) : Ideal.div (x : EReal) (y : EReal) = ((x / y : ℝ) : EReal) := by
  rw [Ideal.div_coe h, ← EReal.coe_mul, mul_one_div]
/-- The root of a number that is not negative is real. -/
theorem coe_sqrt {x : ℝ} (h : 0 ≤ x) : Ideal.sqrt (x : EReal) = ((Real.sqrt x : ℝ) : EReal) := by
  rw [Ideal.sqrt_coe, if_neg (not_lt.mpr h)]
/-- The reciprocal root of a positive number is real. -/
theorem coe_rsqrt {x : ℝ} (h : 0 < x) : Ideal.rsqrt (x : EReal) = (((Real.sqrt x)⁻¹ : ℝ) : EReal) := by
  rw [Ideal.rsqrt_coe, if_neg (not_lt.mpr h.le), if_neg h.ne']

end Cert.Reals

end
-- ==== Proof.KerModel.lean ====
/- The equations over the real numbers between what the kernel does and the model: attention over at most three
   neighbours with the heads summed by a 0/1 matrix, and gains, offsets and the scale folded into the weights. -/
module

public import proofs.«01_k».proof.Proof.Model

@[expose] public section

noncomputable section

open scoped BigOperators

namespace Cert.Model

/-- The product of two rows summed over the channels of `d`'s head. -/
def headSum (q k : Row) : Row := fun d => ∑ e : Fin 256, q e * k e * (if e.val / 32 = d.val / 32 then 1 else 0)

/-- A sum over all channels masked to one head is the sum over that head's channels. -/
theorem sum_head (f : Fin 256 → ℝ) (d : Fin 256) :
    (∑ e : Fin 256, f e * (if e.val / 32 = d.val / 32 then 1 else 0)) = ∑ e, f (chan (headOf d) e) := by
  rw [← Equiv.sum_comp (finProdFinEquiv : Fin 8 × Fin 32 ≃ Fin 256), Fintype.sum_prod_type]
  rw [Finset.sum_eq_single (headOf d)]
  · refine Finset.sum_congr rfl fun e _ => ?_
    have h1 : (finProdFinEquiv (headOf d, e) : Fin 256) = chan (headOf d) e :=
      Fin.ext (by simp only [finProdFinEquiv_apply_val, chan]; ring)
    rw [h1, if_pos (by simp only [chan, headOf]; omega), mul_one]
  · intro h _ hne
    refine Finset.sum_eq_zero fun e _ => ?_
    rw [if_neg, mul_zero]
    intro he
    refine hne (Fin.ext ?_)
    simp only [finProdFinEquiv_apply_val, headOf] at he ⊢
    omega
  · intro h; exact absurd (Finset.mem_univ _) h

/-- A sum over the neighbours of a joint has at most three terms. -/
theorem sum_near (i : Fin 32) (f : Fin 32 → ℝ) :
    (∑ j, if near i j then f j else 0) =
      f i + (if h : i.val = 0 then 0 else f ⟨i.val - 1, by omega⟩) + (if h : i.val = 31 then 0 else f ⟨i.val + 1, by omega⟩) := by
  have hs : ∀ j : Fin 32, (if near i j then f j else 0) = (if j = i then f j else 0) + (if j.val + 1 = i.val then f j else 0)
      + (if j.val = i.val + 1 then f j else 0) := by
    intro j
    have e : (j = i) ↔ j.val = i.val := Fin.ext_iff
    by_cases h0 : j.val = i.val
    · rw [if_pos (show near i j by unfold near; omega), if_pos (e.mpr h0), if_neg (by omega), if_neg (by omega), add_zero, add_zero]
    by_cases h1 : j.val + 1 = i.val
    · rw [if_pos (show near i j by unfold near; omega), if_neg (mt e.mp h0), if_pos h1, if_neg (by omega), zero_add, add_zero]
    by_cases h2 : j.val = i.val + 1
    · rw [if_pos (show near i j by unfold near; omega), if_neg (mt e.mp h0), if_neg h1, if_pos h2, zero_add, zero_add]
    rw [if_neg (show ¬ near i j by unfold near; omega), if_neg (mt e.mp h0), if_neg h1, if_neg h2, add_zero, add_zero]
  simp only [hs, Finset.sum_add_distrib, Finset.sum_ite_eq', Finset.mem_univ, if_true]
  congr 1
  · congr 1
    split_ifs with h
    · exact Finset.sum_eq_zero fun j _ => if_neg (by omega)
    · rw [Finset.sum_eq_single (⟨i.val - 1, by omega⟩ : Fin 32)]
      · exact if_pos (Nat.sub_add_cancel (by omega))
      · intro j _ hj; exact if_neg fun he => hj (Fin.ext (Nat.eq_sub_of_add_eq he))
      · intro h; exact absurd (Finset.mem_univ _) h
  · split_ifs with h
    · exact Finset.sum_eq_zero fun j _ => if_neg (by omega)
    · rw [Finset.sum_eq_single (⟨i.val + 1, by omega⟩ : Fin 32)]
      · exact if_pos rfl
      · intro j _ hj; exact if_neg fun he => hj (Fin.ext he)
      · intro h; exact absurd (Finset.mem_univ _) h

/-- The weights of a row's own joint, the joint before and the joint after, mixed. -/
def three (l r : ℝ) (q k kl kr v vl vr : Row) : Row := fun d =>
  (Real.exp (headSum q k d) * v d + Real.exp (headSum q kl d) * l * vl d + Real.exp (headSum q kr d) * r * vr d)
    / (Real.exp (headSum q k d) + Real.exp (headSum q kl d) * l + Real.exp (headSum q kr d) * r)

/-- The denominator of a softmax over at most three neighbours is positive. -/
theorem three_pos (l r : ℝ) (hl : 0 ≤ l) (hr : 0 ≤ r) (q k kl kr : Row) (d : Fin 256) :
    0 < Real.exp (headSum q k d) + Real.exp (headSum q kl d) * l + Real.exp (headSum q kr d) * r := by
  have := Real.exp_pos (headSum q k d)
  have := mul_nonneg (Real.exp_pos (headSum q kl d)).le hl
  have := mul_nonneg (Real.exp_pos (headSum q kr d)).le hr
  linarith

/-- The score of a pair of joints, with the scale folded into the query. -/
theorem headSum_eq (Q K : Frame) (i j : Fin 32) (d : Fin 256) :
    headSum (fun e => Q i e * scale) (K j) d = score Q K (headOf d) i j := by
  unfold headSum score
  rw [sum_head (fun e => Q i e * scale * K j e), Finset.sum_mul]
  exact Finset.sum_congr rfl fun e _ => by ring

/-- Attention over the neighbours of a joint is the mix of at most three rows. -/
theorem three_eq (Q K V : Frame) (i : Fin 32) (kl kr vl vr : Row)
    (hl : ∀ h : i.val ≠ 0, kl = K ⟨i.val - 1, by omega⟩ ∧ vl = V ⟨i.val - 1, by omega⟩)
    (hr : ∀ h : i.val ≠ 31, kr = K ⟨i.val + 1, by omega⟩ ∧ vr = V ⟨i.val + 1, by omega⟩) :
    three (if i.val = 0 then 0 else 1) (if i.val = 31 then 0 else 1) (fun e => Q i e * scale) (K i) kl kr (V i) vl vr
      = att Q K V i := by
  funext d
  have hden : (∑ j', wgt Q K (headOf d) i j') = Real.exp (headSum (fun e => Q i e * scale) (K i) d)
      + Real.exp (headSum (fun e => Q i e * scale) kl d) * (if i.val = 0 then 0 else 1)
      + Real.exp (headSum (fun e => Q i e * scale) kr d) * (if i.val = 31 then 0 else 1) := by
    unfold wgt
    rw [sum_near i fun j => Real.exp (score Q K (headOf d) i j), headSum_eq]
    congr 1
    · congr 1
      by_cases h : i.val = 0
      · simp [h]
      · rw [dif_neg h, if_neg h, mul_one, (hl h).1, headSum_eq]
    · by_cases h : i.val = 31
      · simp [h]
      · rw [dif_neg h, if_neg h, mul_one, (hr h).1, headSum_eq]
  have hnum : (∑ j, V j d * wgt Q K (headOf d) i j) = Real.exp (headSum (fun e => Q i e * scale) (K i) d) * V i d
      + Real.exp (headSum (fun e => Q i e * scale) kl d) * (if i.val = 0 then 0 else 1) * vl d
      + Real.exp (headSum (fun e => Q i e * scale) kr d) * (if i.val = 31 then 0 else 1) * vr d := by
    have hw : ∀ j, V j d * wgt Q K (headOf d) i j
        = if near i j then Real.exp (score Q K (headOf d) i j) * V j d else 0 := by
      intro j; unfold wgt; split_ifs <;> ring
    simp only [hw]
    rw [sum_near i fun j => Real.exp (score Q K (headOf d) i j) * V j d, headSum_eq]
    congr 1
    · congr 1
      by_cases h : i.val = 0
      · simp [h]
      · rw [dif_neg h, if_neg h, mul_one, (hl h).1, (hl h).2, headSum_eq]
    · by_cases h : i.val = 31
      · simp [h]
      · rw [dif_neg h, if_neg h, mul_one, (hr h).1, (hr h).2, headSum_eq]
  unfold three att
  rw [← hden, ← hnum, Finset.sum_div]
  exact Finset.sum_congr rfl fun j _ => by ring

/-- A gain and an offset before a matrix fold into the matrix and its offset, with a factor on each column. -/
theorem lin_fold {k : ℕ} (x g b : Row) (W : Fin 256 → Fin k → ℝ) (c s : Fin k → ℝ) (j : Fin k) :
    lin (nrm x) (fun i j => g i * W i j * s j) (fun j => ((∑ i, b i * W i j) + c j) * s j) j = lin (ln x g b) W c j * s j := by
  have h1 : ∑ i, nrm x i * (g i * W i j * s j) = (∑ i, nrm x i * g i * W i j) * s j := by
    rw [Finset.sum_mul]; exact Finset.sum_congr rfl fun i _ => by ring
  have h2 : ∑ i, (nrm x i * g i + b i) * W i j = (∑ i, nrm x i * g i * W i j) + ∑ i, b i * W i j := by
    rw [← Finset.sum_add_distrib]; exact Finset.sum_congr rfl fun i _ => by ring
  unfold lin ln
  dsimp only
  rw [h1, h2]
  ring

/-- The same without the factor. -/
theorem lin_fold_one {k : ℕ} (x g b : Row) (W : Fin 256 → Fin k → ℝ) (c : Fin k → ℝ) :
    lin (nrm x) (fun i j => g i * W i j) (fun j => (∑ i, b i * W i j) + c j) = lin (ln x g b) W c := by
  funext j
  have := lin_fold x g b W c (fun _ => 1) j
  simpa only [mul_one] using this

end Cert.Model

end
-- ==== Proof.KerAttn.lean ====
/- What one chunk of 1024 rows goes through in the kernel's attention block, operation by operation. -/
module

public import proofs.«01_k».proof.Proof.Gen.KernelIdeal.Skeleton
public import Idealize.ShloMosaic.Lib.Pointwise
public import proofs.«01_k».proof.Proof.Reals
public import proofs.«01_k».proof.Proof.KerModel

@[expose] public section

set_option maxRecDepth 16384

noncomputable section

open scoped BigOperators

namespace Cert.KerStage

open Cert.KernelIdeal Cert.KernelIdeal.Gen Idealize.ShloMosaic
open Cert.Reals

/-- The array holds the real numbers of `X`. -/
def At {n k : ℕ} {φ : FTy} (x : FVec Ideal ⟨2, ![n, k]⟩ φ) (X : Fin n → Fin k → ℝ) : Prop :=
  ∀ p q, x (ix2 p q) = ((X p q : ℝ) : EReal)

/-- The chunk with the mean of each row taken off. -/
def centred (x : FVec Ideal S1024x256 .f32) : FVec Ideal S1024x256 .f32 :=
  subf x (broadcastTo S1024x256 (divf (shapeCast S1024x1 (multiReduction .add [1] S1024 x 0x00000000#32 reduces_S1024x256_S1024 (.inl rfl) rfl) shapeCasts_S1024_S1024x1) (broadcast S1024x1 (Scalar.ofBits (F := Ideal) .f32 0x43800000#32))) broadcasts_S1024x1_S1024x256)

/-- The normalised chunk. -/
def normed (x : FVec Ideal S1024x256 .f32) : FVec Ideal S1024x256 .f32 :=
  mulf (centred x) (broadcastTo S1024x256 (rsqrt (addf (divf (shapeCast S1024x1 (multiReduction .add [1] S1024 (mulf (centred x) (centred x)) 0x00000000#32 reduces_S1024x256_S1024 (.inl rfl) rfl) shapeCasts_S1024_S1024x1) (broadcast S1024x1 (Scalar.ofBits (F := Ideal) .f32 0x43800000#32))) (broadcast S1024x1 (Scalar.ofBits (F := Ideal) .f32 0x3727C5AC#32)))) broadcasts_S1024x1_S1024x256)

/-- Queries, keys and values of the chunk. -/
def qkvOf (x : FVec Ideal S1024x256 .f32) (W : FVec Ideal S1x256x768 .bf16) (b : FVec Ideal S1x768 .bf16) : FVec Ideal S1024x768 .f32 :=
  addf (matmul dot_S1024x256_S256x768_S1024x768_1_0_0_1_n_n none (truncf .bf16 (normed x) bitsLt_bf16_f32) (shapeCast S256x768 W shapeCasts_S1x256x768_S256x768) (constant S1024x768 .f32 0x00000000#32))
    (broadcastTo S1024x768 (extf .f32 (shapeCast S1x768 b shapeCasts_S1x768_S1x768) bitsLt_bf16_f32) broadcasts_S1x768_S1024x768)

/-- The centred rows hold the rows less their means. -/
theorem centred_eq {x : FVec Ideal S1024x256 .f32} {X : Fin 1024 → Fin 256 → ℝ} (hx : At x X) :
    At (centred x) fun p d => X p d - Model.mean (X p) := by
  intro p d
  pointwise [centred]
  simp only [hx p, f32_256, coe_sum, coe_div _ (show (256 : ℝ) ≠ 0 by norm_num), ← EReal.coe_sub]
  rfl

/-- The normalised rows hold the model's normalisation. -/
theorem normed_eq {x : FVec Ideal S1024x256 .f32} {X : Fin 1024 → Fin 256 → ℝ} (hx : At x X) :
    At (normed x) fun p => Model.nrm (X p) := by
  intro p d
  pointwise [normed]
  simp only [centred_eq hx p, f32_256, f32_eps, ← EReal.coe_mul, coe_sum, coe_div _ (show (256 : ℝ) ≠ 0 by norm_num),
    ← EReal.coe_add]
  have h := coe_rsqrt (Model.var_eps_pos (X p))
  unfold Model.var at h
  unfold Model.mean at h ⊢
  rw [h, ← EReal.coe_mul, ← div_eq_mul_inv]
  rfl

/-- The projected rows hold the model's queries, keys and values with the scales folded in. -/
theorem qkvOf_eq {x : FVec Ideal S1024x256 .f32} {W : FVec Ideal S1x256x768 .bf16} {b : FVec Ideal S1x768 .bf16}
    {X : Fin 1024 → Fin 256 → ℝ} {M : Fin 256 → Fin 768 → ℝ} {C : Fin 768 → ℝ} (hx : At x X)
    (hW : ∀ i j, W (ix3 0 i j) = ((M i j : ℝ) : EReal)) (hb : ∀ j, b (ix2 0 j) = ((C j : ℝ) : EReal)) :
    At (qkvOf x W b) fun p => Model.lin (Model.nrm (X p)) M C := by
  intro p j
  pointwise [qkvOf]
  simp only [normed_eq hx p, hW, hb, ← EReal.coe_mul, coe_sum, ← EReal.coe_add]
  rfl

/-- The rows before: row `p - 1` at row `p`, zero at the first. -/
def before (k : FVec Ideal S1024x256 .bf16) : FVec Ideal S1024x256 .bf16 :=
  concatenate S1024x256 0 [⟨S1x256, broadcast S1x256 (Scalar.ofBits (F := Ideal) .bf16 0x0000#16)⟩, ⟨S1023x256, extractStridedSlice S1023x256 ![0, 0] k slices_S1024x256_o0_0_S1023x256⟩] concatenates_S1x256_S1023x256_S1024x256_d0
/-- The rows after: row `p + 1` at row `p`, zero at the last. -/
def after (k : FVec Ideal S1024x256 .bf16) : FVec Ideal S1024x256 .bf16 :=
  concatenate S1024x256 0 [⟨S1023x256, extractStridedSlice S1023x256 ![1, 0] k slices_S1024x256_o1_0_S1023x256⟩, ⟨S1x256, broadcast S1x256 (Scalar.ofBits (F := Ideal) .bf16 0x0000#16)⟩] concatenates_S1023x256_S1x256_S1024x256_d0

/-- The rows shifted down hold each row's predecessor, and zeros in the first row. -/
theorem before_eq {k : FVec Ideal S1024x256 .bf16} {K : Fin 1024 → Fin 256 → ℝ} (hk : At k K) :
    At (before k) fun p d => if h : 0 < p.val then K ⟨p.val - 1, by omega⟩ d else 0 := by
  intro p d
  pointwise [before]
  by_cases h : 0 < p.val
  · rw [dif_neg (by omega), dif_pos h, hk]
  · rw [dif_pos (by omega), dif_neg h]; rfl

/-- The rows shifted up hold each row's successor, and zeros in the last row. -/
theorem after_eq {k : FVec Ideal S1024x256 .bf16} {K : Fin 1024 → Fin 256 → ℝ} (hk : At k K) :
    At (after k) fun p d => if h : p.val + 1 < 1024 then K ⟨p.val + 1, h⟩ d else 0 := by
  intro p d
  pointwise [after]
  by_cases h : p.val + 1 < 1024
  · rw [dif_pos (by omega), dif_pos h, hk]
    simp only [Nat.add_comm 1]
  · rw [dif_neg (by omega), dif_neg h]; rfl

/-- The quotient by 32 as the kernel writes it. -/
def quot (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 n) 32#32) 0#32))
    (IntOp.subi (IntOp.divsi ArithUnit.vector (BitVec.ofNat 32 n) 32#32) 1#32)
    (IntOp.divsi ArithUnit.vector (BitVec.ofNat 32 n) 32#32)

/-- The remainder by 32 as the kernel writes it. -/
def rem (n : ℕ) : BitVec 32 :=
  Scalar.select
    (IntOp.andi
      (IntOp.xori
        (IntOp.cmpi CmpIPredicate.slt
          (IntOp.remsi ArithUnit.vector (BitVec.ofNat 32 n)
            (Scalar.select (Scalar.cmpi CmpIPredicate.eq 32#32 0#32) 1#32 32#32))
          0#32)
        (Scalar.cmpi CmpIPredicate.slt (Scalar.select (Scalar.cmpi CmpIPredicate.eq 32#32 0#32) 1#32 32#32)
          0#32))
      (IntOp.cmpi CmpIPredicate.ne
        (IntOp.remsi ArithUnit.vector (BitVec.ofNat 32 n)
          (Scalar.select (Scalar.cmpi CmpIPredicate.eq 32#32 0#32) 1#32 32#32))
        0#32))
    (IntOp.addi
      (IntOp.remsi ArithUnit.vector (BitVec.ofNat 32 n)
        (Scalar.select (Scalar.cmpi CmpIPredicate.eq 32#32 0#32) 1#32 32#32))
      (Scalar.select (Scalar.cmpi CmpIPredicate.eq 32#32 0#32) 1#32 32#32))
    (IntOp.remsi ArithUnit.vector (BitVec.ofNat 32 n)
      (Scalar.select (Scalar.cmpi CmpIPredicate.eq 32#32 0#32) 1#32 32#32))

/-- The head of a column, computed with signed words, is the quotient by 32. -/
theorem quot_eq : ∀ n : Fin 256, quot n.val = BitVec.ofNat 32 (n.val / 32) := by decide +kernel
/-- The joint of a row, computed with signed words, is the remainder by 32. -/
theorem rem_eq : ∀ n : Fin 1024, rem n.val = BitVec.ofNat 32 (n.val % 32) := by decide +kernel
/-- The comparison of two heads, read as a number, is 1 where they are equal and else 0. -/
theorem eq_of_quot : ∀ m n : Fin 8, (BitVec.setWidth 32 (IntOp.cmpi CmpIPredicate.eq (BitVec.ofNat 32 m.val) (BitVec.ofNat 32 n.val))).toInt
    = if m.val = n.val then 1 else 0 := by decide +kernel
/-- The comparison of a joint with the first one, read as a number. -/
theorem ne_zero_of_rem : ∀ n : Fin 32, (BitVec.setWidth 32 (IntOp.cmpi CmpIPredicate.ne (BitVec.ofNat 32 n.val) 0#32)).toInt
    = if n.val = 0 then 0 else 1 := by decide +kernel
/-- The comparison of a joint with the last one, read as a number. -/
theorem ne_last_of_rem : ∀ n : Fin 32, (BitVec.setWidth 32 (IntOp.cmpi CmpIPredicate.ne (BitVec.ofNat 32 n.val) 31#32)).toInt
    = if n.val = 31 then 0 else 1 := by decide +kernel

/-- A 32-bit integer converted to a float is its value. -/
theorem sitofp_eq (w : BitVec 32) : FloatOps.sitofp (F := Ideal) .f32 w = ((w.toInt : ℝ) : EReal) := rfl

/-- The 0/1 matrix of channels of the same head. -/
def same : FVec Ideal S256x256 .bf16 := k0_pay8 (k0_pay7 (iota .tc S256x256 32 [0] iota_S256x256_d0_w32) 32#32 k0_pay5 k0_pay6)

/-- The mask of equal heads: 1 where two columns belong to one head and else 0. -/
theorem same_eq : At same fun i j => if i.val / 32 = j.val / 32 then 1 else 0 := by
  intro p d
  pointwise [same, k0_pay8, k0_pay7, k0_pay5, k0_pay6]
  change FloatOps.sitofp (F := Ideal) .f32 (BitVec.setWidth 32 (IntOp.cmpi CmpIPredicate.eq (quot p.val) (quot d.val))) = _
  rw [quot_eq, quot_eq, sitofp_eq, eq_of_quot ⟨p.val / 32, by omega⟩ ⟨d.val / 32, by omega⟩]
  dsimp only
  split_ifs <;> norm_num

/-- Whether a row has a joint before it. -/
theorem left_eq : At (k0_pay10 (F := Ideal)) fun p _ => if p.val % 32 = 0 then 0 else 1 := by
  intro p d
  pointwise [k0_pay10, k0_pay9]
  change FloatOps.sitofp (F := Ideal) .f32 (BitVec.setWidth 32 (IntOp.cmpi CmpIPredicate.ne (rem p.val) 0#32)) = _
  rw [rem_eq, sitofp_eq, ne_zero_of_rem ⟨p.val % 32, by omega⟩]
  dsimp only
  split_ifs <;> norm_num

/-- Whether a row has a joint after it. -/
theorem right_eq : At (k0_pay11 (F := Ideal)) fun p _ => if p.val % 32 = 31 then 0 else 1 := by
  intro p d
  pointwise [k0_pay11, k0_pay9]
  change FloatOps.sitofp (F := Ideal) .f32 (BitVec.setWidth 32 (IntOp.cmpi CmpIPredicate.ne (rem p.val) 31#32)) = _
  rw [rem_eq, sitofp_eq, ne_last_of_rem ⟨p.val % 32, by omega⟩]
  dsimp only
  split_ifs <;> norm_num

/-- The exponentials of the products of queries and keys summed head by head. -/
def expOf (q k : FVec Ideal S1024x256 .bf16) : FVec Ideal S1024x256 .bf16 :=
  exp (truncf .bf16 (matmul dot_S1024x256_S256x256_S1024x256_1_0_0_1_n_n none (mulf q k) same (constant S1024x256 .f32 0x00000000#32)) bitsLt_bf16_f32)

/-- The mix of a row with the rows before and after it. -/
def mixOf (q k v : FVec Ideal S1024x256 .bf16) : FVec Ideal S1024x256 .bf16 :=
  divf (addf (addf (mulf (expOf q k) v) (mulf (mulf (expOf q (before k)) k0_pay10) (before v))) (mulf (mulf (expOf q (after k)) k0_pay11) (after v)))
    (addf (addf (expOf q k) (mulf (expOf q (before k)) k0_pay10)) (mulf (expOf q (after k)) k0_pay11))

/-- The attention block of a chunk, with its residual. -/
def attnOf (x : FVec Ideal S1024x256 .f32) (W : FVec Ideal S1x256x768 .bf16) (b : FVec Ideal S1x768 .bf16)
    (Wo : FVec Ideal S1x256x256 .bf16) (bo : FVec Ideal S1x256 .f32) : FVec Ideal S1024x256 .f32 :=
  shapeCast S1024x256 (addf (addf x (matmul dot_S1024x256_S256x256_S1024x256_1_0_0_1_n_n none
    (mixOf (truncf .bf16 (extractStridedSlice S1024x256 ![0, 0] (qkvOf x W b) slices_S1024x768_o0_0_S1024x256) bitsLt_bf16_f32)
      (truncf .bf16 (extractStridedSlice S1024x256 ![0, 256] (qkvOf x W b) slices_S1024x768_o0_256_S1024x256) bitsLt_bf16_f32)
      (truncf .bf16 (extractStridedSlice S1024x256 ![0, 512] (qkvOf x W b) slices_S1024x768_o0_512_S1024x256) bitsLt_bf16_f32))
    (shapeCast S256x256 Wo shapeCasts_S1x256x256_S256x256) (constant S1024x256 .f32 0x00000000#32)))
    (broadcastTo S1024x256 bo broadcasts_S1x256_S1024x256)) shapeCasts_S1024x256_S1024x256

/-- The exponentials hold the exponential of the scores of each column's head. -/
theorem expOf_eq {q k : FVec Ideal S1024x256 .bf16} {Q K : Fin 1024 → Fin 256 → ℝ} (hq : At q Q) (hk : At k K) :
    At (expOf q k) fun p d => Real.exp (Model.headSum (Q p) (K p) d) := by
  intro p d
  pointwise [expOf]
  simp only [hq p, hk p, same_eq _ d, ← EReal.coe_mul, coe_sum, Ideal.exp_coe]
  rfl

/-- The mixed values: the three neighbours' values with their softmax weights. -/
theorem mixOf_eq {q k v : FVec Ideal S1024x256 .bf16} {Q K V : Fin 1024 → Fin 256 → ℝ} (hq : At q Q) (hk : At k K) (hv : At v V) :
    At (mixOf q k v) fun p => Model.three (if p.val % 32 = 0 then 0 else 1) (if p.val % 32 = 31 then 0 else 1) (Q p) (K p)
      (fun d => if h : 0 < p.val then K ⟨p.val - 1, by omega⟩ d else 0) (fun d => if h : p.val + 1 < 1024 then K ⟨p.val + 1, h⟩ d else 0)
      (V p)
      (fun d => if h : 0 < p.val then V ⟨p.val - 1, by omega⟩ d else 0) (fun d => if h : p.val + 1 < 1024 then V ⟨p.val + 1, h⟩ d else 0) := by
  intro p d
  pointwise [mixOf]
  rw [expOf_eq hq hk p d, expOf_eq hq (before_eq hk) p d, expOf_eq hq (after_eq hk) p d, hv p d, before_eq hv p d, after_eq hv p d,
    left_eq p d, right_eq p d]
  simp only [← EReal.coe_mul, ← EReal.coe_add]
  rw [coe_div]
  · rfl
  · refine (Model.three_pos _ _ ?_ ?_ _ _ _ _ d).ne' <;> split_ifs <;> norm_num

/-- A chunk of 1024 rows is 32 frames of 32 joints. -/
def rowsOf {α : Type} (G : Fin 32 → Fin 32 → α) : Fin 1024 → α := fun p => G ⟨p.val / 32, by omega⟩ ⟨p.val % 32, by omega⟩

/-- The attention block of a chunk holds the model's, frame by frame. -/
theorem attnOf_eq {x : FVec Ideal S1024x256 .f32} {W : FVec Ideal S1x256x768 .bf16} {b : FVec Ideal S1x768 .bf16}
    {Wo : FVec Ideal S1x256x256 .bf16} {bo : FVec Ideal S1x256 .f32} {G : Fin 32 → Model.Frame} {P : Model.Par}
    {s : Fin 768 → ℝ} (hs : s = fun j => if j.val < 256 then Model.scale else 1)
    (hx : At x (rowsOf G)) (hW : ∀ i j, W (ix3 0 i j) = ((P.g1 i * P.Wqkv i j * s j : ℝ) : EReal))
    (hb : ∀ j, b (ix2 0 j) = ((((∑ i, P.b1 i * P.Wqkv i j) + P.bqkv j) * s j : ℝ) : EReal))
    (hWo : ∀ i j, Wo (ix3 0 i j) = ((P.Wo i j : ℝ) : EReal)) (hbo : ∀ j, bo (ix2 0 j) = ((P.bo j : ℝ) : EReal)) :
    At (attnOf x W b Wo bo) (rowsOf fun f => Model.attn P (G f)) := by
  have hq : At (qkvOf x W b) fun p j => Model.qkv P (rowsOf G p) j * s j := by
    intro p j
    rw [qkvOf_eq hx hW hb p j]
    exact congrArg _ (Model.lin_fold _ P.g1 P.b1 P.Wqkv P.bqkv s j)
  have h0 : At (truncf .bf16 (extractStridedSlice S1024x256 ![0, 0] (qkvOf x W b) slices_S1024x768_o0_0_S1024x256) bitsLt_bf16_f32)
      fun p d => Model.qOf (Model.qkv P (rowsOf G p)) d * Model.scale := by
    intro p d
    pointwise []
    have e := hq p ⟨d.val, by omega⟩
    rw [hs] at e
    dsimp only at e
    rw [if_pos d.isLt] at e
    exact e
  have h1 : At (truncf .bf16 (extractStridedSlice S1024x256 ![0, 256] (qkvOf x W b) slices_S1024x768_o0_256_S1024x256) bitsLt_bf16_f32)
      fun p d => Model.kOf (Model.qkv P (rowsOf G p)) d := by
    intro p d
    pointwise []
    rw [hq, hs]
    dsimp only
    rw [if_neg (by omega), mul_one]
    rfl
  have h2 : At (truncf .bf16 (extractStridedSlice S1024x256 ![0, 512] (qkvOf x W b) slices_S1024x768_o0_512_S1024x256) bitsLt_bf16_f32)
      fun p d => Model.vOf (Model.qkv P (rowsOf G p)) d := by
    intro p d
    pointwise []
    rw [hq, hs]
    dsimp only
    rw [if_neg (by omega), mul_one]
    rfl
  have hmix : At (mixOf (truncf .bf16 (extractStridedSlice S1024x256 ![0, 0] (qkvOf x W b) slices_S1024x768_o0_0_S1024x256) bitsLt_bf16_f32)
      (truncf .bf16 (extractStridedSlice S1024x256 ![0, 256] (qkvOf x W b) slices_S1024x768_o0_256_S1024x256) bitsLt_bf16_f32)
      (truncf .bf16 (extractStridedSlice S1024x256 ![0, 512] (qkvOf x W b) slices_S1024x768_o0_512_S1024x256) bitsLt_bf16_f32))
      (rowsOf fun f => Model.attended P (G f)) := by
    intro p d
    rw [mixOf_eq h0 h1 h2 p d]
    refine congrArg (fun r : ℝ => (r : EReal)) ?_
    have hp : p.val < 1024 := p.isLt
    refine congrFun (Model.three_eq (fun i => Model.qOf (Model.qkv P (G ⟨p.val / 32, by omega⟩ i)))
      (fun i => Model.kOf (Model.qkv P (G ⟨p.val / 32, by omega⟩ i)))
      (fun i => Model.vOf (Model.qkv P (G ⟨p.val / 32, by omega⟩ i))) ⟨p.val % 32, by omega⟩ _ _ _ _ ?_ ?_) d
    · intro h
      dsimp only at h
      have e1 : (p.val - 1) / 32 = p.val / 32 := by omega
      have e2 : (p.val - 1) % 32 = p.val % 32 - 1 := by omega
      constructor <;>
      · funext d
        rw [dif_pos (by omega)]
        simp only [rowsOf, e1, e2]
    · intro h
      dsimp only at h
      have e1 : (p.val + 1) / 32 = p.val / 32 := by omega
      have e2 : (p.val + 1) % 32 = p.val % 32 + 1 := by omega
      constructor <;>
      · funext d
        rw [dif_pos (by omega)]
        simp only [rowsOf, e1, e2]
  intro p d
  pointwise [attnOf]
  simp only [hx p d, hmix p, hWo, hbo, ← EReal.coe_mul, coe_sum, ← EReal.coe_add]
  rfl

end Cert.KerStage

end
-- ==== Proof.KerMlp.lean ====
/- What one chunk of 1024 rows goes through in the kernel's feed-forward block, operation by operation. -/
module

public import proofs.«01_k».proof.Proof.KerAttn

@[expose] public section

set_option maxRecDepth 16384

noncomputable section

open scoped BigOperators

namespace Cert.KerStage

open Cert.KernelIdeal Cert.KernelIdeal.Gen Idealize.ShloMosaic
open Cert.Reals

/-- The named constant is `1/√2`, at either precision. -/
theorem inv_sqrt2_bf16 : Named.named (F := Ideal) Cert.KernelIdeal.κ "inv_sqrt2" (φ := .bf16) 0x3F35#16 = (((Real.sqrt 2)⁻¹ : ℝ) : EReal) :=
  IdealRules.named_const.ideal_named_scalar _ _ _ _ rfl
/-- The named constant is the inverse root of two. -/
theorem inv_sqrt2_f32 : Named.named (F := Ideal) Cert.KernelIdeal.κ "inv_sqrt2" (φ := .f32) 0x3F3504F3#32 = (((Real.sqrt 2)⁻¹ : ℝ) : EReal) :=
  IdealRules.named_const.ideal_named_scalar _ _ _ _ rfl

/-- The Gaussian error linear unit as the kernel writes it in half precision. -/
def geluOf {S : Shape} (x : FVec Ideal S .bf16) : FVec Ideal S .bf16 :=
  mulf (mulf (broadcast S (Scalar.ofBits (F := Ideal) .bf16 0x3F00#16)) x) (addf (broadcast S (Scalar.ofBits (F := Ideal) .bf16 0x3F80#16)) (erf (mulf x (broadcast S (Named.named (F := Ideal) κ "inv_sqrt2" (φ := .bf16) 0x3F35#16)))))

/-- The gelu in bf16 holds the model's gelu. -/
theorem geluOf_eq {S : Shape} {x : FVec Ideal S .bf16} {i : S.Idx} {r : ℝ} (h : x i = (r : EReal)) :
    geluOf x i = ((Model.gelu r : ℝ) : EReal) := by
  change (Ideal.ofBits .bf16 0x3F00#16 * x i) * (Ideal.ofBits .bf16 0x3F80#16 + Ideal.erf (x i * Named.named (F := Ideal) κ "inv_sqrt2" (φ := .bf16) 0x3F35#16)) = _
  rw [h, inv_sqrt2_bf16, bf16_half, bf16_one]
  simp only [← EReal.coe_mul, Ideal.erf_coe, ← EReal.coe_add, ← div_eq_mul_inv]
  rfl

/-- The same in single precision. -/
def geluOf' {S : Shape} (x : FVec Ideal S .f32) : FVec Ideal S .f32 :=
  mulf (mulf (broadcast S (Scalar.ofBits (F := Ideal) .f32 0x3F000000#32)) x) (addf (broadcast S (Scalar.ofBits (F := Ideal) .f32 0x3F800000#32)) (erf (mulf x (broadcast S (Named.named (F := Ideal) κ "inv_sqrt2" (φ := .f32) 0x3F3504F3#32)))))

/-- The gelu in f32 holds the model's gelu. -/
theorem geluOf'_eq {S : Shape} {x : FVec Ideal S .f32} {i : S.Idx} {r : ℝ} (h : x i = (r : EReal)) :
    geluOf' x i = ((Model.gelu r : ℝ) : EReal) := by
  change (Ideal.ofBits .f32 0x3F000000#32 * x i) * (Ideal.ofBits .f32 0x3F800000#32 + Ideal.erf (x i * Named.named (F := Ideal) κ "inv_sqrt2" (φ := .f32) 0x3F3504F3#32)) = _
  rw [h, inv_sqrt2_f32, f32_half, f32_one]
  simp only [← EReal.coe_mul, Ideal.erf_coe, ← EReal.coe_add, ← div_eq_mul_inv]
  rfl

/-- The hidden rows of a chunk before the activation. -/
def hiddenOf (x : FVec Ideal S1024x256 .f32) (W : FVec Ideal S1x256x1024 .bf16) (b : FVec Ideal S1x1024 .bf16) : FVec Ideal S1024x1024 .bf16 :=
  truncf .bf16 (addf (matmul dot_S1024x256_S256x1024_S1024x1024_1_0_0_1_n_n none (truncf .bf16 (normed x) bitsLt_bf16_f32) (shapeCast S256x1024 W shapeCasts_S1x256x1024_S256x1024) (constant S1024x1024 .f32 0x00000000#32))
    (broadcastTo S1024x1024 (extf .f32 (shapeCast S1x1024 b shapeCasts_S1x1024_S1x1024) bitsLt_bf16_f32) broadcasts_S1x1024_S1024x1024)) bitsLt_bf16_f32

/-- The feed-forward block of a chunk, with its residual. -/
def mlpOf (x : FVec Ideal S1024x256 .f32) (W : FVec Ideal S1x256x1024 .bf16) (b : FVec Ideal S1x1024 .bf16)
    (W2 : FVec Ideal S1x1024x256 .bf16) (b2 : FVec Ideal S1x256 .f32) : FVec Ideal S1024x256 .f32 :=
  shapeCast S1024x256 (addf (addf x (matmul dot_S1024x1024_S1024x256_S1024x256_1_0_0_1_n_n none (geluOf (hiddenOf x W b))
    (shapeCast S1024x256 W2 shapeCasts_S1x1024x256_S1024x256) (constant S1024x256 .f32 0x00000000#32)))
    (broadcastTo S1024x256 b2 broadcasts_S1x256_S1024x256)) shapeCasts_S1024x256_S1024x256

/-- The hidden rows hold the gelu of the projected normalised rows. -/
theorem hiddenOf_eq {x : FVec Ideal S1024x256 .f32} {W : FVec Ideal S1x256x1024 .bf16} {b : FVec Ideal S1x1024 .bf16}
    {X : Fin 1024 → Fin 256 → ℝ} {M : Fin 256 → Fin 1024 → ℝ} {C : Fin 1024 → ℝ} (hx : At x X)
    (hW : ∀ i j, W (ix3 0 i j) = ((M i j : ℝ) : EReal)) (hb : ∀ j, b (ix2 0 j) = ((C j : ℝ) : EReal)) :
    At (hiddenOf x W b) fun p => Model.lin (Model.nrm (X p)) M C := by
  intro p j
  pointwise [hiddenOf]
  simp only [normed_eq hx p, hW, hb, ← EReal.coe_mul, coe_sum, ← EReal.coe_add]
  rfl

/-- The feed-forward block of a chunk holds the model's, row by row. -/
theorem mlpOf_eq {x : FVec Ideal S1024x256 .f32} {W : FVec Ideal S1x256x1024 .bf16} {b : FVec Ideal S1x1024 .bf16}
    {W2 : FVec Ideal S1x1024x256 .bf16} {b2 : FVec Ideal S1x256 .f32} {X : Fin 1024 → Model.Row} {P : Model.Par}
    (hx : At x X) (hW : ∀ i j, W (ix3 0 i j) = ((P.g2 i * P.W1 i j : ℝ) : EReal))
    (hb : ∀ j, b (ix2 0 j) = (((∑ i, P.b2 i * P.W1 i j) + P.c1 j : ℝ) : EReal))
    (hW2 : ∀ i j, W2 (ix3 0 i j) = ((P.W2 i j : ℝ) : EReal)) (hb2 : ∀ j, b2 (ix2 0 j) = ((P.c2 j : ℝ) : EReal)) :
    At (mlpOf x W b W2 b2) fun p => Model.mlp P (X p) := by
  have hh : ∀ p u, geluOf (hiddenOf x W b) (ix2 p u) = ((Model.gelu (Model.lin (Model.ln (X p) P.g2 P.b2) P.W1 P.c1 u) : ℝ) : EReal) := by
    intro p u
    refine geluOf_eq ((hiddenOf_eq hx hW hb p u).trans ?_)
    exact congrArg (fun r : ℝ => (r : EReal)) (congrFun (Model.lin_fold_one (X p) P.g2 P.b2 P.W1 P.c1) u)
  intro p d
  pointwise [mlpOf]
  simp only [hx p d, hh p, hW2, hb2, ← EReal.coe_mul, coe_sum, ← EReal.coe_add]
  rfl

end Cert.KerStage

end
-- ==== Proof.KerConv.lean ====
/- What the whole state of one batch element goes through in the kernel's convolution block, operation by
   operation. -/
module

public import proofs.«01_k».proof.Proof.KerMlp

@[expose] public section

set_option maxRecDepth 16384

noncomputable section

open scoped BigOperators

namespace Cert.KerStage

open Cert.KernelIdeal Cert.KernelIdeal.Gen Idealize.ShloMosaic
open Cert.Reals

/-- The state with the mean of each row taken off. -/
def centredAll (x : FVec Ideal S4096x256 .f32) : FVec Ideal S4096x256 .f32 :=
  subf x (broadcastTo S4096x256 (divf (shapeCast S4096x1 (multiReduction .add [1] S4096 x 0x00000000#32 reduces_S4096x256_S4096 (.inl rfl) rfl) shapeCasts_S4096_S4096x1) (broadcast S4096x1 (Scalar.ofBits (F := Ideal) .f32 0x43800000#32))) broadcasts_S4096x1_S4096x256)

/-- The normalised state. -/
def normedAll (x : FVec Ideal S4096x256 .f32) : FVec Ideal S4096x256 .f32 :=
  mulf (centredAll x) (broadcastTo S4096x256 (rsqrt (addf (divf (shapeCast S4096x1 (multiReduction .add [1] S4096 (mulf (centredAll x) (centredAll x)) 0x00000000#32 reduces_S4096x256_S4096 (.inl rfl) rfl) shapeCasts_S4096_S4096x1) (broadcast S4096x1 (Scalar.ofBits (F := Ideal) .f32 0x43800000#32))) (broadcast S4096x1 (Scalar.ofBits (F := Ideal) .f32 0x3727C5AC#32)))) broadcasts_S4096x1_S4096x256)

/-- The centred rows hold the rows less their means. -/
theorem centredAll_eq {x : FVec Ideal S4096x256 .f32} {X : Fin 4096 → Fin 256 → ℝ} (hx : At x X) :
    At (centredAll x) fun p d => X p d - Model.mean (X p) := by
  intro p d
  pointwise [centredAll]
  simp only [hx p, f32_256, coe_sum, coe_div _ (show (256 : ℝ) ≠ 0 by norm_num), ← EReal.coe_sub]
  rfl

/-- The normalised rows hold the model's normalisation. -/
theorem normedAll_eq {x : FVec Ideal S4096x256 .f32} {X : Fin 4096 → Fin 256 → ℝ} (hx : At x X) :
    At (normedAll x) fun p => Model.nrm (X p) := by
  intro p d
  pointwise [normedAll]
  simp only [centredAll_eq hx p, f32_256, f32_eps, ← EReal.coe_mul, coe_sum, coe_div _ (show (256 : ℝ) ≠ 0 by norm_num),
    ← EReal.coe_add]
  have h := coe_rsqrt (Model.var_eps_pos (X p))
  unfold Model.var at h
  unfold Model.mean at h ⊢
  rw [h, ← EReal.coe_mul, ← div_eq_mul_inv]
  rfl

/-- The rows the convolution reads. -/
def lnAll (x : FVec Ideal S4096x256 .f32) (g b : FVec Ideal S1x256 .f32) : FVec Ideal S4096x256 .bf16 :=
  truncf .bf16 (addf (mulf (normedAll x) (broadcastTo S4096x256 g broadcasts_S1x256_S4096x256)) (broadcastTo S4096x256 b broadcasts_S1x256_S4096x256)) bitsLt_bf16_f32

/-- The rows times the matrix of one tap. -/
def tapOf (y : FVec Ideal S4096x256 .bf16) (W : FVec Ideal S1x1x256x256 .bf16) : FVec Ideal S4096x256 .f32 :=
  matmul dot_S4096x256_S256x256_S4096x256_1_0_0_1_n_n none y (shapeCast S256x256 W shapeCasts_S1x1x256x256_S256x256) (constant S4096x256 .f32 0x00000000#32)

/-- One frame later: the rows of the frame before, zero in the first frame. -/
def later (a : FVec Ideal S4096x256 .f32) : FVec Ideal S4096x256 .f32 :=
  concatenate S4096x256 0 [⟨S32x256, broadcast S32x256 (Scalar.ofBits (F := Ideal) .f32 0x00000000#32)⟩, ⟨S4064x256, extractStridedSlice S4064x256 ![0, 0] a slices_S4096x256_o0_0_S4064x256⟩] concatenates_S32x256_S4064x256_S4096x256_d0
/-- One frame earlier: the rows of the frame after, zero in the last frame. -/
def earlier (a : FVec Ideal S4096x256 .f32) : FVec Ideal S4096x256 .f32 :=
  concatenate S4096x256 0 [⟨S4064x256, extractStridedSlice S4064x256 ![32, 0] a slices_S4096x256_o32_0_S4064x256⟩, ⟨S32x256, broadcast S32x256 (Scalar.ofBits (F := Ideal) .f32 0x00000000#32)⟩] concatenates_S4064x256_S32x256_S4096x256_d0

/-- The convolution before the activation. -/
def convAtOf (y : FVec Ideal S4096x256 .bf16) (W0 W1 W2 : FVec Ideal S1x1x256x256 .bf16) (b : FVec Ideal S1x256 .bf16) : FVec Ideal S4096x256 .bf16 :=
  truncf .bf16 (addf (addf (addf (later (tapOf y W0)) (tapOf y W1)) (earlier (tapOf y W2))) (broadcastTo S4096x256 (extf .f32 (shapeCast S1x256 b shapeCasts_S1x256_S1x256) bitsLt_bf16_f32) broadcasts_S1x256_S4096x256)) bitsLt_bf16_f32

/-- The convolution block, with its residual. -/
def convOf (x : FVec Ideal S4096x256 .f32) (g b : FVec Ideal S1x256 .f32) (W0 W1 W2 : FVec Ideal S1x1x256x256 .bf16) (c : FVec Ideal S1x256 .bf16) : FVec Ideal S4096x256 .f32 :=
  shapeCast S4096x256 (addf x (extf .f32 (geluOf (convAtOf (lnAll x g b) W0 W1 W2 c)) bitsLt_bf16_f32)) shapeCasts_S4096x256_S4096x256

/-- The state of 4096 rows is 128 frames of 32 joints. -/
def flat {α : Type} (X : Fin 128 → Fin 32 → α) : Fin 4096 → α := fun r => X ⟨r.val / 32, by omega⟩ ⟨r.val % 32, by omega⟩

/-- The normalised rows, scaled and offset, hold the model's layer norm. -/
theorem lnAll_eq {x : FVec Ideal S4096x256 .f32} {g b : FVec Ideal S1x256 .f32} {X : Fin 4096 → Fin 256 → ℝ} {G B : Model.Row} (hx : At x X)
    (hg : ∀ j, g (ix2 0 j) = ((G j : ℝ) : EReal)) (hb : ∀ j, b (ix2 0 j) = ((B j : ℝ) : EReal)) :
    At (lnAll x g b) fun p => Model.ln (X p) G B := by
  intro p d
  pointwise [lnAll]
  simp only [normedAll_eq hx p, hg, hb, ← EReal.coe_mul, ← EReal.coe_add]
  rfl

/-- A product with one tap of the convolution. -/
theorem tapOf_eq {y : FVec Ideal S4096x256 .bf16} {W : FVec Ideal S1x1x256x256 .bf16} {Y : Fin 4096 → Fin 256 → ℝ} {M : Fin 256 → Fin 256 → ℝ}
    (hy : At y Y) (hW : ∀ i j, W (ix4 0 0 i j) = ((M i j : ℝ) : EReal)) : At (tapOf y W) fun p k => ∑ d, Y p d * M d k := by
  intro p d
  pointwise [tapOf]
  simp only [hy p, hW, ← EReal.coe_mul, coe_sum]

/-- The rows a frame later: each row's value one frame before, zeros in the first frame. -/
theorem later_eq {a : FVec Ideal S4096x256 .f32} {A : Fin 4096 → Fin 256 → ℝ} (ha : At a A) :
    At (later a) fun p d => if h : 32 ≤ p.val then A ⟨p.val - 32, by omega⟩ d else 0 := by
  intro p d
  pointwise [later]
  by_cases h : 32 ≤ p.val
  · rw [dif_neg (by omega), dif_pos h, ha]
  · rw [dif_pos (by omega), dif_neg h]; rfl

/-- The rows a frame earlier: each row's value one frame after, zeros in the last frame. -/
theorem earlier_eq {a : FVec Ideal S4096x256 .f32} {A : Fin 4096 → Fin 256 → ℝ} (ha : At a A) :
    At (earlier a) fun p d => if h : p.val + 32 < 4096 then A ⟨p.val + 32, h⟩ d else 0 := by
  intro p d
  pointwise [earlier]
  by_cases h : p.val + 32 < 4096
  · rw [dif_pos (by omega), dif_pos h, ha]
    simp only [Nat.add_comm 32]
  · rw [dif_neg (by omega), dif_neg h]; rfl

/-- The convolution block holds the model's. -/
theorem convOf_eq {x : FVec Ideal S4096x256 .f32} {g b : FVec Ideal S1x256 .f32} {W0 W1 W2 : FVec Ideal S1x1x256x256 .bf16} {c : FVec Ideal S1x256 .bf16}
    {X : Model.Body} {P : Model.Par} (hx : At x (flat X))
    (hg : ∀ j, g (ix2 0 j) = ((P.g3 j : ℝ) : EReal)) (hb : ∀ j, b (ix2 0 j) = ((P.b3 j : ℝ) : EReal))
    (h0 : ∀ i j, W0 (ix4 0 0 i j) = ((P.Wc 0 i j : ℝ) : EReal)) (h1 : ∀ i j, W1 (ix4 0 0 i j) = ((P.Wc 1 i j : ℝ) : EReal))
    (h2 : ∀ i j, W2 (ix4 0 0 i j) = ((P.Wc 2 i j : ℝ) : EReal)) (hc : ∀ j, c (ix2 0 j) = ((P.bc j : ℝ) : EReal)) :
    At (convOf x g b W0 W1 W2 c) (flat (Model.conv P X)) := by
  have hy := lnAll_eq hx hg hb
  have hA : ∀ p k, convAtOf (lnAll x g b) W0 W1 W2 c (ix2 p k) = ((flat (Model.convAt P X) p k : ℝ) : EReal) := by
    intro p k
    have hp : p.val < 4096 := p.isLt
    pointwise [convAtOf]
    rw [later_eq (tapOf_eq hy h0) p k, tapOf_eq hy h1 p k, earlier_eq (tapOf_eq hy h2) p k, hc]
    simp only [← EReal.coe_add]
    refine congrArg (fun r : ℝ => (r : EReal)) ?_
    unfold flat Model.convAt
    dsimp only
    congr 1
    congr 1
    · congr 1
      · by_cases h : 32 ≤ p.val
        · rw [dif_pos h]
          refine Finset.sum_congr rfl fun d _ => ?_
          have e1 : (p.val - 32) / 32 = p.val / 32 + 0 - 1 := by omega
          have e2 : (p.val - 32) % 32 = p.val % 32 := by omega
          rw [Model.convIn, dif_pos (by omega)]
          simp only [e1, e2]
        · rw [dif_neg h]
          refine (Finset.sum_eq_zero fun d _ => ?_).symm
          rw [Model.convIn, dif_neg (by omega), zero_mul]
      · refine Finset.sum_congr rfl fun d _ => ?_
        rw [Model.convIn, dif_pos (by omega)]
        simp only [Nat.add_sub_cancel]
    · by_cases h : p.val + 32 < 4096
      · rw [dif_pos h]
        refine Finset.sum_congr rfl fun d _ => ?_
        have e1 : (p.val + 32) / 32 = p.val / 32 + 2 - 1 := by omega
        have e2 : (p.val + 32) % 32 = p.val % 32 := by omega
        rw [Model.convIn, dif_pos (by omega)]
        simp only [e1, e2]
      · rw [dif_neg h]
        refine (Finset.sum_eq_zero fun d _ => ?_).symm
        rw [Model.convIn, dif_neg (by omega), zero_mul]
  have hG : ∀ p k, geluOf (convAtOf (lnAll x g b) W0 W1 W2 c) (ix2 p k) = ((Model.gelu (flat (Model.convAt P X) p k) : ℝ) : EReal) :=
    fun p k => geluOf_eq (hA p k)
  intro p k
  pointwise [convOf]
  rw [hx p k, hG p k, ← EReal.coe_add]
  rfl

end Cert.KerStage

end
-- ==== Proof.KerEnds.lean ====
/- What the kernel does before the first layer and after the last, operation by operation. -/
module

public import proofs.«01_k».proof.Proof.KerConv

@[expose] public section

set_option maxRecDepth 16384

noncomputable section

open scoped BigOperators

namespace Cert.KerStage

open Cert.KernelIdeal Cert.KernelIdeal.Gen Idealize.ShloMosaic
open Cert.Reals

/-- The time embedding: cosines, then sines. -/
def tembOf (t : FVec Ideal S1x1x1 .f32) : FVec Ideal S1x256 .f32 :=
  concatenate S1x256 1 [⟨S1x128, cos (mulf (broadcast S1x128 (extractAt ![0, 0, 0] t inpos_S1x1x1_p0_0_0)) (exp (mulf (sitofp .f32 (iota .tc S1x128 32 [1] iota_S1x128_d1_w32)) (broadcast S1x128 (Scalar.ofBits (F := Ideal) .f32 0xBD935D8E#32)))))⟩,
    ⟨S1x128, sin (mulf (broadcast S1x128 (extractAt ![0, 0, 0] t inpos_S1x1x1_p0_0_0)) (exp (mulf (sitofp .f32 (iota .tc S1x128 32 [1] iota_S1x128_d1_w32)) (broadcast S1x128 (Scalar.ofBits (F := Ideal) .f32 0xBD935D8E#32)))))⟩] concatenates_S1x128_S1x128_S1x256_d1

/-- One row of 256 times a matrix, plus an offset. -/
def lin256 (x : FVec Ideal S1x256 .f32) (W : FVec Ideal S256x256 .f32) (b : FVec Ideal S1x256 .f32) : FVec Ideal S1x256 .f32 :=
  addf (matmul dot_S1x256_S256x256_S1x256_1_0_0_1_n_n none (truncf .bf16 x bitsLt_bf16_f32) (truncf .bf16 W bitsLt_bf16_f32) (constant S1x256 .f32 0x00000000#32)) (shapeCast S1x256 b shapeCasts_S1x256_S1x256)

/-- One row of 256 times a matrix to 512, plus an offset. -/
def linUp (x : FVec Ideal S1x256 .f32) (W : FVec Ideal S256x512 .f32) (b : FVec Ideal S1x512 .f32) : FVec Ideal S1x512 .f32 :=
  addf (matmul dot_S1x256_S256x512_S1x512_1_0_0_1_n_n none (truncf .bf16 x bitsLt_bf16_f32) (truncf .bf16 W bitsLt_bf16_f32) (constant S1x512 .f32 0x00000000#32)) (shapeCast S1x512 b shapeCasts_S1x512_S1x512)

/-- One row of 512 times a matrix, plus an offset. -/
def lin512 (x : FVec Ideal S1x512 .f32) (W : FVec Ideal S512x512 .f32) (b : FVec Ideal S1x512 .f32) : FVec Ideal S1x512 .f32 :=
  addf (matmul dot_S1x512_S512x512_S1x512_1_0_0_1_n_n none (truncf .bf16 x bitsLt_bf16_f32) (truncf .bf16 W bitsLt_bf16_f32) (constant S1x512 .f32 0x00000000#32)) (shapeCast S1x512 b shapeCasts_S1x512_S1x512)

/-- The gains and offsets applied to the state with the time step's row added. -/
def modulated (z : FVec Ideal S1x4096x256 .f32) (e : FVec Ideal S1x256 .f32) (f : FVec Ideal S1x512 .f32) : FVec Ideal S4096x256 .f32 :=
  shapeCast S4096x256 (addf (mulf (addf (shapeCast S4096x256 z shapeCasts_S1x4096x256_S4096x256) (broadcastTo S4096x256 e broadcasts_S1x256_S4096x256)) (broadcastTo S4096x256 (addf (broadcast S1x256 (Scalar.ofBits (F := Ideal) .f32 0x3F800000#32)) (extractStridedSlice S1x256 ![0, 0] f slices_S1x512_o0_0_S1x256)) broadcasts_S1x256_S4096x256)) (broadcastTo S4096x256 (extractStridedSlice S1x256 ![0, 256] f slices_S1x512_o0_256_S1x256) broadcasts_S1x256_S4096x256)) shapeCasts_S4096x256_S4096x256

/-- The output projection. -/
def outOf (x : FVec Ideal S4096x256 .f32) (W : FVec Ideal S256x256 .bf16) (b : FVec Ideal S1x256 .f32) : FVec Ideal S1x4096x256 .f32 :=
  shapeCast S1x4096x256 (addf (matmul dot_S4096x256_S256x256_S4096x256_1_0_0_1_n_n none (truncf .bf16 x bitsLt_bf16_f32) (shapeCast S256x256 W shapeCasts_S256x256_S256x256) (constant S4096x256 .f32 0x00000000#32)) (broadcastTo S4096x256 (shapeCast S1x256 b shapeCasts_S1x256_S1x256) broadcasts_S1x256_S4096x256)) shapeCasts_S4096x256_S1x4096x256

/-- The time row, unfolded once. -/
theorem timeRowOf_def (t : FVec Ideal S1x1x1 .f32) (W1 : FVec Ideal S256x256 .f32) (b1 : FVec Ideal S1x256 .f32) (W2 : FVec Ideal S256x256 .f32)
    (b2 : FVec Ideal S1x256 .f32) : k0_pay2 (F := Ideal) t W1 b1 W2 b2 = lin256 (geluOf' (lin256 (tembOf t) W1 b1)) W2 b2 := rfl
/-- The start, unfolded once. -/
theorem startOf_def (e : FVec Ideal S1x256 .f32) (h : FVec Ideal S1x256 .f32) (W1 : FVec Ideal S256x512 .f32) (b1 : FVec Ideal S1x512 .f32)
    (W2 : FVec Ideal S512x512 .f32) (b2 : FVec Ideal S1x512 .f32) (z : FVec Ideal S1x4096x256 .f32) :
    k0_pay4 (F := Ideal) e h W1 b1 W2 b2 z = modulated z e (lin512 (geluOf' (linUp h W1 b1)) W2 b2) := rfl
/-- The output projection, unfolded once. -/
theorem outOf_def (x : FVec Ideal S4096x256 .f32) (W : FVec Ideal S256x256 .bf16) (b : FVec Ideal S1x256 .f32) :
    k0_pay1 (F := Ideal) x W b = outOf x W b := rfl

/-- A one-row array holds the real numbers of `X`. -/
def Row1 {n : ℕ} {φ : FTy} (x : FVec Ideal ⟨2, ![1, n]⟩ φ) (X : Fin n → ℝ) : Prop := ∀ j, x (ix2 0 j) = ((X j : ℝ) : EReal)

/-- The time embedding holds the model's cosines and sines. -/
theorem tembOf_eq {t : FVec Ideal S1x1x1 .f32} {T : ℝ} (ht : t (ix3 0 0 0) = ((T : ℝ) : EReal)) : Row1 (tembOf t) (Model.temb T) := by
  intro d
  have hn : ∀ n : ℕ, n < 256 → (((BitVec.ofNat 32 n).toInt : ℤ) : ℝ) = (n : ℝ) := fun n hn => by
    rw [BitVec.toInt_eq_toNat_of_lt (by rw [BitVec.toNat_ofNat]; omega), BitVec.toNat_ofNat, Nat.mod_eq_of_lt (by omega)]
    norm_cast
  pointwise [tembOf]
  simp only [sitofp_eq, ht, f32_log128, hn d.val d.isLt, hn (d.val - 128) (by omega), ← EReal.coe_mul,
    Ideal.exp_coe, Ideal.cos_coe, Ideal.sin_coe]
  unfold Model.temb
  have e : ∀ n : ℕ, (n : ℝ) * (Model.logBase / 128) = Model.logBase * (n : ℝ) / 128 := fun n => by ring
  split <;> rw [e]

/-- A row times a matrix of 256 columns, plus an offset. -/
theorem lin256_eq {x : FVec Ideal S1x256 .f32} {W : FVec Ideal S256x256 .f32} {b : FVec Ideal S1x256 .f32} {X : Model.Row}
    {M : Fin 256 → Fin 256 → ℝ} {C : Fin 256 → ℝ} (hx : Row1 x X) (hW : At W M) (hb : Row1 b C) : Row1 (lin256 x W b) (Model.lin X M C) := by
  intro j
  pointwise [lin256]
  simp only [hx _, hW _ j, hb j, ← EReal.coe_mul, coe_sum, ← EReal.coe_add]
  rfl

/-- A row times a matrix of 512 columns, plus an offset. -/
theorem linUp_eq {x : FVec Ideal S1x256 .f32} {W : FVec Ideal S256x512 .f32} {b : FVec Ideal S1x512 .f32} {X : Model.Row}
    {M : Fin 256 → Fin 512 → ℝ} {C : Fin 512 → ℝ} (hx : Row1 x X) (hW : At W M) (hb : Row1 b C) : Row1 (linUp x W b) (Model.lin X M C) := by
  intro j
  pointwise [linUp]
  simp only [hx _, hW _ j, hb j, ← EReal.coe_mul, coe_sum, ← EReal.coe_add]
  rfl

/-- A row of 512 times a square matrix, plus an offset. -/
theorem lin512_eq {x : FVec Ideal S1x512 .f32} {W : FVec Ideal S512x512 .f32} {b : FVec Ideal S1x512 .f32} {X : Fin 512 → ℝ}
    {M : Fin 512 → Fin 512 → ℝ} {C : Fin 512 → ℝ} (hx : Row1 x X) (hW : At W M) (hb : Row1 b C) : Row1 (lin512 x W b) (Model.lin X M C) := by
  intro j
  pointwise [lin512]
  simp only [hx _, hW _ j, hb j, ← EReal.coe_mul, coe_sum, ← EReal.coe_add]
  rfl

/-- The time step's row holds the model's. -/
theorem timeRowOf_eq {t : FVec Ideal S1x1x1 .f32} {W1 : FVec Ideal S256x256 .f32} {b1 : FVec Ideal S1x256 .f32} {W2 : FVec Ideal S256x256 .f32}
    {b2 : FVec Ideal S1x256 .f32} {T : ℝ} {E : Model.Emb} (ht : t (ix3 0 0 0) = ((T : ℝ) : EReal))
    (h1 : At W1 E.tW1) (h2 : Row1 b1 E.tb1) (h3 : At W2 E.tW2) (h4 : Row1 b2 E.tb2) :
    Row1 (k0_pay2 (F := Ideal) t W1 b1 W2 b2) (Model.timeRow E T) := by
  rw [timeRowOf_def]
  exact lin256_eq (fun j => geluOf'_eq (lin256_eq (tembOf_eq ht) h1 h2 j)) h3 h4

/-- The state before the first layer holds the model's. -/
theorem startOf_eq {e h : FVec Ideal S1x256 .f32} {W1 : FVec Ideal S256x512 .f32} {b1 : FVec Ideal S1x512 .f32}
    {W2 : FVec Ideal S512x512 .f32} {b2 : FVec Ideal S1x512 .f32} {z : FVec Ideal S1x4096x256 .f32} {T : ℝ} {H : Model.Row} {Z : Model.Body}
    {E : Model.Emb} (he : Row1 e (Model.timeRow E T)) (hh : Row1 h H) (h1 : At W1 E.cW1) (h2 : Row1 b1 E.cb1) (h3 : At W2 E.cW2)
    (h4 : Row1 b2 E.cb2) (hz : ∀ r d, z (ix3 0 r d) = ((flat Z r d : ℝ) : EReal)) :
    At (k0_pay4 (F := Ideal) e h W1 b1 W2 b2 z) (flat (Model.start E T H Z)) := by
  have hf : Row1 (lin512 (geluOf' (linUp h W1 b1)) W2 b2) (Model.film E H) :=
    lin512_eq (fun j => geluOf'_eq (linUp_eq hh h1 h2 j)) h3 h4
  rw [startOf_def]
  intro r d
  pointwise [modulated]
  simp only [hz r d, he d, hf _, f32_one, ← EReal.coe_mul, ← EReal.coe_add]
  rfl

/-- The output projection holds the model's. -/
theorem outOf_eq {x : FVec Ideal S4096x256 .f32} {W : FVec Ideal S256x256 .bf16} {b : FVec Ideal S1x256 .f32} {X : Model.Body}
    {M : Fin 256 → Fin 256 → ℝ} {C : Model.Row} (hx : At x (flat X)) (hW : At W M) (hb : Row1 b C) (r : Fin 4096) (k : Fin 256) :
    k0_pay1 (F := Ideal) x W b (ix3 0 r k) = ((flat (Model.out M C X) r k : ℝ) : EReal) := by
  rw [outOf_def]
  pointwise [outOf]
  simp only [hx r, hW _ k, hb k, ← EReal.coe_mul, coe_sum, ← EReal.coe_add]
  rfl

end Cert.KerStage

end
-- ==== Proof.KerSteps.lean ====
/- The state the kernel keeps between its stores, and what one store of a chunk or of the whole state makes of it. -/
module

public import proofs.«01_k».proof.Proof.KerEnds
public import Idealize.ShloMosaic.Lib.Pipeline.FrameBody
public import Idealize.ShloMosaic.Lib.Pipeline.Frame
public import Idealize.ShloMosaic.Lib.Pipeline.Value

@[expose] public section

set_option maxRecDepth 16384

noncomputable section

open scoped BigOperators

namespace Cert.KerStage

open Cert.KernelIdeal Cert.KernelIdeal.Gen Idealize.ShloMosaic

/-- The stores made so far, last first. -/
abbrev Stores := List (View.Piece (Elt Ideal) S4096x256 .f32)

/-- After these stores the state's buffer holds the real numbers of `X`. -/
def Has (L : Stores) (X : Model.Body) : Prop := At (φ := .f32) (View.canon L) (flat X)

/-- The frames of chunk `c` changed by `f`. -/
def upd (c : ℕ) (f : Model.Frame → Model.Frame) (X : Model.Body) : Model.Body :=
  fun t => if t.val / 32 = c then f (X t) else X t

/-- Changing the four chunks one after the other changes every frame. -/
theorem upd_all (f : Model.Frame → Model.Frame) (X : Model.Body) : upd 3 f (upd 2 f (upd 1 f (upd 0 f X))) = fun t => f (X t) := by
  funext t
  have ht : t.val < 128 := t.isLt
  unfold upd
  by_cases h0 : t.val / 32 = 0
  · simp [h0]
  by_cases h1 : t.val / 32 = 1
  · simp [h1]
  by_cases h2 : t.val / 32 = 2
  · simp [h2]
  have h3 : t.val / 32 = 3 := by omega
  simp [h3]

/-- One store of a chunk computed from the chunk. -/
theorem chunk_step {L : Stores} {X : Model.Body} (h : Has L X) {o : ℕ} (c : ℕ) (ho : o = 1024 * c) (hc : c < 4)
    (f : Model.Frame → Model.Frame) (g : FVec Ideal S1024x256 .f32 → FVec Ideal S1024x256 .f32)
    (hg : ∀ x G, At x (rowsOf G) → At (g x) (rowsOf fun t => f (G t)))
    (v : View sig .tc .vmem S4096x256 .f32)
    (inb : ∀ a, (![o, 0] : Fin 2 → ℕ) a + S1024x256.size a ≤ S4096x256.size a)
    (inb' : ∀ a, (![o, 0] : Fin 2 → ℕ) a + S1024x256.size a ≤ S4096x256.size a) :
    Has ((⟨Rect.unit (s := S4096x256) ![o, 0] S1024x256.size inb, g (v.readCov L (Rect.unit (s := S4096x256) ![o, 0] S1024x256.size inb').toLoadRect)⟩ : View.Piece (Elt Ideal) S4096x256 .f32) :: L) (upd c f X) := by
  subst ho
  have hx : At (φ := .f32) (v.readCov L (Rect.unit (s := S4096x256) ![1024 * c, 0] S1024x256.size inb').toLoadRect)
      (rowsOf fun t => X ⟨32 * c + t.val, by omega⟩) := by
    intro p d
    rw [View.readCov_eq_canon']
    have e : (Rect.unit (s := S4096x256) ![1024 * c, 0] S1024x256.size inb').toLoadRect.idx (ix2 p d) = ix2 (⟨1024 * c + p.val, by omega⟩ : Fin 4096) d := by
      funext a
      refine Fin.ext ?_
      match a with
      | ⟨0, _⟩ => show 1024 * c + 1 * p.val = 1024 * c + p.val; omega
      | ⟨1, _⟩ => show 0 + 1 * d.val = d.val; omega
    show View.canon L _ = _
    rw [e, h]
    have e1 : (1024 * c + p.val) / 32 = 32 * c + p.val / 32 := by omega
    have e2 : (1024 * c + p.val) % 32 = p.val % 32 := by omega
    simp only [flat, rowsOf, e1, e2]
  intro r d
  have hr : r.val < 4096 := r.isLt
  by_cases hm : r.val / 1024 = c
  · have e : ix2 r d = (Rect.unit (s := S4096x256) ![1024 * c, 0] S1024x256.size inb).emb (ix2 (⟨r.val - 1024 * c, by omega⟩ : Fin 1024) d) := by
      funext a
      refine Fin.ext ?_
      match a with
      | ⟨0, _⟩ => show r.val = 1024 * c + 1 * (r.val - 1024 * c); omega
      | ⟨1, _⟩ => show d.val = 0 + 1 * d.val; omega
    show View.canon _ _ = _
    rw [e, View.canon_cons_emb]
    refine (hg _ _ hx _ _).trans ?_
    have e1 : 32 * c + (r.val - 1024 * c) / 32 = r.val / 32 := by omega
    have e2 : (r.val - 1024 * c) % 32 = r.val % 32 := by omega
    have e3 : r.val / 32 / 32 = c := by omega
    simp only [flat, rowsOf, upd, e1, e2, e3, if_true]
  · show View.canon _ _ = _
    rw [View.canon_cons_of_not_mem]
    · refine (h r d).trans ?_
      have e3 : ¬ r.val / 32 / 32 = c := by omega
      simp only [flat, upd, e3, if_false]
    · intro hmem
      have := (LoadRect.mem_set _).mp hmem (0 : Fin 2)
      obtain ⟨j, hj, e⟩ := this
      have e' : r.val = 1024 * c + 1 * j := e
      have hj' : j < 1024 := hj
      omega

/-- One store of the whole state computed from the whole state. -/
theorem whole_step {L : Stores} {X Y : Model.Body} (h : Has L X) (g : FVec Ideal S4096x256 .f32 → FVec Ideal S4096x256 .f32)
    (hg : ∀ x, At x (flat X) → At (g x) (flat Y))
    (v : View sig .tc .vmem S4096x256 .f32)
    (inb : ∀ a, (![0, 0] : Fin 2 → ℕ) a + S4096x256.size a ≤ S4096x256.size a)
    (inb' : ∀ a, (![0, 0] : Fin 2 → ℕ) a + S4096x256.size a ≤ S4096x256.size a) :
    Has ((⟨Rect.unit (s := S4096x256) ![0, 0] S4096x256.size inb, g (v.readCov L (Rect.unit (s := S4096x256) ![0, 0] S4096x256.size inb').toLoadRect)⟩ : View.Piece (Elt Ideal) S4096x256 .f32) :: L) Y := by
  have hx : At (φ := .f32) (v.readCov L (Rect.unit (s := S4096x256) ![0, 0] S4096x256.size inb').toLoadRect) (flat X) := by
    intro p d
    rw [View.readCov_eq_canon']
    have e : (Rect.unit (s := S4096x256) ![0, 0] S4096x256.size inb').toLoadRect.idx (ix2 p d) = ix2 p d := by
      funext a
      refine Fin.ext ?_
      match a with
      | ⟨0, _⟩ => show 0 + 1 * p.val = p.val; omega
      | ⟨1, _⟩ => show 0 + 1 * d.val = d.val; omega
    show View.canon L _ = _
    rw [e, h]
  intro r d
  have e : ix2 r d = (Rect.unit (s := S4096x256) ![0, 0] S4096x256.size inb).emb (ix2 r d) := by
    funext a
    refine Fin.ext ?_
    match a with
    | ⟨0, _⟩ => show r.val = 0 + 1 * r.val; omega
    | ⟨1, _⟩ => show d.val = 0 + 1 * d.val; omega
  show View.canon _ _ = _
  rw [e, View.canon_cons_emb]
  exact hg _ hx r d

end Cert.KerStage

end
-- ==== Proof.KerRun.lean ====
/- The chain of the kernel's stores: the block one grid point writes is the network of the real numbers its input blocks hold. -/
module

public import proofs.«01_k».proof.Proof.KerSteps
public import proofs.«01_k».proof.Proof.Gen.KernelIdeal.Frame.RunA

@[expose] public section

set_option maxRecDepth 16384

noncomputable section

open scoped BigOperators

namespace Cert.KerStage

open Cert.KernelIdeal Cert.KernelIdeal.Gen Idealize.ShloMosaic

/-- One store of a chunk after its attention. -/
theorem attn_step {L : Stores} {X : Model.Body} {P : Model.Par} (c : ℕ) {o : ℕ} (h : Has L X) (ho : o = 1024 * c) (hc : c < 4)
    {s : Fin 768 → ℝ} (hs : s = fun j => if j.val < 256 then Model.scale else 1)
    {W : FVec Ideal S1x256x768 .bf16} {b : FVec Ideal S1x768 .bf16} {Wo : FVec Ideal S1x256x256 .bf16} {bo : FVec Ideal S1x256 .f32}
    {v : View sig .tc .vmem S4096x256 .f32}
    {inb : ∀ a, (![o, 0] : Fin 2 → ℕ) a + S1024x256.size a ≤ S4096x256.size a}
    {inb' : ∀ a, (![o, 0] : Fin 2 → ℕ) a + S1024x256.size a ≤ S4096x256.size a}
    {L' : Stores} (hL : L' = (⟨Rect.unit (s := S4096x256) ![o, 0] S1024x256.size inb, attnOf (v.readCov L (Rect.unit (s := S4096x256) ![o, 0] S1024x256.size inb').toLoadRect) W b Wo bo⟩ : View.Piece (Elt Ideal) S4096x256 .f32) :: L)
    (hW : ∀ i j, W (ix3 0 i j) = ((P.g1 i * P.Wqkv i j * s j : ℝ) : EReal))
    (hb : ∀ j, b (ix2 0 j) = ((((∑ i, P.b1 i * P.Wqkv i j) + P.bqkv j) * s j : ℝ) : EReal))
    (hWo : ∀ i j, Wo (ix3 0 i j) = ((P.Wo i j : ℝ) : EReal)) (hbo : ∀ j, bo (ix2 0 j) = ((P.bo j : ℝ) : EReal)) :
    Has L' (upd c (Model.attn P) X) := by
  rw [hL]
  exact chunk_step h c ho hc (Model.attn P) (fun x => attnOf x W b Wo bo) (fun x G hx => attnOf_eq hs hx hW hb hWo hbo) v inb inb'

/-- One store of a chunk after its feed-forward network. -/
theorem mlp_step {L : Stores} {X : Model.Body} {P : Model.Par} (c : ℕ) {o : ℕ} (h : Has L X) (ho : o = 1024 * c) (hc : c < 4)
    {W : FVec Ideal S1x256x1024 .bf16} {b : FVec Ideal S1x1024 .bf16} {W2 : FVec Ideal S1x1024x256 .bf16} {b2 : FVec Ideal S1x256 .f32}
    {v : View sig .tc .vmem S4096x256 .f32}
    {inb : ∀ a, (![o, 0] : Fin 2 → ℕ) a + S1024x256.size a ≤ S4096x256.size a}
    {inb' : ∀ a, (![o, 0] : Fin 2 → ℕ) a + S1024x256.size a ≤ S4096x256.size a}
    {L' : Stores} (hL : L' = (⟨Rect.unit (s := S4096x256) ![o, 0] S1024x256.size inb, mlpOf (v.readCov L (Rect.unit (s := S4096x256) ![o, 0] S1024x256.size inb').toLoadRect) W b W2 b2⟩ : View.Piece (Elt Ideal) S4096x256 .f32) :: L)
    (hW : ∀ i j, W (ix3 0 i j) = ((P.g2 i * P.W1 i j : ℝ) : EReal))
    (hb : ∀ j, b (ix2 0 j) = (((∑ i, P.b2 i * P.W1 i j) + P.c1 j : ℝ) : EReal))
    (hW2 : ∀ i j, W2 (ix3 0 i j) = ((P.W2 i j : ℝ) : EReal)) (hb2 : ∀ j, b2 (ix2 0 j) = ((P.c2 j : ℝ) : EReal)) :
    Has L' (upd c (fun F i => Model.mlp P (F i)) X) := by
  rw [hL]
  exact chunk_step h c ho hc (fun F i => Model.mlp P (F i)) (fun x => mlpOf x W b W2 b2) (fun x G hx => mlpOf_eq hx hW hb hW2 hb2) v inb inb'

/-- The store of the whole state after the temporal convolution. -/
theorem conv_step {L : Stores} {X : Model.Body} {P : Model.Par} (h : Has L X)
    {g b : FVec Ideal S1x256 .f32} {W0 W1 W2 : FVec Ideal S1x1x256x256 .bf16} {c : FVec Ideal S1x256 .bf16}
    {v : View sig .tc .vmem S4096x256 .f32}
    {inb : ∀ a, (![0, 0] : Fin 2 → ℕ) a + S4096x256.size a ≤ S4096x256.size a}
    {inb' : ∀ a, (![0, 0] : Fin 2 → ℕ) a + S4096x256.size a ≤ S4096x256.size a}
    {L' : Stores} (hL : L' = (⟨Rect.unit (s := S4096x256) ![0, 0] S4096x256.size inb, convOf (v.readCov L (Rect.unit (s := S4096x256) ![0, 0] S4096x256.size inb').toLoadRect) g b W0 W1 W2 c⟩ : View.Piece (Elt Ideal) S4096x256 .f32) :: L)
    (hg : ∀ j, g (ix2 0 j) = ((P.g3 j : ℝ) : EReal)) (hb : ∀ j, b (ix2 0 j) = ((P.b3 j : ℝ) : EReal))
    (h0 : ∀ i j, W0 (ix4 0 0 i j) = ((P.Wc 0 i j : ℝ) : EReal)) (h1 : ∀ i j, W1 (ix4 0 0 i j) = ((P.Wc 1 i j : ℝ) : EReal))
    (h2 : ∀ i j, W2 (ix4 0 0 i j) = ((P.Wc 2 i j : ℝ) : EReal)) (hc : ∀ j, c (ix2 0 j) = ((P.bc j : ℝ) : EReal)) :
    Has L' (Model.conv P X) := by
  rw [hL]
  exact whole_step h (fun x => convOf x g b W0 W1 W2 c) (fun x hx => convOf_eq hx hg hb h0 h1 h2 hc) v inb inb'

/-- One layer is the attention chunk by chunk, the feed-forward network chunk by chunk and the convolution. -/
theorem layer_chunks (P : Model.Par) (X : Model.Body) :
    Model.conv P (upd 3 (fun F i => Model.mlp P (F i)) (upd 2 (fun F i => Model.mlp P (F i)) (upd 1 (fun F i => Model.mlp P (F i)) (upd 0 (fun F i => Model.mlp P (F i))
      (upd 3 (Model.attn P) (upd 2 (Model.attn P) (upd 1 (Model.attn P) (upd 0 (Model.attn P) X)))))))) = Model.layer P X := by
  rw [upd_all, upd_all]
  rfl

/-- A slab of an array with one leading axis, loaded, holds that layer's numbers. -/
theorem slab2 {n a : ℕ} {φ : EltTy} (v : Memref sig .tc .vmem ⟨2, ![n, a]⟩ φ) (hv : v.IsWhole) (x : Vec Ideal ⟨2, ![n, a]⟩ φ) {w : Fin n → Fin a → Elt Ideal φ}
    (h : ∀ l j, x (ix2 l j) = w l j) {o : ℕ} (l : Fin n) (ho : o = l.val)
    (inb : ∀ d, (![o, 0] : Fin 2 → ℕ) d + (⟨2, ![1, a]⟩ : Shape).size d ≤ (⟨2, ![n, a]⟩ : Shape).size d) (j : Fin a) :
    (View.readAt (Elt Ideal) v.view (Rect.unit (s := ⟨2, ![n, a]⟩) ![o, 0] (⟨2, ![1, a]⟩ : Shape).size inb).toLoadRect (hv.unread x) : Vec Ideal ⟨2, ![1, a]⟩ φ) (ix2 0 j) = w l j := by
  subst ho
  have hr : v.view.read (Elt Ideal) (hv.unread x) = x := Memref.IsWhole.read_unread hv x
  have e : (Rect.unit (s := ⟨2, ![n, a]⟩) ![l.val, 0] (⟨2, ![1, a]⟩ : Shape).size inb).toLoadRect.idx (ix2 0 j) = ix2 l j := by
    funext d
    refine Fin.ext ?_
    match d with
    | ⟨0, _⟩ => rfl
    | ⟨1, _⟩ => show 0 + 1 * j.val = j.val; omega
  show v.view.read (Elt Ideal) (hv.unread x) _ = _
  rw [hr, e, h]

/-- The same with two trailing axes. -/
theorem slab3 {n a b : ℕ} {φ : EltTy} (v : Memref sig .tc .vmem ⟨3, ![n, a, b]⟩ φ) (hv : v.IsWhole) (x : Vec Ideal ⟨3, ![n, a, b]⟩ φ) {w : Fin n → Fin a → Fin b → Elt Ideal φ}
    (h : ∀ l i j, x (ix3 l i j) = w l i j) {o : ℕ} (l : Fin n) (ho : o = l.val)
    (inb : ∀ d, (![o, 0, 0] : Fin 3 → ℕ) d + (⟨3, ![1, a, b]⟩ : Shape).size d ≤ (⟨3, ![n, a, b]⟩ : Shape).size d) (i : Fin a) (j : Fin b) :
    (View.readAt (Elt Ideal) v.view (Rect.unit (s := ⟨3, ![n, a, b]⟩) ![o, 0, 0] (⟨3, ![1, a, b]⟩ : Shape).size inb).toLoadRect (hv.unread x) : Vec Ideal ⟨3, ![1, a, b]⟩ φ) (ix3 0 i j) = w l i j := by
  subst ho
  have hr : v.view.read (Elt Ideal) (hv.unread x) = x := Memref.IsWhole.read_unread hv x
  have e : (Rect.unit (s := ⟨3, ![n, a, b]⟩) ![l.val, 0, 0] (⟨3, ![1, a, b]⟩ : Shape).size inb).toLoadRect.idx (ix3 0 i j) = ix3 l i j := by
    funext d
    refine Fin.ext ?_
    match d with
    | ⟨0, _⟩ => rfl
    | ⟨1, _⟩ => show 0 + 1 * i.val = i.val; omega
    | ⟨2, _⟩ => show 0 + 1 * j.val = j.val; omega
  show v.view.read (Elt Ideal) (hv.unread x) _ = _
  rw [hr, e, h]

/-- The same with a second leading axis. -/
theorem slab4 {n k a b : ℕ} {φ : EltTy} (v : Memref sig .tc .vmem ⟨4, ![n, k, a, b]⟩ φ) (hv : v.IsWhole) (x : Vec Ideal ⟨4, ![n, k, a, b]⟩ φ) {w : Fin n → Fin k → Fin a → Fin b → Elt Ideal φ}
    (h : ∀ l s i j, x (ix4 l s i j) = w l s i j) {o q : ℕ} (l : Fin n) (s : Fin k) (ho : o = l.val) (hq : q = s.val)
    (inb : ∀ d, (![o, q, 0, 0] : Fin 4 → ℕ) d + (⟨4, ![1, 1, a, b]⟩ : Shape).size d ≤ (⟨4, ![n, k, a, b]⟩ : Shape).size d) (i : Fin a) (j : Fin b) :
    (View.readAt (Elt Ideal) v.view (Rect.unit (s := ⟨4, ![n, k, a, b]⟩) ![o, q, 0, 0] (⟨4, ![1, 1, a, b]⟩ : Shape).size inb).toLoadRect (hv.unread x) : Vec Ideal ⟨4, ![1, 1, a, b]⟩ φ) (ix4 0 0 i j) = w l s i j := by
  subst ho hq
  have hr : v.view.read (Elt Ideal) (hv.unread x) = x := Memref.IsWhole.read_unread hv x
  have e : (Rect.unit (s := ⟨4, ![n, k, a, b]⟩) ![l.val, s.val, 0, 0] (⟨4, ![1, 1, a, b]⟩ : Shape).size inb).toLoadRect.idx (ix4 0 0 i j) = ix4 l s i j := by
    funext d
    refine Fin.ext ?_
    match d with
    | ⟨0, _⟩ => rfl
    | ⟨1, _⟩ => rfl
    | ⟨2, _⟩ => show 0 + 1 * i.val = i.val; omega
    | ⟨3, _⟩ => show 0 + 1 * j.val = j.val; omega
  show v.view.read (Elt Ideal) (hv.unread x) _ = _
  rw [hr, e, h]

/-- A load of a whole array is the array. -/
theorem load_all {s : Shape} {φ : EltTy} (v : Memref sig .tc .vmem s φ) (hv : v.IsWhole) (x : Vec Ideal s φ) {off : Fin s.rank → ℕ} (ho : ∀ d, off d = 0)
    (inb : ∀ d, off d + s.size d ≤ s.size d) :
    (View.readAt (Elt Ideal) v.view (Rect.unit (s := s) off s.size inb).toLoadRect (hv.unread x) : Vec Ideal s φ) = x := by
  have hr : v.view.read (Elt Ideal) (hv.unread x) = x := Memref.IsWhole.read_unread hv x
  funext j
  have e : (Rect.unit (s := s) off s.size inb).toLoadRect.idx j = j := by
    funext d
    refine Fin.ext ?_
    show off d + 1 * (j d).val = (j d).val
    have := ho d
    omega
  show v.view.read (Elt Ideal) (hv.unread x) _ = _
  rw [hr, e]

/-- The conditioning vector as a row. -/
theorem condition_eq {h : FVec Ideal S1x1x256 .f32} {H : Model.Row} (hh : ∀ d, h (ix3 0 0 d) = ((H d : ℝ) : EReal)) : Row1 (k0_pay3 (F := Ideal) h) H := by
  intro d
  pointwise [k0_pay3]
  exact hh d

/-- The first store: the state before the first layer. -/
theorem start_step {y : FVec Ideal S4096x256 .f32} {Y : Model.Body}
    {inb : ∀ a, (![0, 0] : Fin 2 → ℕ) a + S4096x256.size a ≤ S4096x256.size a}
    {L' : Stores} (hL : L' = [(⟨Rect.unit (s := S4096x256) ![0, 0] S4096x256.size inb, y⟩ : View.Piece (Elt Ideal) S4096x256 .f32)])
    (hy : At y (flat Y)) : Has L' Y := by
  subst hL
  intro r d
  have e : ix2 r d = (Rect.unit (s := S4096x256) ![0, 0] S4096x256.size inb).emb (ix2 r d) := by
    funext a
    refine Fin.ext ?_
    match a with
    | ⟨0, _⟩ => show r.val = 0 + 1 * r.val; omega
    | ⟨1, _⟩ => show d.val = 0 + 1 * d.val; omega
  show View.canon _ _ = _
  rw [e, View.canon_cons_emb]
  exact hy r d

/-- A layer is done when its chunks and its convolution are. -/
theorem layer_step {L : Stores} {P : Model.Par} {X : Model.Body}
    (h : Has L (Model.conv P (upd 3 (fun F i => Model.mlp P (F i)) (upd 2 (fun F i => Model.mlp P (F i)) (upd 1 (fun F i => Model.mlp P (F i)) (upd 0 (fun F i => Model.mlp P (F i))
      (upd 3 (Model.attn P) (upd 2 (Model.attn P) (upd 1 (Model.attn P) (upd 0 (Model.attn P) X)))))))))) : Has L (Model.layer P X) := by
  rw [← layer_chunks]
  exact h

/-- The last store: the result, computed from the whole state. -/
theorem out_step {L : Stores} {X : Model.Body} (h : Has L X) {W : FVec Ideal S256x256 .bf16} {b : FVec Ideal S1x256 .f32} {M : Fin 256 → Fin 256 → ℝ} {C : Model.Row}
    {v : View sig .tc .vmem S4096x256 .f32}
    {inb : ∀ a, (![0, 0, 0] : Fin 3 → ℕ) a + S1x4096x256.size a ≤ S1x4096x256.size a}
    {inb' : ∀ a, (![0, 0] : Fin 2 → ℕ) a + S4096x256.size a ≤ S4096x256.size a}
    {L' : List (View.Piece (Elt Ideal) S1x4096x256 .f32)}
    (hL : L' = [(⟨Rect.unit (s := S1x4096x256) ![0, 0, 0] S1x4096x256.size inb, k0_pay1 (F := Ideal) (v.readCov L (Rect.unit (s := S4096x256) ![0, 0] S4096x256.size inb').toLoadRect) W b⟩ : View.Piece (Elt Ideal) S1x4096x256 .f32)])
    (hW : At W M) (hb : Row1 b C) (r : Fin 4096) (k : Fin 256) :
    (View.canon L' : FVec Ideal S1x4096x256 .f32) (ix3 0 r k) = ((flat (Model.out M C X) r k : ℝ) : EReal) := by
  subst hL
  have hx : At (φ := .f32) (v.readCov L (Rect.unit (s := S4096x256) ![0, 0] S4096x256.size inb').toLoadRect) (flat X) := by
    intro p d
    rw [View.readCov_eq_canon']
    have e : (Rect.unit (s := S4096x256) ![0, 0] S4096x256.size inb').toLoadRect.idx (ix2 p d) = ix2 p d := by
      funext a
      refine Fin.ext ?_
      match a with
      | ⟨0, _⟩ => show 0 + 1 * p.val = p.val; omega
      | ⟨1, _⟩ => show 0 + 1 * d.val = d.val; omega
    show View.canon L _ = _
    rw [e, h]
  have e : ix3 0 r k = (Rect.unit (s := S1x4096x256) ![0, 0, 0] S1x4096x256.size inb).emb (ix3 0 r k) := by
    funext a
    refine Fin.ext ?_
    match a with
    | ⟨0, _⟩ => rfl
    | ⟨1, _⟩ => show r.val = 0 + 1 * r.val; omega
    | ⟨2, _⟩ => show k.val = 0 + 1 * k.val; omega
  show View.canon _ _ = _
  rw [e, View.canon_cons_emb]
  exact outOf_eq hx hW hb r k

end Cert.KerStage

end
-- ==== Proof.KerChain.lean ====
/- The chain of the kernel's stores: the block one grid point writes is the network of the real numbers its input blocks hold. -/
module

public import proofs.«01_k».proof.Proof.KerRun

@[expose] public section

set_option maxRecDepth 16384

noncomputable section

open scoped BigOperators

namespace Cert.KerStage

open Cert.KernelIdeal Cert.KernelIdeal.Gen Idealize.ShloMosaic

/-- What the projections' columns are multiplied by: the first third, the queries, by one over the square root of the head size. -/
def cols : Fin 768 → ℝ := fun j => if j.val < 256 then Model.scale else 1

/-- The input blocks of a grid point hold these real numbers. -/
structure Inputs (E : Model.Emb) (P : Fin 6 → Model.Par) (M : Fin 256 → Fin 256 → ℝ) (C : Model.Row) (T : ℝ) (H : Model.Row) (Z : Model.Body)
    (x0 : Vec Ideal S1x4096x256 .f32) (x1 : Vec Ideal S1x1x1 .f32) (x2 : Vec Ideal S1x1x256 .f32) (x3 : Vec Ideal S256x256 .f32) (x4 : Vec Ideal S1x256 .f32) (x5 : Vec Ideal S256x256 .f32) (x6 : Vec Ideal S1x256 .f32) (x7 : Vec Ideal S256x512 .f32) (x8 : Vec Ideal S1x512 .f32) (x9 : Vec Ideal S512x512 .f32) (x10 : Vec Ideal S1x512 .f32) (x11 : Vec Ideal S6x256x768 .bf16) (x12 : Vec Ideal S6x768 .bf16) (x13 : Vec Ideal S6x256x256 .bf16) (x14 : Vec Ideal S6x256 .f32) (x15 : Vec Ideal S6x256x1024 .bf16) (x16 : Vec Ideal S6x1024 .bf16) (x17 : Vec Ideal S6x1024x256 .bf16) (x18 : Vec Ideal S6x256 .f32) (x19 : Vec Ideal S6x256 .f32) (x20 : Vec Ideal S6x256 .f32) (x21 : Vec Ideal S6x3x256x256 .bf16) (x22 : Vec Ideal S6x256 .bf16) (x23 : Vec Ideal S256x256 .bf16) (x24 : Vec Ideal S1x256 .f32) : Prop where
  h0 : ∀ r d, x0 (ix3 0 r d) = ((flat Z r d : ℝ) : EReal)
  h1 : x1 (ix3 0 0 0) = ((T : ℝ) : EReal)
  h2 : ∀ d, x2 (ix3 0 0 d) = ((H d : ℝ) : EReal)
  h3 : At (φ := .f32) x3 E.tW1
  h4 : Row1 (φ := .f32) x4 E.tb1
  h5 : At (φ := .f32) x5 E.tW2
  h6 : Row1 (φ := .f32) x6 E.tb2
  h7 : At (φ := .f32) x7 E.cW1
  h8 : Row1 (φ := .f32) x8 E.cb1
  h9 : At (φ := .f32) x9 E.cW2
  h10 : Row1 (φ := .f32) x10 E.cb2
  h11 : ∀ l i j, x11 (ix3 l i j) = (((P l).g1 i * (P l).Wqkv i j * cols j : ℝ) : EReal)
  h12 : ∀ l j, x12 (ix2 l j) = ((((∑ i, (P l).b1 i * (P l).Wqkv i j) + (P l).bqkv j) * cols j : ℝ) : EReal)
  h13 : ∀ l i j, x13 (ix3 l i j) = (((P l).Wo i j : ℝ) : EReal)
  h14 : ∀ l j, x14 (ix2 l j) = (((P l).bo j : ℝ) : EReal)
  h15 : ∀ l i j, x15 (ix3 l i j) = (((P l).g2 i * (P l).W1 i j : ℝ) : EReal)
  h16 : ∀ l j, x16 (ix2 l j) = (((∑ i, (P l).b2 i * (P l).W1 i j) + (P l).c1 j : ℝ) : EReal)
  h17 : ∀ l i j, x17 (ix3 l i j) = (((P l).W2 i j : ℝ) : EReal)
  h18 : ∀ l j, x18 (ix2 l j) = (((P l).c2 j : ℝ) : EReal)
  h19 : ∀ l j, x19 (ix2 l j) = (((P l).g3 j : ℝ) : EReal)
  h20 : ∀ l j, x20 (ix2 l j) = (((P l).b3 j : ℝ) : EReal)
  h21 : ∀ l s i j, x21 (ix4 l s i j) = (((P l).Wc s i j : ℝ) : EReal)
  h22 : ∀ l j, x22 (ix2 l j) = (((P l).bc j : ℝ) : EReal)
  h23 : At (φ := .bf16) x23 M
  h24 : Row1 (φ := .f32) x24 C

attribute [local irreducible] mulf addf subf divf rsqrt exp truncf extf shapeCast broadcast broadcastTo multiReduction concatenate extractStridedSlice iota cmpi select subi addi remsi divsi andi xori extui sitofp constant erf View.readAt View.readCov

set_option maxHeartbeats 4000000 in
/-- The state after the last layer. -/
theorem state_eq (c : Dev nD) (i : grid0.Coords) (arg1 : Memref sig .tc .vmem S1x4096x256 .f32) (harg1 : arg1.IsWhole) (arg2 : Memref sig .tc .vmem S1x1x1 .f32) (harg2 : arg2.IsWhole) (arg3 : Memref sig .tc .vmem S1x1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S6x256x768 .bf16) (harg12 : arg12.IsWhole) (arg13 : Memref sig .tc .vmem S6x768 .bf16) (harg13 : arg13.IsWhole) (arg14 : Memref sig .tc .vmem S6x256x256 .bf16) (harg14 : arg14.IsWhole) (arg15 : Memref sig .tc .vmem S6x256 .f32) (harg15 : arg15.IsWhole) (arg16 : Memref sig .tc .vmem S6x256x1024 .bf16) (harg16 : arg16.IsWhole) (arg17 : Memref sig .tc .vmem S6x1024 .bf16) (harg17 : arg17.IsWhole) (arg18 : Memref sig .tc .vmem S6x1024x256 .bf16) (harg18 : arg18.IsWhole) (arg19 : Memref sig .tc .vmem S6x256 .f32) (harg19 : arg19.IsWhole) (arg20 : Memref sig .tc .vmem S6x256 .f32) (harg20 : arg20.IsWhole) (arg21 : Memref sig .tc .vmem S6x256 .f32) (harg21 : arg21.IsWhole) (arg22 : Memref sig .tc .vmem S6x3x256x256 .bf16) (harg22 : arg22.IsWhole) (arg23 : Memref sig .tc .vmem S6x256 .bf16) (harg23 : arg23.IsWhole) (arg24 : Memref sig .tc .vmem S256x256 .bf16) (harg24 : arg24.IsWhole) (arg25 : Memref sig .tc .vmem S1x256 .f32) (harg25 : arg25.IsWhole) (arg26 : Memref sig .tc .vmem S1x4096x256 .f32) (harg26 : arg26.IsWhole) (arg27 : Memref sig .tc .vmem S4096x256 .f32) (harg27 : arg27.IsWhole)
    (x0 : Vec Ideal S1x4096x256 .f32) (x1 : Vec Ideal S1x1x1 .f32) (x2 : Vec Ideal S1x1x256 .f32) (x3 : Vec Ideal S256x256 .f32) (x4 : Vec Ideal S1x256 .f32) (x5 : Vec Ideal S256x256 .f32) (x6 : Vec Ideal S1x256 .f32) (x7 : Vec Ideal S256x512 .f32) (x8 : Vec Ideal S1x512 .f32) (x9 : Vec Ideal S512x512 .f32) (x10 : Vec Ideal S1x512 .f32) (x11 : Vec Ideal S6x256x768 .bf16) (x12 : Vec Ideal S6x768 .bf16) (x13 : Vec Ideal S6x256x256 .bf16) (x14 : Vec Ideal S6x256 .f32) (x15 : Vec Ideal S6x256x1024 .bf16) (x16 : Vec Ideal S6x1024 .bf16) (x17 : Vec Ideal S6x1024x256 .bf16) (x18 : Vec Ideal S6x256 .f32) (x19 : Vec Ideal S6x256 .f32) (x20 : Vec Ideal S6x256 .f32) (x21 : Vec Ideal S6x3x256x256 .bf16) (x22 : Vec Ideal S6x256 .bf16) (x23 : Vec Ideal S256x256 .bf16) (x24 : Vec Ideal S1x256 .f32)
    {E : Model.Emb} {P : Fin 6 → Model.Par} {M : Fin 256 → Fin 256 → ℝ} {C : Model.Row} {T : ℝ} {H : Model.Row} {Z : Model.Body}
    (Hs : Inputs E P M C T H Z x0 x1 x2 x3 x4 x5 x6 x7 x8 x9 x10 x11 x12 x13 x14 x15 x16 x17 x18 x19 x20 x21 x22 x23 x24) :
    Has (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24).2.1
      (Model.layer (P 5) (Model.layer (P 4) (Model.layer (P 3) (Model.layer (P 2) (Model.layer (P 1) (Model.layer (P 0) (Model.start E T H Z))))))) := by
  unfold kernelRun0_A
  dsimp only
  iterate 6
    refine layer_step ?_
    refine conv_step ?_ (hL := rfl) (fun j => slab2 _ _ _ Hs.h19 _ (by rfl) _ j) (fun j => slab2 _ _ _ Hs.h20 _ (by rfl) _ j)
      (fun i j => slab4 _ _ _ Hs.h21 _ _ (by rfl) (by rfl) _ i j) (fun i j => slab4 _ _ _ Hs.h21 _ _ (by rfl) (by rfl) _ i j)
      (fun i j => slab4 _ _ _ Hs.h21 _ _ (by rfl) (by rfl) _ i j) (fun j => slab2 _ _ _ Hs.h22 _ (by rfl) _ j)
    iterate 4
      refine mlp_step _ ?_ (by rfl) (by decide) (hL := rfl) (fun i j => slab3 _ _ _ Hs.h15 _ (by rfl) _ i j) (fun j => slab2 _ _ _ Hs.h16 _ (by rfl) _ j)
        (fun i j => slab3 _ _ _ Hs.h17 _ (by rfl) _ i j) (fun j => slab2 _ _ _ Hs.h18 _ (by rfl) _ j)
    iterate 4
      refine attn_step _ ?_ (by rfl) (by decide) (s := cols) rfl (hL := rfl) (fun i j => slab3 _ _ _ Hs.h11 _ (by rfl) _ i j) (fun j => slab2 _ _ _ Hs.h12 _ (by rfl) _ j)
        (fun i j => slab3 _ _ _ Hs.h13 _ (by rfl) _ i j) (fun j => slab2 _ _ _ Hs.h14 _ (by rfl) _ j)
  exact start_step (hL := rfl) (startOf_eq
    (timeRowOf_eq ((congrFun (load_all _ _ _ (by decide) _) _).trans Hs.h1) (fun p q => (congrFun (load_all _ _ _ (by decide) _) _).trans (Hs.h3 p q))
      (fun j => (congrFun (load_all _ _ _ (by decide) _) _).trans (Hs.h4 j)) (fun p q => (congrFun (load_all _ _ _ (by decide) _) _).trans (Hs.h5 p q))
      (fun j => (congrFun (load_all _ _ _ (by decide) _) _).trans (Hs.h6 j)))
    (condition_eq fun d => (congrFun (load_all _ _ _ (by decide) _) _).trans (Hs.h2 d)) (fun p q => (congrFun (load_all _ _ _ (by decide) _) _).trans (Hs.h7 p q))
    (fun j => (congrFun (load_all _ _ _ (by decide) _) _).trans (Hs.h8 j)) (fun p q => (congrFun (load_all _ _ _ (by decide) _) _).trans (Hs.h9 p q))
    (fun j => (congrFun (load_all _ _ _ (by decide) _) _).trans (Hs.h10 j)) (fun r d => (congrFun (load_all _ _ _ (by decide) _) _).trans (Hs.h0 r d)))

end Cert.KerStage

end
-- ==== Proof.KerBlock.lean ====
/- What a grid point writes to the result, from what its input blocks hold. -/
module

public import proofs.«01_k».proof.Proof.KerChain
public import proofs.«01_k».proof.Proof.IdealValue
public import Idealize.ShloMosaic.Lib.Pipeline.ValueKit.Geometry

@[expose] public section

set_option maxRecDepth 16384

noncomputable section

open scoped BigOperators

namespace Cert.KerStage

open Cert.KernelIdeal Cert.KernelIdeal.Gen Idealize.ShloMosaic Idealize.ShloMosaic.TcCoe

section
attribute [local irreducible] mulf addf subf divf rsqrt exp truncf extf shapeCast broadcast broadcastTo multiReduction concatenate extractStridedSlice iota cmpi select subi addi remsi divsi andi xori extui sitofp constant erf View.readAt View.readCov

set_option maxHeartbeats 4000000 in
/-- The block the body stores is the network of the numbers its input blocks hold. -/
theorem stored_eq (c : Dev nD) (i : grid0.Coords) (arg1 : Memref sig .tc .vmem S1x4096x256 .f32) (harg1 : arg1.IsWhole) (arg2 : Memref sig .tc .vmem S1x1x1 .f32) (harg2 : arg2.IsWhole) (arg3 : Memref sig .tc .vmem S1x1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S6x256x768 .bf16) (harg12 : arg12.IsWhole) (arg13 : Memref sig .tc .vmem S6x768 .bf16) (harg13 : arg13.IsWhole) (arg14 : Memref sig .tc .vmem S6x256x256 .bf16) (harg14 : arg14.IsWhole) (arg15 : Memref sig .tc .vmem S6x256 .f32) (harg15 : arg15.IsWhole) (arg16 : Memref sig .tc .vmem S6x256x1024 .bf16) (harg16 : arg16.IsWhole) (arg17 : Memref sig .tc .vmem S6x1024 .bf16) (harg17 : arg17.IsWhole) (arg18 : Memref sig .tc .vmem S6x1024x256 .bf16) (harg18 : arg18.IsWhole) (arg19 : Memref sig .tc .vmem S6x256 .f32) (harg19 : arg19.IsWhole) (arg20 : Memref sig .tc .vmem S6x256 .f32) (harg20 : arg20.IsWhole) (arg21 : Memref sig .tc .vmem S6x256 .f32) (harg21 : arg21.IsWhole) (arg22 : Memref sig .tc .vmem S6x3x256x256 .bf16) (harg22 : arg22.IsWhole) (arg23 : Memref sig .tc .vmem S6x256 .bf16) (harg23 : arg23.IsWhole) (arg24 : Memref sig .tc .vmem S256x256 .bf16) (harg24 : arg24.IsWhole) (arg25 : Memref sig .tc .vmem S1x256 .f32) (harg25 : arg25.IsWhole) (arg26 : Memref sig .tc .vmem S1x4096x256 .f32) (harg26 : arg26.IsWhole) (arg27 : Memref sig .tc .vmem S4096x256 .f32) (harg27 : arg27.IsWhole)
    (x0 : Vec Ideal S1x4096x256 .f32) (x1 : Vec Ideal S1x1x1 .f32) (x2 : Vec Ideal S1x1x256 .f32) (x3 : Vec Ideal S256x256 .f32) (x4 : Vec Ideal S1x256 .f32) (x5 : Vec Ideal S256x256 .f32) (x6 : Vec Ideal S1x256 .f32) (x7 : Vec Ideal S256x512 .f32) (x8 : Vec Ideal S1x512 .f32) (x9 : Vec Ideal S512x512 .f32) (x10 : Vec Ideal S1x512 .f32) (x11 : Vec Ideal S6x256x768 .bf16) (x12 : Vec Ideal S6x768 .bf16) (x13 : Vec Ideal S6x256x256 .bf16) (x14 : Vec Ideal S6x256 .f32) (x15 : Vec Ideal S6x256x1024 .bf16) (x16 : Vec Ideal S6x1024 .bf16) (x17 : Vec Ideal S6x1024x256 .bf16) (x18 : Vec Ideal S6x256 .f32) (x19 : Vec Ideal S6x256 .f32) (x20 : Vec Ideal S6x256 .f32) (x21 : Vec Ideal S6x3x256x256 .bf16) (x22 : Vec Ideal S6x256 .bf16) (x23 : Vec Ideal S256x256 .bf16) (x24 : Vec Ideal S1x256 .f32)
    {E : Model.Emb} {P : Fin 6 → Model.Par} {M : Fin 256 → Fin 256 → ℝ} {C : Model.Row} {T : ℝ} {H : Model.Row} {Z : Model.Body}
    (Hs : Inputs E P M C T H Z x0 x1 x2 x3 x4 x5 x6 x7 x8 x9 x10 x11 x12 x13 x14 x15 x16 x17 x18 x19 x20 x21 x22 x23 x24) (r : Fin 4096) (k : Fin 256) :
    (View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24).1 : FVec Ideal S1x4096x256 .f32) (ix3 0 r k)
      = ((flat (Model.net E P M C T H Z) r k : ℝ) : EReal) := by
  have h := state_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 Hs
  unfold kernelRun0_A at h ⊢
  dsimp only at h ⊢
  exact out_step h rfl (fun p q => (congrFun (load_all _ _ _ (by decide) _) _).trans (Hs.h23 p q))
    (fun j => (congrFun (load_all _ _ _ (by decide) _) _).trans (Hs.h24 j)) r k

end

/-- The output's staging buffer holds that block after the body. -/
theorem block_eq (c : Dev nD) (i : grid0.Coords) (arg1 : Memref sig .tc .vmem S1x4096x256 .f32) (harg1 : arg1.IsWhole) (arg2 : Memref sig .tc .vmem S1x1x1 .f32) (harg2 : arg2.IsWhole) (arg3 : Memref sig .tc .vmem S1x1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S6x256x768 .bf16) (harg12 : arg12.IsWhole) (arg13 : Memref sig .tc .vmem S6x768 .bf16) (harg13 : arg13.IsWhole) (arg14 : Memref sig .tc .vmem S6x256x256 .bf16) (harg14 : arg14.IsWhole) (arg15 : Memref sig .tc .vmem S6x256 .f32) (harg15 : arg15.IsWhole) (arg16 : Memref sig .tc .vmem S6x256x1024 .bf16) (harg16 : arg16.IsWhole) (arg17 : Memref sig .tc .vmem S6x1024 .bf16) (harg17 : arg17.IsWhole) (arg18 : Memref sig .tc .vmem S6x1024x256 .bf16) (harg18 : arg18.IsWhole) (arg19 : Memref sig .tc .vmem S6x256 .f32) (harg19 : arg19.IsWhole) (arg20 : Memref sig .tc .vmem S6x256 .f32) (harg20 : arg20.IsWhole) (arg21 : Memref sig .tc .vmem S6x256 .f32) (harg21 : arg21.IsWhole) (arg22 : Memref sig .tc .vmem S6x3x256x256 .bf16) (harg22 : arg22.IsWhole) (arg23 : Memref sig .tc .vmem S6x256 .bf16) (harg23 : arg23.IsWhole) (arg24 : Memref sig .tc .vmem S256x256 .bf16) (harg24 : arg24.IsWhole) (arg25 : Memref sig .tc .vmem S1x256 .f32) (harg25 : arg25.IsWhole) (arg26 : Memref sig .tc .vmem S1x4096x256 .f32) (harg26 : arg26.IsWhole) (arg27 : Memref sig .tc .vmem S4096x256 .f32) (harg27 : arg27.IsWhole)
    (x0 : Vec Ideal S1x4096x256 .f32) (x1 : Vec Ideal S1x1x1 .f32) (x2 : Vec Ideal S1x1x256 .f32) (x3 : Vec Ideal S256x256 .f32) (x4 : Vec Ideal S1x256 .f32) (x5 : Vec Ideal S256x256 .f32) (x6 : Vec Ideal S1x256 .f32) (x7 : Vec Ideal S256x512 .f32) (x8 : Vec Ideal S1x512 .f32) (x9 : Vec Ideal S512x512 .f32) (x10 : Vec Ideal S1x512 .f32) (x11 : Vec Ideal S6x256x768 .bf16) (x12 : Vec Ideal S6x768 .bf16) (x13 : Vec Ideal S6x256x256 .bf16) (x14 : Vec Ideal S6x256 .f32) (x15 : Vec Ideal S6x256x1024 .bf16) (x16 : Vec Ideal S6x1024 .bf16) (x17 : Vec Ideal S6x1024x256 .bf16) (x18 : Vec Ideal S6x256 .f32) (x19 : Vec Ideal S6x256 .f32) (x20 : Vec Ideal S6x256 .f32) (x21 : Vec Ideal S6x3x256x256 .bf16) (x22 : Vec Ideal S6x256 .bf16) (x23 : Vec Ideal S256x256 .bf16) (x24 : Vec Ideal S1x256 .f32)
    {E : Model.Emb} {P : Fin 6 → Model.Par} {M : Fin 256 → Fin 256 → ℝ} {C : Model.Row} {T : ℝ} {H : Model.Row} {Z : Model.Body}
    (Hs : Inputs E P M C T H Z x0 x1 x2 x3 x4 x5 x6 x7 x8 x9 x10 x11 x12 x13 x14 x15 x16 x17 x18 x19 x20 x21 x22 x23 x24) (r : Fin 4096) (k : Fin 256) :
    out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 (ix3 0 r k)
      = ((flat (Model.net E P M C T H Z) r k : ℝ) : EReal) := by
  unfold out0_A_25
  rw [View.read_writes_eq_canon _ _ _ (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24)]
  exact stored_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 x20 x21 x22 x23 x24 Hs r k

end Cert.KerStage

end
-- ==== Proof.KerInputs.lean ====
/- The input blocks of a grid point hold real numbers when the arrays the kernel is launched on do. -/
module

public import proofs.«01_k».proof.Proof.KerBlock
public import proofs.«01_k».proof.Proof.Args

@[expose] public section

set_option maxRecDepth 16384

noncomputable section

open scoped BigOperators

namespace Cert.KerStage

open Cert.KernelIdeal Cert.KernelIdeal.Gen Cert.KernelIdeal.Value Idealize.ShloMosaic Idealize.ShloMosaic.TcCoe

variable (m : (ℓ : Loc nD τ sig) → Buf (Elt Ideal) ℓ)

/-- The arrays the kernel is launched on hold the numbers of `A`, folded as the host folds them. -/
structure Entry (A : Args) (c : Dev nD) : Prop where
  h0 : ∀ b r d, (V m c main_v0 : FVec Ideal S4x4096x256 .f32) (ix3 b r d) = ((flat (A.z b) r d : ℝ) : EReal)
  h1 : ∀ b, (V m c main_v2 : FVec Ideal S4x1x1 .f32) (ix3 b 0 0) = ((A.t b : ℝ) : EReal)
  h2 : ∀ b d, (V m c main_v3 : FVec Ideal S4x1x256 .f32) (ix3 b 0 d) = ((A.h b d : ℝ) : EReal)
  h3 : At (φ := .f32) (V m c main_arg3) A.emb.tW1
  h4 : Row1 (φ := .f32) (V m c main_v27) A.emb.tb1
  h5 : At (φ := .f32) (V m c main_arg5) A.emb.tW2
  h6 : Row1 (φ := .f32) (V m c main_v28) A.emb.tb2
  h7 : At (φ := .f32) (V m c main_arg7) A.emb.cW1
  h8 : Row1 (φ := .f32) (V m c main_v29) A.emb.cb1
  h9 : At (φ := .f32) (V m c main_arg9) A.emb.cW2
  h10 : Row1 (φ := .f32) (V m c main_v30) A.emb.cb2
  h11 : ∀ l i j, (V m c main_v13 : FVec Ideal S6x256x768 .bf16) (ix3 l i j) = (((A.par l).g1 i * (A.par l).Wqkv i j * cols j : ℝ) : EReal)
  h12 : ∀ l j, (V m c main_v19 : FVec Ideal S6x768 .bf16) (ix2 l j) = ((((∑ i, (A.par l).b1 i * (A.par l).Wqkv i j) + (A.par l).bqkv j) * cols j : ℝ) : EReal)
  h13 : ∀ l i j, (V m c main_v31 : FVec Ideal S6x256x256 .bf16) (ix3 l i j) = (((A.par l).Wo i j : ℝ) : EReal)
  h14 : ∀ l j, (V m c main_arg16 : FVec Ideal S6x256 .f32) (ix2 l j) = (((A.par l).bo j : ℝ) : EReal)
  h15 : ∀ l i j, (V m c main_v23 : FVec Ideal S6x256x1024 .bf16) (ix3 l i j) = (((A.par l).g2 i * (A.par l).W1 i j : ℝ) : EReal)
  h16 : ∀ l j, (V m c main_v26 : FVec Ideal S6x1024 .bf16) (ix2 l j) = (((∑ i, (A.par l).b2 i * (A.par l).W1 i j) + (A.par l).c1 j : ℝ) : EReal)
  h17 : ∀ l i j, (V m c main_v32 : FVec Ideal S6x1024x256 .bf16) (ix3 l i j) = (((A.par l).W2 i j : ℝ) : EReal)
  h18 : ∀ l j, (V m c main_arg22 : FVec Ideal S6x256 .f32) (ix2 l j) = (((A.par l).c2 j : ℝ) : EReal)
  h19 : ∀ l j, (V m c main_arg23 : FVec Ideal S6x256 .f32) (ix2 l j) = (((A.par l).g3 j : ℝ) : EReal)
  h20 : ∀ l j, (V m c main_arg24 : FVec Ideal S6x256 .f32) (ix2 l j) = (((A.par l).b3 j : ℝ) : EReal)
  h21 : ∀ l s i j, (V m c main_v33 : FVec Ideal S6x3x256x256 .bf16) (ix4 l s i j) = (((A.par l).Wc s i j : ℝ) : EReal)
  h22 : ∀ l j, (V m c main_v34 : FVec Ideal S6x256 .bf16) (ix2 l j) = (((A.par l).bc j : ℝ) : EReal)
  h23 : At (φ := .bf16) (V m c main_v35) A.oW
  h24 : Row1 (φ := .f32) (V m c main_v36) A.ob

/-- The parameters' windows stay at block zero. -/
theorem index_zero : ∀ w : Fin 26, 3 ≤ w.val → w.val < 25 → ∀ (t : Fin grid0.N) a, (win0 w).index t a = 0 := by
  decide +kernel

/-- A parameter's block is its array. -/
theorem iblk_whole (c : Dev nD) (w : Fin 26) (h3 : 3 ≤ w.val) (h25 : w.val < 25) (t : Fin cfg0.N)
    (x : ((cfg0.win w).xblock (cfg0.grid.coords t)).Idx) (y : (cfg0.win w).shape.Idx) (hxy : ∀ a, (x a).val = (y a).val) :
    iblk m c w t x = ((cfg0.win w).arr.view.read (Elt Ideal) (V m c (Pipeline.arrRef spec0 w))) y := by
  have e : ((cfg0.win w).rect t).emb x = y := by
    funext a
    refine Fin.ext ?_
    rw [Pipeline.Window.rect_emb_val_of_index_zero (cfg0.win w) t a (index_zero w h3 h25 t a) x]
    exact hxy a
  rw [← e]
  rfl

/-- The state's, the time's and the conditioning vector's windows are at the point's batch element. -/
theorem index_batch : ∀ t : Fin grid0.N, win0_0.index t = ![t.val, 0, 0] ∧ win0_1.index t = ![t.val, 0, 0] ∧ win0_2.index t = ![t.val, 0, 0]
    ∧ win0_25.index t = ![t.val, 0, 0] := by
  decide +kernel

/-- The point's block of the state is the batch element's rows. -/
theorem iblk_0 (c : Dev nD) (t : Fin 4) (r : Fin 4096) (d : Fin 256) :
    (iblk m c 0 t : FVec Ideal S1x4096x256 .f32) (ix3 0 r d) = (V m c main_v0 : FVec Ideal S4x4096x256 .f32) (ix3 t r d) := by
  have e := (index_batch t).1
  show (V m c main_v0 : FVec Ideal S4x4096x256 .f32) (((cfg0.win 0).blk t).view.emb (ix3 0 r d)) = _
  refine congrArg _ ?_
  blk_ext [e]

/-- The point's block of the times is the batch element's time. -/
theorem iblk_1 (c : Dev nD) (t : Fin 4) :
    (iblk m c 1 t : FVec Ideal S1x1x1 .f32) (ix3 0 0 0) = (V m c main_v2 : FVec Ideal S4x1x1 .f32) (ix3 t 0 0) := by
  have e := (index_batch t).2.1
  show (V m c main_v2 : FVec Ideal S4x1x1 .f32) (((cfg0.win 1).blk t).view.emb (ix3 0 0 0)) = _
  refine congrArg _ ?_
  blk_ext [e]

/-- The point's block of the conditioning vectors is the batch element's vector. -/
theorem iblk_2 (c : Dev nD) (t : Fin 4) (d : Fin 256) :
    (iblk m c 2 t : FVec Ideal S1x1x256 .f32) (ix3 0 0 d) = (V m c main_v3 : FVec Ideal S4x1x256 .f32) (ix3 t 0 d) := by
  have e := (index_batch t).2.2.1
  show (V m c main_v3 : FVec Ideal S4x1x256 .f32) (((cfg0.win 2).blk t).view.emb (ix3 0 0 d)) = _
  refine congrArg _ ?_
  blk_ext [e]

set_option maxHeartbeats 8000000 in
/-- So the input blocks of point `t` hold the numbers of batch element `t`. -/
theorem inputs_eq {A : Args} {c : Dev nD} (H : Entry m A c) (t : Fin 4) :
    Inputs A.emb A.par A.oW A.ob (A.t t) (A.h t) (A.z t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) where
  h0 := fun r d => (iblk_0 m c t r d).trans (H.h0 t r d)
  h1 := (iblk_1 m c t).trans (H.h1 t)
  h2 := fun d => (iblk_2 m c t d).trans (H.h2 t d)
  h3 := fun p q => (iblk_whole m c 3 (by decide) (by decide) t (ix2 p q) (ix2 p q) fun _ => rfl).trans (H.h3 p q)
  h4 := fun j => (iblk_whole m c 4 (by decide) (by decide) t (ix2 0 j) (ix2 0 j) fun _ => rfl).trans (H.h4 j)
  h5 := fun p q => (iblk_whole m c 5 (by decide) (by decide) t (ix2 p q) (ix2 p q) fun _ => rfl).trans (H.h5 p q)
  h6 := fun j => (iblk_whole m c 6 (by decide) (by decide) t (ix2 0 j) (ix2 0 j) fun _ => rfl).trans (H.h6 j)
  h7 := fun p q => (iblk_whole m c 7 (by decide) (by decide) t (ix2 p q) (ix2 p q) fun _ => rfl).trans (H.h7 p q)
  h8 := fun j => (iblk_whole m c 8 (by decide) (by decide) t (ix2 0 j) (ix2 0 j) fun _ => rfl).trans (H.h8 j)
  h9 := fun p q => (iblk_whole m c 9 (by decide) (by decide) t (ix2 p q) (ix2 p q) fun _ => rfl).trans (H.h9 p q)
  h10 := fun j => (iblk_whole m c 10 (by decide) (by decide) t (ix2 0 j) (ix2 0 j) fun _ => rfl).trans (H.h10 j)
  h11 := fun l i j => (iblk_whole m c 11 (by decide) (by decide) t (ix3 l i j) (ix3 l i j) fun _ => rfl).trans (H.h11 l i j)
  h12 := fun l j => (iblk_whole m c 12 (by decide) (by decide) t (ix2 l j) (ix2 l j) fun _ => rfl).trans (H.h12 l j)
  h13 := fun l i j => (iblk_whole m c 13 (by decide) (by decide) t (ix3 l i j) (ix3 l i j) fun _ => rfl).trans (H.h13 l i j)
  h14 := fun l j => (iblk_whole m c 14 (by decide) (by decide) t (ix2 l j) (ix2 l j) fun _ => rfl).trans (H.h14 l j)
  h15 := fun l i j => (iblk_whole m c 15 (by decide) (by decide) t (ix3 l i j) (ix3 l i j) fun _ => rfl).trans (H.h15 l i j)
  h16 := fun l j => (iblk_whole m c 16 (by decide) (by decide) t (ix2 l j) (ix2 l j) fun _ => rfl).trans (H.h16 l j)
  h17 := fun l i j => (iblk_whole m c 17 (by decide) (by decide) t (ix3 l i j) (ix3 l i j) fun _ => rfl).trans (H.h17 l i j)
  h18 := fun l j => (iblk_whole m c 18 (by decide) (by decide) t (ix2 l j) (ix2 l j) fun _ => rfl).trans (H.h18 l j)
  h19 := fun l j => (iblk_whole m c 19 (by decide) (by decide) t (ix2 l j) (ix2 l j) fun _ => rfl).trans (H.h19 l j)
  h20 := fun l j => (iblk_whole m c 20 (by decide) (by decide) t (ix2 l j) (ix2 l j) fun _ => rfl).trans (H.h20 l j)
  h21 := fun l s i j => (iblk_whole m c 21 (by decide) (by decide) t (ix4 l s i j) (ix4 l s i j) fun _ => rfl).trans (H.h21 l s i j)
  h22 := fun l j => (iblk_whole m c 22 (by decide) (by decide) t (ix2 l j) (ix2 l j) fun _ => rfl).trans (H.h22 l j)
  h23 := fun p q => (iblk_whole m c 23 (by decide) (by decide) t (ix2 p q) (ix2 p q) fun _ => rfl).trans (H.h23 p q)
  h24 := fun j => (iblk_whole m c 24 (by decide) (by decide) t (ix2 0 j) (ix2 0 j) fun _ => rfl).trans (H.h24 j)

/-- What the result array holds: the network's result, the frames of a batch element one after the other. -/
def resultArray (A : Args) : FVec Ideal S4x4096x256 .f32 := fun i => ((flat (A.result (i 0)) (i 1) (i 2) : ℝ) : EReal)

set_option maxHeartbeats 1000000 in
/-- After the run the result array is the network's result. -/
theorem array_eq {A : Args} {c : Dev nD} (H : Entry m A c) : (dats m 0 c).arrAt 25 cfg0.N = resultArray A := by
  refine (dats m 0 c).arrAt_eq_of_covers 25 _ (by decide +kernel) fun t hf y => ?_
  have e := (index_batch t).2.2.2
  have hy : ((cfg0.win 25).blk t).view.emb y = ix3 (t : Fin 4) (y 1 : Fin 4096) (y 2 : Fin 256) := by
    blk_ext [e]
  rw [hy]
  show (dats m 0 c).after 25 t y = _
  rw [after0_25]
  have hy' : y = ix3 (0 : Fin 1) (y 1 : Fin 4096) (y 2 : Fin 256) := by
    funext a
    match a with
    | ⟨0, _⟩ => exact Subsingleton.elim (α := Fin 1) _ _
    | ⟨1, _⟩ => rfl
    | ⟨2, _⟩ => rfl
  refine (congrArg (outsAt0 m c t) hy').trans ?_
  unfold outsAt0
  exact block_eq c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (inputs_eq m H t) (y 1) (y 2)

end Cert.KerStage

end
-- ==== Proof.KerHost.lean ====
/- The arrays the host hands the kernel: the arguments reshaped, and the gains and offsets of the normalisations folded into the projections. -/
module

public import proofs.«01_k».proof.Proof.KerInputs

@[expose] public section

set_option maxRecDepth 16384

noncomputable section

open scoped BigOperators

namespace Cert.KerStage

open Cert.KernelIdeal Cert.KernelIdeal.Gen Idealize.ShloMosaic Idealize.ShloMosaic.TcCoe Cert.Reals

/-- The factors of the projections' columns. -/
def colsOf : FVec Ideal S768 .f32 :=
  concatenate S768 0 [⟨S256, broadcastInDim S256 ![] bcast_S_S256 (constant S_ .f32 0x3E3504F3#32)⟩, ⟨S512, broadcastInDim S512 ![] bcast_S_S512 (constant S_ .f32 0x3F800000#32)⟩] concatenates_S256_S512_S768_d0

/-- The projections with the gains and the column factors folded in. -/
def qkvW (g : FVec Ideal S6x256 .f32) (W : FVec Ideal S6x256x768 .f32) : FVec Ideal S6x256x768 .bf16 :=
  truncf .bf16 (mulf (mulf (broadcastInDim S6x256x768 ![0, 1, 2] bcast_S6x256x1_S6x256x768_0_1_2 (broadcastInDim S6x256x1 ![0, 1] bcast_S6x256_S6x256x1_0_1 g)) W)
    (broadcastInDim S6x256x768 ![0, 1, 2] bcast_S1x1x768_S6x256x768_0_1_2 (broadcastInDim S1x1x768 ![2] bcast_S768_S1x1x768_2 colsOf))) bitsLt_bf16_f32

/-- Their offsets. -/
def qkvB (b : FVec Ideal S6x256 .f32) (W : FVec Ideal S6x256x768 .f32) (d : FVec Ideal S6x768 .f32) : FVec Ideal S6x768 .bf16 :=
  truncf .bf16 (mulf (addf (Host.dotGeneral dot_S6x256_S6x256x768_S6x768_1_1_n_2_0_0 none b W) d)
    (broadcastInDim S6x768 ![0, 1] bcast_S1x768_S6x768_0_1 (broadcastInDim S1x768 ![1] bcast_S768_S1x768_1 colsOf))) bitsLt_bf16_f32

/-- The first matrices of the feed-forward network with the gains folded in. -/
def upW (g : FVec Ideal S6x256 .f32) (W : FVec Ideal S6x256x1024 .f32) : FVec Ideal S6x256x1024 .bf16 :=
  truncf .bf16 (mulf (broadcastInDim S6x256x1024 ![0, 1, 2] bcast_S6x256x1_S6x256x1024_0_1_2 (broadcastInDim S6x256x1 ![0, 1] bcast_S6x256_S6x256x1_0_1 g)) W) bitsLt_bf16_f32

/-- Their offsets. -/
def upB (b : FVec Ideal S6x256 .f32) (W : FVec Ideal S6x256x1024 .f32) (d : FVec Ideal S6x1024 .f32) : FVec Ideal S6x1024 .bf16 :=
  truncf .bf16 (addf (Host.dotGeneral dot_S6x256_S6x256x1024_S6x1024_1_1_n_2_0_0 none b W) d) bitsLt_bf16_f32

/-- The column factors hold the model's: the scale for the queries and else 1. -/
theorem colsOf_eq (j : Fin 768) : colsOf (ix1 j) = ((cols j : ℝ) : EReal) := by
  pointwise [colsOf]
  unfold cols
  split <;> simp_all [f32_scale, f32_one]

/-- The folded weights of the first projection hold gain times weight times factor. -/
theorem qkvW_eq {g : FVec Ideal S6x256 .f32} {W : FVec Ideal S6x256x768 .f32} {G : Fin 6 → Fin 256 → ℝ} {R : Fin 6 → Fin 256 → Fin 768 → ℝ}
    (hg : Holds2 g G) (hW : Holds3 W R) (l : Fin 6) (i : Fin 256) (j : Fin 768) :
    qkvW g W (ix3 l i j) = ((G l i * R l i j * cols j : ℝ) : EReal) := by
  pointwise [qkvW]
  rw [colsOf_eq, hg, hW, ← EReal.coe_mul, ← EReal.coe_mul]

/-- The folded offsets of the first projection. -/
theorem qkvB_eq {b : FVec Ideal S6x256 .f32} {W : FVec Ideal S6x256x768 .f32} {d : FVec Ideal S6x768 .f32}
    {B : Fin 6 → Fin 256 → ℝ} {R : Fin 6 → Fin 256 → Fin 768 → ℝ} {D : Fin 6 → Fin 768 → ℝ}
    (hb : Holds2 b B) (hW : Holds3 W R) (hd : Holds2 d D) (l : Fin 6) (j : Fin 768) :
    qkvB b W d (ix2 l j) = ((((∑ i, B l i * R l i j) + D l j) * cols j : ℝ) : EReal) := by
  pointwise [qkvB]
  simp only [colsOf_eq, hb l, hW l, hd l, ← EReal.coe_mul, coe_sum, ← EReal.coe_add]

/-- The folded weights of the second projection hold gain times weight. -/
theorem upW_eq {g : FVec Ideal S6x256 .f32} {W : FVec Ideal S6x256x1024 .f32} {G : Fin 6 → Fin 256 → ℝ} {R : Fin 6 → Fin 256 → Fin 1024 → ℝ}
    (hg : Holds2 g G) (hW : Holds3 W R) (l : Fin 6) (i : Fin 256) (j : Fin 1024) :
    upW g W (ix3 l i j) = ((G l i * R l i j : ℝ) : EReal) := by
  pointwise [upW]
  rw [hg, hW, ← EReal.coe_mul]

/-- The folded offsets of the second projection. -/
theorem upB_eq {b : FVec Ideal S6x256 .f32} {W : FVec Ideal S6x256x1024 .f32} {d : FVec Ideal S6x1024 .f32}
    {B : Fin 6 → Fin 256 → ℝ} {R : Fin 6 → Fin 256 → Fin 1024 → ℝ} {D : Fin 6 → Fin 1024 → ℝ}
    (hb : Holds2 b B) (hW : Holds3 W R) (hd : Holds2 d D) (l : Fin 6) (j : Fin 1024) :
    upB b W d (ix2 l j) = (((∑ i, B l i * R l i j) + D l j : ℝ) : EReal) := by
  pointwise [upB]
  simp only [hb l, hW l, hd l, ← EReal.coe_mul, coe_sum, ← EReal.coe_add]

/-- A weight in the kernel's format. -/
def half {S : Shape} (x : FVec Ideal S .f32) : FVec Ideal S .bf16 := truncf .bf16 x bitsLt_bf16_f32

/-- The times as numbers. -/
def timesOf (t : IVec S4 32) : FVec Ideal S4x1x1 .f32 := shapeCast S4x1x1 (sitofp .f32 t) shapeCasts_S4_S4x1x1

/-- The states, frames one after the other. -/
def statesOf (x : FVec Ideal S4x128x32x256 .f32) : FVec Ideal S4x4096x256 .f32 := shapeCast S4x4096x256 x shapeCasts_S4x128x32x256_S4x4096x256

/-- The conditioning vectors, one row each. -/
def conditionsOf (x : FVec Ideal S4x256 .f32) : FVec Ideal S4x1x256 .f32 := shapeCast S4x1x256 x shapeCasts_S4x256_S4x1x256

/-- An offset as a row. -/
def rowOf (x : FVec Ideal S256 .f32) : FVec Ideal S1x256 .f32 := shapeCast S1x256 x shapeCasts_S256_S1x256
/-- A longer offset as a row. -/
def rowOf' (x : FVec Ideal S512 .f32) : FVec Ideal S1x512 .f32 := shapeCast S1x512 x shapeCasts_S512_S1x512

/-- The times as numbers. -/
theorem timesOf_eq (t : IVec S4 32) (b : Fin 4) : timesOf t (ix3 b 0 0) = ((((t (ix1 b)).toInt : ℝ)) : EReal) := by
  pointwise [timesOf]
  rfl

/-- The reshaped states hold the frames one after the other. -/
theorem statesOf_eq {x : FVec Ideal S4x128x32x256 .f32} {Z : Fin 4 → Model.Body} (h : Holds4 x Z) (b : Fin 4) (r : Fin 4096) (d : Fin 256) :
    statesOf x (ix3 b r d) = ((flat (Z b) r d : ℝ) : EReal) := by
  pointwise [statesOf]
  exact h _ _ _ _

/-- The reshaped conditioning rows hold the conditioning rows. -/
theorem conditionsOf_eq {x : FVec Ideal S4x256 .f32} {H : Fin 4 → Model.Row} (h : Holds2 x H) (b : Fin 4) (d : Fin 256) :
    conditionsOf x (ix3 b 0 d) = ((H b d : ℝ) : EReal) := by
  pointwise [conditionsOf]
  exact h _ _

/-- An offset of 256 as a row. -/
theorem rowOf_eq {x : FVec Ideal S256 .f32} {B : Model.Row} (h : Holds1 x B) : Row1 (rowOf x) B := by
  intro j
  pointwise [rowOf]
  exact h _

/-- An offset of 512 as a row. -/
theorem rowOf'_eq {x : FVec Ideal S512 .f32} {B : Fin 512 → ℝ} (h : Holds1 x B) : Row1 (rowOf' x) B := by
  intro j
  pointwise [rowOf']
  exact h _

variable (m : (ℓ : Loc nD τ sig) → Buf (Elt Ideal) ℓ) (c : Dev nD)

/-- What argument buffer `b` holds at the launch. -/
abbrev arg (b : Ref sig .tc) : Buf (Elt Ideal) ((c : Thread nD τ).loc b) := m ((c : Thread nD τ).loc b)

/-- The argument buffers hold the numbers of `A` at the launch. -/
abbrev HeldAt (A : Args) : Prop :=
  Held A (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26) (arg m c main_arg27) (arg m c main_arg28)

/-- The states reshaped. -/
theorem V_v0 : V m c main_v0 = statesOf (arg m c main_arg0) := by
  unfold V
  after_results
  rfl
/-- The conditioning vectors reshaped. -/
theorem V_v3 : V m c main_v3 = conditionsOf (arg m c main_arg2) := by
  unfold V
  after_results
  rfl
/-- An offset as a row. -/
theorem V_v27 : V m c main_v27 = rowOf (arg m c main_arg4) := by
  unfold V
  after_results
  rfl
/-- An offset as a row. -/
theorem V_v28 : V m c main_v28 = rowOf (arg m c main_arg6) := by
  unfold V
  after_results
  rfl
/-- An offset as a row. -/
theorem V_v29 : V m c main_v29 = rowOf' (arg m c main_arg8) := by
  unfold V
  after_results
  rfl
/-- An offset as a row. -/
theorem V_v30 : V m c main_v30 = rowOf' (arg m c main_arg10) := by
  unfold V
  after_results
  rfl
/-- The output offset as a row. -/
theorem V_v36 : V m c main_v36 = rowOf (arg m c main_arg28) := by
  unfold V
  after_results
  rfl
/-- The times as numbers. -/
theorem V_v2 : V m c main_v2 = timesOf (arg m c main_arg1) := by
  unfold V
  after_results
  rfl
/-- A weight in the kernel's format. -/
theorem V_v31 : V m c main_v31 = half (arg m c main_arg15) := by
  unfold V
  after_results
  rfl
/-- A weight in the kernel's format. -/
theorem V_v32 : V m c main_v32 = half (arg m c main_arg21) := by
  unfold V
  after_results
  rfl
/-- A weight in the kernel's format. -/
theorem V_v33 : V m c main_v33 = half (arg m c main_arg25) := by
  unfold V
  after_results
  rfl
/-- A weight in the kernel's format. -/
theorem V_v34 : V m c main_v34 = half (arg m c main_arg26) := by
  unfold V
  after_results
  rfl
/-- A weight in the kernel's format. -/
theorem V_v35 : V m c main_v35 = half (arg m c main_arg27) := by
  unfold V
  after_results
  rfl
/-- The folded projections. -/
theorem V_v13 : V m c main_v13 = qkvW (arg m c main_arg11) (arg m c main_arg13) := by
  unfold V
  after_results
  rfl
/-- The folded projections' offsets. -/
theorem V_v19 : V m c main_v19 = qkvB (arg m c main_arg12) (arg m c main_arg13) (arg m c main_arg14) := by
  unfold V
  after_results
  rfl
/-- The folded first matrices. -/
theorem V_v23 : V m c main_v23 = upW (arg m c main_arg17) (arg m c main_arg19) := by
  unfold V
  after_results
  rfl
/-- Their offsets. -/
theorem V_v26 : V m c main_v26 = upB (arg m c main_arg18) (arg m c main_arg19) (arg m c main_arg20) := by
  unfold V
  after_results
  rfl

set_option maxHeartbeats 8000000 in
/-- When the arguments hold the numbers of `A`, the arrays the kernel is launched on hold them folded. -/
theorem entry_eq {A : Args} (H : HeldAt m c A) : Entry m A c where
  h0 := fun b r d => (congrFun (V_v0 m c) _).trans (statesOf_eq H.h0 b r d)
  h1 := fun b => (congrFun (V_v2 m c) _).trans ((timesOf_eq _ b).trans (congrArg (fun r : ℝ => (r : EReal)) (H.h1 b)))
  h2 := fun b d => (congrFun (V_v3 m c) _).trans (conditionsOf_eq H.h2 b d)
  h3 := fun p q => (congrFun (V_main_arg3 m c) _).trans (H.h3 p q)
  h4 := fun j => (congrFun (V_v27 m c) _).trans (rowOf_eq H.h4 j)
  h5 := fun p q => (congrFun (V_main_arg5 m c) _).trans (H.h5 p q)
  h6 := fun j => (congrFun (V_v28 m c) _).trans (rowOf_eq H.h6 j)
  h7 := fun p q => (congrFun (V_main_arg7 m c) _).trans (H.h7 p q)
  h8 := fun j => (congrFun (V_v29 m c) _).trans (rowOf'_eq H.h8 j)
  h9 := fun p q => (congrFun (V_main_arg9 m c) _).trans (H.h9 p q)
  h10 := fun j => (congrFun (V_v30 m c) _).trans (rowOf'_eq H.h10 j)
  h11 := fun l i j => (congrFun (V_v13 m c) _).trans (qkvW_eq H.h11 H.h13 l i j)
  h12 := fun l j => (congrFun (V_v19 m c) _).trans (qkvB_eq H.h12 H.h13 H.h14 l j)
  h13 := fun l i j => (congrFun (V_v31 m c) _).trans (H.h15 l i j)
  h14 := fun l j => (congrFun (V_main_arg16 m c) _).trans (H.h16 l j)
  h15 := fun l i j => (congrFun (V_v23 m c) _).trans (upW_eq H.h17 H.h19 l i j)
  h16 := fun l j => (congrFun (V_v26 m c) _).trans (upB_eq H.h18 H.h19 H.h20 l j)
  h17 := fun l i j => (congrFun (V_v32 m c) _).trans (H.h21 l i j)
  h18 := fun l j => (congrFun (V_main_arg22 m c) _).trans (H.h22 l j)
  h19 := fun l j => (congrFun (V_main_arg23 m c) _).trans (H.h23 l j)
  h20 := fun l j => (congrFun (V_main_arg24 m c) _).trans (H.h24 l j)
  h21 := fun l s i j => (congrFun (V_v33 m c) _).trans (H.h25 l s i j)
  h22 := fun l j => (congrFun (V_v34 m c) _).trans (H.h26 l j)
  h23 := fun p q => (congrFun (V_v35 m c) _).trans (H.h27 p q)
  h24 := fun j => (congrFun (V_v36 m c) _).trans (rowOf_eq H.h28 j)

end Cert.KerStage

end
-- ==== Proof.RefNorm.lean ====
/- The normalisation of the reference, read as the model's. -/
module

public import proofs.«01_k».proof.Proof.Gen.ReferenceIdeal
public import Idealize.ShloMosaic.Lib.Pointwise
public import proofs.«01_k».proof.Proof.Reals

@[expose] public section

set_option maxRecDepth 16384

noncomputable section

open scoped BigOperators

namespace Cert.RefStage

open Cert.ReferenceIdeal Cert.ReferenceIdeal.Gen Idealize.ShloMosaic
open Cert.Reals

/-- The whole state: four batch elements of 128 frames of 32 rows. -/
abbrev State := FVec Ideal S4x128x32x256 .f32

/-- The mean of each row of the state. -/
def meanOf (x : State) : FVec Ideal S4x128x32x1 .f32 :=
  Host.divf (broadcastInDim S4x128x32x1 ![0, 1, 2] bcast_S4x128x32_S4x128x32x1_0_1_2 (Host.reduceAdd x (constant S_ .f32 0x00000000#32) reducesTo_S4x128x32x256_S4x128x32_d3 h_S_)) (broadcastInDim S4x128x32x1 ![] bcast_S_S4x128x32x1 (constant S_ .f32 0x43800000#32))

/-- The state with the mean of each row taken off. -/
def centred (x : State) : State :=
  subf x (broadcastInDim S4x128x32x256 ![0, 1, 2, 3] bcast_S4x128x32x1_S4x128x32x256_0_1_2_3 (meanOf x))

/-- The deviation of each row of the state. -/
def devOf (x : State) : FVec Ideal S4x128x32x1 .f32 :=
  Host.sqrt (addf (Host.divf (broadcastInDim S4x128x32x1 ![0, 1, 2] bcast_S4x128x32_S4x128x32x1_0_1_2 (Host.reduceAdd (mulf (centred x) (centred x)) (constant S_ .f32 0x00000000#32) reducesTo_S4x128x32x256_S4x128x32_d3 h_S_)) (broadcastInDim S4x128x32x1 ![] bcast_S_S4x128x32x1 (constant S_ .f32 0x43800000#32))) (broadcastInDim S4x128x32x1 ![] bcast_S_S4x128x32x1 (constant S_ .f32 0x3727C5AC#32)))

/-- A vector of 256 repeated along every row. -/
def alongRows (g : FVec Ideal S256 .f32) : State :=
  broadcastInDim S4x128x32x256 ![0, 1, 2, 3] bcast_S1x1x1x256_S4x128x32x256_0_1_2_3 (broadcastInDim S1x1x1x256 ![3] bcast_S256_S1x1x1x256_3 g)

/-- The normalised state. -/
def lnOf (x : State) (g b : FVec Ideal S256 .f32) : State :=
  addf (mulf (Host.divf (centred x) (broadcastInDim S4x128x32x256 ![0, 1, 2, 3] bcast_S4x128x32x1_S4x128x32x256_0_1_2_3 (devOf x))) (alongRows g)) (alongRows b)

/-- The array holds the real numbers of `X`, batch element by batch element. -/
def Holds (x : State) (X : Fin 4 → Model.Body) : Prop := ∀ b t i d, x (ix4 b t i d) = ((X b t i d : ℝ) : EReal)
/-- The vector holds the real numbers of `g`. -/
def Vec {n : ℕ} (x : FVec Ideal ⟨1, ![n]⟩ .f32) (g : Fin n → ℝ) : Prop := ∀ d, x (ix1 d) = ((g d : ℝ) : EReal)
/-- The matrix holds the real numbers of `W`. -/
def Mat {n k : ℕ} (x : FVec Ideal ⟨2, ![n, k]⟩ .f32) (W : Fin n → Fin k → ℝ) : Prop :=
  ∀ i j, x (ix2 i j) = ((W i j : ℝ) : EReal)

/-- The row means hold the model's. -/
theorem meanOf_eq {x : State} {X : Fin 4 → Model.Body} (hx : Holds x X) (b : Fin 4) (t : Fin 128) (i : Fin 32) :
    meanOf x (ix4 b t i 0) = ((Model.mean (X b t i) : ℝ) : EReal) := by
  pointwise [meanOf]
  simp only [hx b t i, f32_256, coe_sum, coe_div _ (show (256 : ℝ) ≠ 0 by norm_num)]
  rfl

/-- The centred rows hold the rows less their means. -/
theorem centred_eq {x : State} {X : Fin 4 → Model.Body} (hx : Holds x X) (b : Fin 4) (t : Fin 128) (i : Fin 32) (d : Fin 256) :
    centred x (ix4 b t i d) = ((X b t i d - Model.mean (X b t i) : ℝ) : EReal) := by
  pointwise [centred]
  simp only [hx b t i, meanOf_eq hx, ← EReal.coe_sub]

/-- The row deviations hold the root of the variance plus the offset. -/
theorem devOf_eq {x : State} {X : Fin 4 → Model.Body} (hx : Holds x X) (b : Fin 4) (t : Fin 128) (i : Fin 32) :
    devOf x (ix4 b t i 0) = ((Real.sqrt (Model.var (X b t i) + Model.eps) : ℝ) : EReal) := by
  pointwise [devOf]
  simp only [centred_eq hx, f32_256, f32_eps, ← EReal.coe_mul, coe_sum, coe_div _ (show (256 : ℝ) ≠ 0 by norm_num),
    ← EReal.coe_add]
  exact coe_sqrt (Model.var_eps_pos (X b t i)).le

/-- The normalised state holds the model's normalised rows. -/
theorem lnOf_eq {x : State} {X : Fin 4 → Model.Body} {g b : FVec Ideal S256 .f32} {G B : Model.Row}
    (hx : Holds x X) (hg : Vec g G) (hb : Vec b B) : Holds (lnOf x g b) fun a t i => Model.ln (X a t i) G B := by
  intro a t i d
  pointwise [lnOf, alongRows]
  simp only [centred_eq hx, devOf_eq hx, hg d, hb d, coe_div _ (Model.sqrt_var_ne _), ← EReal.coe_mul, ← EReal.coe_add]
  rfl

end Cert.RefStage

end
-- ==== Proof.RefAttn.lean ====
/- The attention block of the reference, read as the model's. -/
module

public import proofs.«01_k».proof.Proof.RefNorm

@[expose] public section

set_option maxRecDepth 16384

noncomputable section

open scoped BigOperators

namespace Cert.RefStage

open Cert.ReferenceIdeal Cert.ReferenceIdeal.Gen Idealize.ShloMosaic
open Cert.Reals

/-- Queries, keys and values of every row. -/
def qkvOf (x : State) (g b : FVec Ideal S256 .f32) (W : FVec Ideal S256x768 .f32) (c : FVec Ideal S768 .f32) :
    FVec Ideal S4x128x32x768 .f32 :=
  addf (Host.dotGeneral dot_S4x128x32x256_S256x768_S4x128x32x768_3_0_012_1_n_n none (lnOf x g b) W) (broadcastInDim S4x128x32x768 ![0, 1, 2, 3] bcast_S1x1x1x768_S4x128x32x768_0_1_2_3 (broadcastInDim S1x1x1x768 ![3] bcast_S768_S1x1x1x768_3 c))

/-- Which joints attend to which. -/
def adj : IVec S32x32 1 :=
  cmpi .sle (absi (subi (iotaInDim S32x32 32 0) (iotaInDim S32x32 32 1))) (broadcastInDim S32x32 ![] bcast_S_S32x32 (constantI S_ 32 1#32))

/-- The scaled scores, `-∞` outside the neighbourhood. -/
def scoreOf (y : FVec Ideal S4x128x32x768 .f32) : FVec Ideal S4x128x8x32x32 .f32 :=
  select (broadcastInDim S4x128x8x32x32 ![0, 1, 2, 3, 4] bcast_S1x1x1x32x32_S4x128x8x32x32_0_1_2_3_4 (broadcastInDim S1x1x1x32x32 ![3, 4] bcast_S32x32_S1x1x1x32x32_3_4 adj)) (mulf (Host.dotGeneral dot_S4x128x32x8x32_S4x128x32x8x32_S4x128x8x32x32_4_4_2_2_013_013 none (shapeCast _ (extractStridedSlice S4x128x32x256 ![0, 0, 0, 0] y slices_S4x128x32x768_S4x128x32x256_0_0_0_0) shapeCasts_S4x128x32x256_S4x128x32x8x32) (shapeCast _ (extractStridedSlice S4x128x32x256 ![0, 0, 0, 256] y slices_S4x128x32x768_S4x128x32x256_0_0_0_256) shapeCasts_S4x128x32x256_S4x128x32x8x32)) (broadcastInDim S4x128x8x32x32 ![] bcast_S_S4x128x8x32x32 (constant S_ .f32 0x3E3504F3#32))) (broadcastInDim S4x128x8x32x32 ![] bcast_S_S4x128x8x32x32 (id (constant S_ .f32 0xFF800000#32)))

/-- The greatest score of each query. -/
def maxOf (s : FVec Ideal S4x128x8x32x32 .f32) : FVec Ideal S4x128x8x32 .f32 :=
  maximumf (broadcastInDim S4x128x8x32 ![] bcast_S_S4x128x8x32 (constant S_ .f32 0xFF800000#32)) (Host.reduce FloatOps.maximumf s (constant S_ .f32 0xFF800000#32) reducesTo_S4x128x8x32x32_S4x128x8x32_d4 h_S_)

/-- The exponentials of the scores less the greatest. -/
def expOf (s : FVec Ideal S4x128x8x32x32 .f32) : FVec Ideal S4x128x8x32x32 .f32 :=
  Host.exp (subf s (broadcastInDim S4x128x8x32x32 ![0, 1, 2, 3, 4] bcast_S4x128x8x32x1_S4x128x8x32x32_0_1_2_3_4 (broadcastInDim S4x128x8x32x1 ![0, 1, 2, 3] bcast_S4x128x8x32_S4x128x8x32x1_0_1_2_3 (maxOf s))))

/-- The weights: the exponentials over their sum. -/
def weightOf (e : FVec Ideal S4x128x8x32x32 .f32) : FVec Ideal S4x128x8x32x32 .f32 :=
  Host.divf e (broadcastInDim S4x128x8x32x32 ![0, 1, 2, 3, 4] bcast_S4x128x8x32x1_S4x128x8x32x32_0_1_2_3_4 (broadcastInDim S4x128x8x32x1 ![0, 1, 2, 3] bcast_S4x128x8x32_S4x128x8x32x1_0_1_2_3 (Host.reduceAdd e (constant S_ .f32 0x00000000#32) reducesTo_S4x128x8x32x32_S4x128x8x32_d4 h_S_)))

/-- The attended values, head by head, side by side. -/
def attendedOf (y : FVec Ideal S4x128x32x768 .f32) (e : FVec Ideal S4x128x8x32x32 .f32) : State :=
  shapeCast _ (transpose S4x128x32x8x32 [0, 1, 4, 2, 3] (Host.dotGeneral dot_S4x128x32x8x32_S4x128x8x32x32_S4x128x8x32x32_2_4_4_3_013_012 none (shapeCast _ (extractStridedSlice S4x128x32x256 ![0, 0, 0, 512] y slices_S4x128x32x768_S4x128x32x256_0_0_0_512) shapeCasts_S4x128x32x256_S4x128x32x8x32) (weightOf e)) transposes_S4x128x8x32x32_S4x128x32x8x32_0_1_4_2_3) shapeCasts_S4x128x32x8x32_S4x128x32x256

/-- The attention block with its residual. -/
def attnOf (x : State) (y : FVec Ideal S4x128x32x768 .f32) (e : FVec Ideal S4x128x8x32x32 .f32) (W : FVec Ideal S256x256 .f32)
    (c : FVec Ideal S256 .f32) : State :=
  addf (addf x (Host.dotGeneral dot_S4x128x32x256_S256x256_S4x128x32x256_3_0_012_1_n_n none (attendedOf y e) W)) (alongRows c)

/-- The rows of the normalised state times a matrix, plus an offset. -/
theorem qkvOf_eq {x : State} {X : Fin 4 → Model.Body} {g b : FVec Ideal S256 .f32} {W : FVec Ideal S256x768 .f32}
    {c : FVec Ideal S768 .f32} {G B : Model.Row} {M : Fin 256 → Fin 768 → ℝ} {C : Fin 768 → ℝ}
    (hx : Holds x X) (hg : Vec g G) (hb : Vec b B) (hW : Mat W M) (hc : Vec c C) (a : Fin 4) (t : Fin 128) (i : Fin 32) (k : Fin 768) :
    qkvOf x g b W c (ix4 a t i k) = ((Model.lin (Model.ln (X a t i) G B) M C k : ℝ) : EReal) := by
  pointwise [qkvOf]
  simp only [lnOf_eq hx hg hb a t i, hW _ k, hc k, ← EReal.coe_mul, coe_sum, ← EReal.coe_add]
  rfl

/-- The adjacency mask is true at equal and neighbouring joints. -/
theorem adj_eq (i j : Fin 32) : adj (ix2 i j) = if Model.near i j then 1#1 else 0#1 := by
  pointwise [adj]
  revert i j
  decide +kernel

/-- The scores: the model's between joints near each other, `-∞` elsewhere. -/
theorem scoreOf_eq {y : FVec Ideal S4x128x32x768 .f32} {Y : Fin 4 → Fin 128 → Fin 32 → Fin 768 → ℝ}
    (hy : ∀ a t i k, y (ix4 a t i k) = ((Y a t i k : ℝ) : EReal)) (a : Fin 4) (t : Fin 128) (h : Fin 8) (i j : Fin 32) :
    scoreOf y (ix5 a t h i j) = if Model.near i j
      then ((Model.score (fun i => Model.qOf (Y a t i)) (fun i => Model.kOf (Y a t i)) h i j : ℝ) : EReal) else ⊥ := by
  pointwise [scoreOf]
  rw [adj_eq]
  simp only [hy a t, f32_scale, ← EReal.coe_mul, coe_sum]
  by_cases hn : Model.near i j
  · rw [if_pos hn, if_pos hn]; rfl
  · rw [if_neg hn, if_neg hn]; exact f32_bot

/-- The greatest element of a fold from `-∞` over numbers that are real or `-∞`, one of them real, is real. -/
theorem fold_real {n : ℕ} (f : Fin n → EReal) (hf : ∀ j, f j ≠ ⊤) {j₀ : Fin n} (h₀ : f j₀ ≠ ⊥) :
    ∃ M : ℝ, max ⊥ (Finset.fold max ⊥ f Finset.univ) = (M : EReal) := by
  have ht : Finset.fold max ⊥ f Finset.univ ≠ ⊤ := by
    refine (Finset.fold_max_lt (⊤ : EReal)).mpr ⟨bot_lt_top, fun j _ => lt_top_iff_ne_top.mpr (hf j)⟩ |>.ne
  have hb : Finset.fold max ⊥ f Finset.univ ≠ ⊥ := by
    have : f j₀ ≤ Finset.fold max ⊥ f Finset.univ := (Finset.le_fold_max _).mpr (.inr ⟨j₀, Finset.mem_univ _, le_rfl⟩)
    exact fun e => h₀ (le_bot_iff.mp (e ▸ this))
  refine ⟨(Finset.fold max ⊥ f Finset.univ).toReal, ?_⟩
  rw [EReal.coe_toReal ht hb, max_eq_right bot_le]

/-- The maximum over the last of five axes, not below a constant, as a fold. -/
theorem reduceMax_last {n0 n1 n2 n3 n4 : ℕ} (w : BitVec 32) (s : FVec Ideal ⟨5, ![n0, n1, n2, n3, n4]⟩ .f32)
    (h : (⟨5, ![n0, n1, n2, n3, n4]⟩ : Shape).ReducesTo [4] ⟨4, ![n0, n1, n2, n3]⟩) (hu : 0 < S_.numel)
    (hb : S_.BroadcastsInDim ⟨4, ![n0, n1, n2, n3]⟩ (![] : Fin 0 → Fin 4))
    (a : Fin n0) (b : Fin n1) (c : Fin n2) (d : Fin n3) :
    maximumf (broadcastInDim ⟨4, ![n0, n1, n2, n3]⟩ ![] hb (constant S_ .f32 w))
        (Host.reduce FloatOps.maximumf s (constant S_ .f32 w) h hu) (ix4 a b c d)
      = max (Ideal.ofBits .f32 w) (Finset.fold max (Ideal.ofBits .f32 w) (fun k => s (ix5 a b c d k)) Finset.univ) := by
  pointwise

/-- The row maximum of the scores, as the fold over the joints. -/
theorem maxOf_apply (s : FVec Ideal S4x128x8x32x32 .f32) (a : Fin 4) (t : Fin 128) (h : Fin 8) (i : Fin 32) :
    maxOf s (ix4 a t h i) = max ⊥ (Finset.fold max ⊥ (fun k => s (ix5 a t h i k)) Finset.univ) := by
  have e := reduceMax_last 0xFF800000#32 s reducesTo_S4x128x8x32x32_S4x128x8x32_d4 h_S_ bcast_S_S4x128x8x32 a t h i
  rw [f32_bot] at e
  exact e

/-- The exponentials are the model's weights times one positive number for each query. -/
theorem expOf_eq {s : FVec Ideal S4x128x8x32x32 .f32} {S : Fin 32 → Fin 32 → ℝ} {a : Fin 4} {t : Fin 128} {h : Fin 8}
    (hs : ∀ i j, s (ix5 a t h i j) = if Model.near i j then ((S i j : ℝ) : EReal) else ⊥) (i : Fin 32) :
    ∃ M : ℝ, ∀ j, expOf s (ix5 a t h i j) = (((if Model.near i j then Real.exp (S i j) else 0) * Real.exp (-M) : ℝ) : EReal) := by
  obtain ⟨M, hM⟩ := fold_real (fun k => s (ix5 a t h i k))
    (fun j => by rw [hs]; split <;> simp) (j₀ := i) (by rw [hs, if_pos ⟨by omega, by omega⟩]; simp)
  refine ⟨M, fun j => ?_⟩
  pointwise [expOf]
  rw [maxOf_apply, hM, hs]
  by_cases hn : Model.near i j
  · rw [if_pos hn, if_pos hn, ← EReal.coe_sub, Ideal.exp_coe, ← Real.exp_add, sub_eq_add_neg]
  · rw [if_neg hn, if_neg hn, zero_mul]
    simp

/-- The weights are the model's. -/
theorem weightOf_eq {e : FVec Ideal S4x128x8x32x32 .f32} {w : Fin 32 → ℝ} {a : Fin 4} {t : Fin 128} {h : Fin 8} {i : Fin 32} {M : ℝ}
    (he : ∀ j, e (ix5 a t h i j) = ((w j * Real.exp (-M) : ℝ) : EReal)) (hw : (∑ j, w j) ≠ 0) (j : Fin 32) :
    weightOf e (ix5 a t h i j) = ((w j / ∑ j', w j' : ℝ) : EReal) := by
  have hm : Real.exp (-M) ≠ 0 := (Real.exp_pos _).ne'
  pointwise [weightOf]
  simp only [he, coe_sum]
  rw [← Finset.sum_mul, coe_div _ (mul_ne_zero hw hm), mul_div_mul_right _ _ hm]

/-- A joint's weights do not sum to zero: it is near itself. -/
theorem sum_wgt_ne (Q K : Model.Frame) (h : Fin 8) (i : Fin 32) : (∑ j, Model.wgt Q K h i j) ≠ 0 := by
  refine (Finset.sum_pos' (fun j _ => ?_) ⟨i, Finset.mem_univ _, ?_⟩).ne'
  · unfold Model.wgt; split
    · exact (Real.exp_pos _).le
    · exact le_rfl
  · unfold Model.wgt; rw [if_pos ⟨by omega, by omega⟩]; exact Real.exp_pos _

/-- The attended rows are the model's. -/
theorem attendedOf_eq {y : FVec Ideal S4x128x32x768 .f32} {Y : Fin 4 → Fin 128 → Fin 32 → Fin 768 → ℝ}
    (hy : ∀ a t i k, y (ix4 a t i k) = ((Y a t i k : ℝ) : EReal)) :
    Holds (attendedOf y (expOf (scoreOf y))) fun a t => Model.att (fun i => Model.qOf (Y a t i)) (fun i => Model.kOf (Y a t i))
      fun i => Model.vOf (Y a t i) := by
  intro a t i k
  obtain ⟨M, hM⟩ := expOf_eq (fun i j => scoreOf_eq hy a t (Model.headOf k) i j) i
  have hw := weightOf_eq (w := Model.wgt (fun i => Model.qOf (Y a t i)) (fun i => Model.kOf (Y a t i)) (Model.headOf k) i)
    (fun j => hM j) (sum_wgt_ne _ _ _ _)
  pointwise [attendedOf]
  have hh : (⟨k.val / 32, by omega⟩ : Fin 8) = Model.headOf k := rfl
  simp only [hh, hw, hy, ← EReal.coe_mul, coe_sum]
  rfl

/-- The attention block holds the model's. -/
theorem attnOf_eq {x : State} {X : Fin 4 → Model.Body} {g b : FVec Ideal S256 .f32} {W : FVec Ideal S256x768 .f32}
    {c : FVec Ideal S768 .f32} {Wo : FVec Ideal S256x256 .f32} {bo : FVec Ideal S256 .f32} (p : Model.Par)
    (hx : Holds x X) (hg : Vec g p.g1) (hb : Vec b p.b1) (hW : Mat W p.Wqkv) (hc : Vec c p.bqkv) (hWo : Mat Wo p.Wo)
    (hbo : Vec bo p.bo) :
    Holds (attnOf x (qkvOf x g b W c) (expOf (scoreOf (qkvOf x g b W c))) Wo bo) fun a t => Model.attn p (X a t) := by
  intro a t i k
  have ha := attendedOf_eq (qkvOf_eq hx hg hb hW hc)
  pointwise [attnOf, alongRows]
  simp only [hx a t i k, ha a t i, hWo _ k, hbo k, ← EReal.coe_mul, coe_sum, ← EReal.coe_add]
  rfl

end Cert.RefStage

end
-- ==== Proof.RefLayer.lean ====
/- The feed-forward and convolution blocks of the reference, its first and last stage, read as the model's. -/
module

public import proofs.«01_k».proof.Proof.RefAttn

@[expose] public section

set_option maxRecDepth 16384

noncomputable section

open scoped BigOperators

namespace Cert.RefStage

open Cert.ReferenceIdeal Cert.ReferenceIdeal.Gen Idealize.ShloMosaic
open Cert.Reals

/-- The Gaussian error linear unit of every element. -/
def geluOf {S : Shape} (h : S_.BroadcastsInDim S (![] : Fin 0 → Fin S.rank)) (x : FVec Ideal S .f32) : FVec Ideal S .f32 :=
  mulf (mulf (broadcastInDim S ![] h (constant S_ .f32 0x3F000000#32)) x) (addf (broadcastInDim S ![] h (constant S_ .f32 0x3F800000#32)) (Host.erf (Host.divf x (broadcastInDim S ![] h (Host.sqrt (constant S_ .f32 0x40000000#32))))))

/-- The gelu holds the model's gelu. -/
theorem geluOf_eq {S : Shape} (h : S_.BroadcastsInDim S (![] : Fin 0 → Fin S.rank)) {x : FVec Ideal S .f32} {i : S.Idx} {r : ℝ}
    (hx : x i = (r : EReal)) : geluOf h x i = ((Model.gelu r : ℝ) : EReal) := by
  have h2 : Real.sqrt 2 ≠ 0 := (Real.sqrt_pos.mpr (by norm_num)).ne'
  pointwise [geluOf]
  simp only [hx, f32_half, f32_one, f32_two, coe_sqrt (show (0 : ℝ) ≤ 2 by norm_num), coe_div _ h2, Ideal.erf_coe,
    ← EReal.coe_mul, ← EReal.coe_add]
  rfl

/-- The feed-forward block's hidden rows. -/
def hiddenOf (x : State) (g b : FVec Ideal S256 .f32) (W : FVec Ideal S256x1024 .f32) (c : FVec Ideal S1024 .f32) :
    FVec Ideal S4x128x32x1024 .f32 :=
  addf (Host.dotGeneral dot_S4x128x32x256_S256x1024_S4x128x32x1024_3_0_012_1_n_n none (lnOf x g b) W) (broadcastInDim S4x128x32x1024 ![0, 1, 2, 3] bcast_S1x1x1x1024_S4x128x32x1024_0_1_2_3 (broadcastInDim S1x1x1x1024 ![3] bcast_S1024_S1x1x1x1024_3 c))

/-- The feed-forward block with its residual. -/
def mlpOf (x : State) (u : FVec Ideal S4x128x32x1024 .f32) (W : FVec Ideal S1024x256 .f32) (c : FVec Ideal S256 .f32) : State :=
  addf (addf x (Host.dotGeneral dot_S4x128x32x1024_S1024x256_S4x128x32x256_3_0_012_1_n_n none (geluOf bcast_S_S4x128x32x1024 u) W)) (alongRows c)

/-- The hidden rows hold the gelu of the projected layer norm. -/
theorem hiddenOf_eq {x : State} {X : Fin 4 → Model.Body} {g b : FVec Ideal S256 .f32} {W : FVec Ideal S256x1024 .f32}
    {c : FVec Ideal S1024 .f32} {G B : Model.Row} {M : Fin 256 → Fin 1024 → ℝ} {C : Fin 1024 → ℝ}
    (hx : Holds x X) (hg : Vec g G) (hb : Vec b B) (hW : Mat W M) (hc : Vec c C) (a : Fin 4) (t : Fin 128) (i : Fin 32) (k : Fin 1024) :
    hiddenOf x g b W c (ix4 a t i k) = ((Model.lin (Model.ln (X a t i) G B) M C k : ℝ) : EReal) := by
  pointwise [hiddenOf]
  simp only [lnOf_eq hx hg hb a t i, hW _ k, hc k, ← EReal.coe_mul, coe_sum, ← EReal.coe_add]
  rfl

/-- The feed-forward block holds the model's. -/
theorem mlpOf_eq {x : State} {X : Fin 4 → Model.Body} {g b : FVec Ideal S256 .f32} {W : FVec Ideal S256x1024 .f32}
    {c : FVec Ideal S1024 .f32} {W2 : FVec Ideal S1024x256 .f32} {c2 : FVec Ideal S256 .f32} (p : Model.Par)
    (hx : Holds x X) (hg : Vec g p.g2) (hb : Vec b p.b2) (hW : Mat W p.W1) (hc : Vec c p.c1) (hW2 : Mat W2 p.W2)
    (hc2 : Vec c2 p.c2) :
    Holds (mlpOf x (hiddenOf x g b W c) W2 c2) fun a t i => Model.mlp p (X a t i) := by
  intro a t i k
  have hu := fun u => geluOf_eq bcast_S_S4x128x32x1024 (hiddenOf_eq hx hg hb hW hc a t i u)
  pointwise [mlpOf, alongRows]
  simp only [hx a t i k, hu, hW2 _ k, hc2 k, ← EReal.coe_mul, coe_sum, ← EReal.coe_add]
  rfl

/-- The normalised state with one frame of zeros before the first frame and one after the last. -/
def padOf (x : State) (g b : FVec Ideal S256 .f32) : FVec Ideal S4x130x32x256 .f32 :=
  pad S4x130x32x256 ![0, 1, 0, 0] ![0, 1, 0, 0] ![0, 0, 0, 0] (lnOf x g b) (sitofp .f32 (constantI S_ 32 0#32)) pads_S4x128x32x256_S4x130x32x256_000_110_000_000 h_S_

/-- The sum of the three taps and the offset. -/
def convOf (y : FVec Ideal S4x130x32x256 .f32) (W0 W1 W2 : FVec Ideal S256x256 .f32) (c : FVec Ideal S256 .f32) : State :=
  addf (addf (addf (Host.dotGeneral dot_S4x128x32x256_S256x256_S4x128x32x256_3_0_012_1_n_n none (extractStridedSlice S4x128x32x256 ![0, 0, 0, 0] y slices_S4x130x32x256_S4x128x32x256_0_0_0_0) W0) (Host.dotGeneral dot_S4x128x32x256_S256x256_S4x128x32x256_3_0_012_1_n_n none (extractStridedSlice S4x128x32x256 ![0, 1, 0, 0] y slices_S4x130x32x256_S4x128x32x256_0_1_0_0) W1)) (Host.dotGeneral dot_S4x128x32x256_S256x256_S4x128x32x256_3_0_012_1_n_n none (extractStridedSlice S4x128x32x256 ![0, 2, 0, 0] y slices_S4x130x32x256_S4x128x32x256_0_2_0_0) W2)) (alongRows c)

/-- The layer's last step: the state plus the unit of the convolution. -/
def stepOf (x y : State) : State := addf x (geluOf bcast_S_S4x128x32x256 y)

/-- The layer norm padded by a frame of zeros at both ends. -/
theorem padOf_eq {x : State} {X : Fin 4 → Model.Body} {g b : FVec Ideal S256 .f32} (p : Model.Par)
    (hx : Holds x X) (hg : Vec g p.g3) (hb : Vec b p.b3) (a : Fin 4) (t : Fin 130) (i : Fin 32) (d : Fin 256) :
    padOf x g b (ix4 a t i d) = ((Model.convIn p (X a) t.val i d : ℝ) : EReal) := by
  pointwise [padOf]
  unfold Model.convIn
  split
  · rw [lnOf_eq hx hg hb a]
  · show (((0#32 : BitVec 32).toInt : ℝ) : EReal) = ((0 : ℝ) : EReal)
    simp

/-- The convolution holds the model's. -/
theorem convOf_eq {x : State} {X : Fin 4 → Model.Body} {g b : FVec Ideal S256 .f32} {W0 W1 W2 : FVec Ideal S256x256 .f32}
    {c : FVec Ideal S256 .f32} (p : Model.Par) (hx : Holds x X) (hg : Vec g p.g3) (hb : Vec b p.b3)
    (h0 : Mat W0 (p.Wc 0)) (h1 : Mat W1 (p.Wc 1)) (h2 : Mat W2 (p.Wc 2)) (hc : Vec c p.bc) :
    Holds (convOf (padOf x g b) W0 W1 W2 c) fun a t i => Model.convAt p (X a) t i := by
  intro a t i k
  pointwise [convOf, alongRows]
  simp only [padOf_eq p hx hg hb a, h0 _ k, h1 _ k, h2 _ k, hc k, ← EReal.coe_mul, coe_sum, ← EReal.coe_add]
  rw [Nat.add_comm 1, Nat.add_comm 2]
  rfl

/-- The layer's last step holds the model's. -/
theorem stepOf_eq {x y : State} {X Y : Fin 4 → Model.Body} (hx : Holds x X) (hy : Holds y Y) :
    Holds (stepOf x y) fun a t i k => X a t i k + Model.gelu (Y a t i k) := by
  intro a t i k
  have hu := geluOf_eq bcast_S_S4x128x32x256 (hy a t i k)
  pointwise [stepOf]
  simp only [hx a t i k, hu, ← EReal.coe_add]

end Cert.RefStage

end
-- ==== Proof.RefEnds.lean ====
/- The first and the last stage of the reference, read as the model's. -/
module

public import proofs.«01_k».proof.Proof.RefLayer
public import proofs.«01_k».proof.Proof.Args

@[expose] public section

set_option maxRecDepth 16384

noncomputable section

open scoped BigOperators

namespace Cert.RefStage

open Cert.ReferenceIdeal Cert.ReferenceIdeal.Gen Idealize.ShloMosaic
open Cert.Reals

/-- The angles of the time embedding. -/
def anglesOf (t : IVec S4 32) : FVec Ideal S4x128 .f32 :=
  mulf (broadcastInDim S4x128 ![0, 1] bcast_S4x1_S4x128_0_1 (broadcastInDim S4x1 ![0] bcast_S4_S4x1_0 (sitofp .f32 t))) (broadcastInDim S4x128 ![0, 1] bcast_S1x128_S4x128_0_1 (broadcastInDim S1x128 ![1] bcast_S128_S1x128_1 (Host.exp (Host.divf (mulf (broadcastInDim S128 ![] bcast_S_S128 (constant S_ .f32 0xC1135D8E#32)) (sitofp .f32 (iotaInDim S128 32 0))) (broadcastInDim S128 ![] bcast_S_S128 (constant S_ .f32 0x43000000#32))))))

/-- The time embedding: cosines, then sines. -/
def tembOf (t : IVec S4 32) : FVec Ideal S4x256 .f32 :=
  concatenate S4x256 1 [⟨S4x128, (Host.cos (anglesOf t))⟩, ⟨S4x128, (Host.sin (anglesOf t))⟩] concatenates_S4x128_S4x128_S4x256_d1

/-- A vector of 256 repeated for each batch element. -/
def along256 (b : FVec Ideal S256 .f32) : FVec Ideal S4x256 .f32 :=
  broadcastInDim S4x256 ![0, 1] bcast_S1x256_S4x256_0_1 (broadcastInDim S1x256 ![1] bcast_S256_S1x256_1 b)
/-- A vector of 512 repeated for each batch element. -/
def along512 (b : FVec Ideal S512 .f32) : FVec Ideal S4x512 .f32 :=
  broadcastInDim S4x512 ![0, 1] bcast_S1x512_S4x512_0_1 (broadcastInDim S1x512 ![1] bcast_S512_S1x512_1 b)

/-- The first product of the time embedding. -/
def time1Of (t : IVec S4 32) (W : FVec Ideal S256x256 .f32) (b : FVec Ideal S256 .f32) : FVec Ideal S4x256 .f32 :=
  addf (Host.dotGeneral dot_S4x256_S256x256_S4x256_1_0_0_1_n_n none (tembOf t) W) (along256 b)
/-- The first product of the conditioning. -/
def cond1Of (h : FVec Ideal S4x256 .f32) (W : FVec Ideal S256x512 .f32) (b : FVec Ideal S512 .f32) : FVec Ideal S4x512 .f32 :=
  addf (Host.dotGeneral dot_S4x256_S256x512_S4x512_1_0_0_1_n_n none h W) (along512 b)
/-- The gains and offsets. -/
def filmOf (u : FVec Ideal S4x512 .f32) (W : FVec Ideal S512x512 .f32) (b : FVec Ideal S512 .f32) : FVec Ideal S4x512 .f32 :=
  addf (Host.dotGeneral dot_S4x512_S512x512_S4x512_1_0_0_1_n_n none (geluOf bcast_S_S4x512 u) W) (along512 b)
/-- The time step's rows. -/
def time2Of (u : FVec Ideal S4x256 .f32) (W : FVec Ideal S256x256 .f32) (b : FVec Ideal S256 .f32) : FVec Ideal S4x256 .f32 :=
  addf (Host.dotGeneral dot_S4x256_S256x256_S4x256_1_0_0_1_n_n none (geluOf bcast_S_S4x256 u) W) (along256 b)
/-- The state before the first layer. -/
def startOf (z : State) (e : FVec Ideal S4x256 .f32) (f : FVec Ideal S4x512 .f32) : State :=
  addf (mulf (addf z (broadcastInDim S4x128x32x256 ![0, 1, 2, 3] bcast_S4x1x1x256_S4x128x32x256_0_1_2_3 (broadcastInDim S4x1x1x256 ![0, 3] bcast_S4x256_S4x1x1x256_0_3 e))) (broadcastInDim S4x128x32x256 ![0, 1, 2, 3] bcast_S4x1x1x256_S4x128x32x256_0_1_2_3 (addf (broadcastInDim S4x1x1x256 ![] bcast_S_S4x1x1x256 (constant S_ .f32 0x3F800000#32)) (broadcastInDim S4x1x1x256 ![0, 3] bcast_S4x256_S4x1x1x256_0_3 (extractStridedSlice S4x256 ![0, 0] f slices_S4x512_S4x256_0_0))))) (broadcastInDim S4x128x32x256 ![0, 1, 2, 3] bcast_S4x1x1x256_S4x128x32x256_0_1_2_3 (broadcastInDim S4x1x1x256 ![0, 3] bcast_S4x256_S4x1x1x256_0_3 (extractStridedSlice S4x256 ![0, 256] f slices_S4x512_S4x256_0_256)))

/-- The output projection. -/
def outOf (x : State) (W : FVec Ideal S256x256 .f32) (b : FVec Ideal S256 .f32) : FVec Ideal S4x4096x256 .f32 :=
  shapeCast _ (addf (Host.dotGeneral dot_S4x128x32x256_S256x256_S4x128x32x256_3_0_012_1_n_n none x W) (alongRows b)) shapeCasts_S4x128x32x256_S4x4096x256

/-- The time embedding holds the model's cosines and sines. -/
theorem tembOf_eq {t : IVec S4 32} {T : Fin 4 → ℝ} (ht : ∀ b, ((t (ix1 b)).toInt : ℝ) = T b) (b : Fin 4) (d : Fin 256) :
    tembOf t (ix2 b d) = ((Model.temb (T b) d : ℝ) : EReal) := by
  have hs : ∀ w : BitVec 32, (FloatOps.sitofp .f32 w : Ideal .f32) = ((w.toInt : ℝ) : EReal) := fun _ => rfl
  have hn : ∀ n : ℕ, n < 256 → (((BitVec.ofNat 32 n).toInt : ℤ) : ℝ) = (n : ℝ) := fun n hn => by
    rw [BitVec.toInt_eq_toNat_of_lt (by rw [BitVec.toNat_ofNat]; omega), BitVec.toNat_ofNat, Nat.mod_eq_of_lt (by omega)]
    norm_cast
  pointwise [tembOf, anglesOf]
  simp only [hs, ht, f32_log, f32_128, hn d.val d.isLt, hn (d.val - 128) (by omega), ← EReal.coe_mul,
    coe_div _ (show (128 : ℝ) ≠ 0 by norm_num), Ideal.exp_coe, Ideal.cos_coe, Ideal.sin_coe]
  unfold Model.temb
  split <;> rfl

/-- The first layer of the time network. -/
theorem time1Of_eq {t : IVec S4 32} {T : Fin 4 → ℝ} {W : FVec Ideal S256x256 .f32} {c : FVec Ideal S256 .f32} (p : Model.Emb)
    (ht : ∀ b, ((t (ix1 b)).toInt : ℝ) = T b) (hW : Mat W p.tW1) (hc : Vec c p.tb1) (b : Fin 4) (d : Fin 256) :
    time1Of t W c (ix2 b d) = ((Model.lin (Model.temb (T b)) p.tW1 p.tb1 d : ℝ) : EReal) := by
  pointwise [time1Of, along256]
  simp only [tembOf_eq ht, hW _ d, hc d, ← EReal.coe_mul, coe_sum, ← EReal.coe_add]
  rfl

/-- The second layer of the time network. -/
theorem time2Of_eq {t : IVec S4 32} {T : Fin 4 → ℝ} {W W' : FVec Ideal S256x256 .f32} {c c' : FVec Ideal S256 .f32} (p : Model.Emb)
    (ht : ∀ b, ((t (ix1 b)).toInt : ℝ) = T b) (hW : Mat W p.tW1) (hc : Vec c p.tb1) (hW' : Mat W' p.tW2) (hc' : Vec c' p.tb2)
    (b : Fin 4) (d : Fin 256) : time2Of (time1Of t W c) W' c' (ix2 b d) = ((Model.timeRow p (T b) d : ℝ) : EReal) := by
  have hu := fun u => geluOf_eq bcast_S_S4x256 (time1Of_eq p ht hW hc b u)
  pointwise [time2Of, along256]
  simp only [hu, hW' _ d, hc' d, ← EReal.coe_mul, coe_sum, ← EReal.coe_add]
  rfl

/-- The first layer of the conditioning network. -/
theorem cond1Of_eq {h : FVec Ideal S4x256 .f32} {H : Fin 4 → Model.Row} {W : FVec Ideal S256x512 .f32} {c : FVec Ideal S512 .f32} (p : Model.Emb)
    (hh : Mat h H) (hW : Mat W p.cW1) (hc : Vec c p.cb1) (b : Fin 4) (d : Fin 512) :
    cond1Of h W c (ix2 b d) = ((Model.lin (H b) p.cW1 p.cb1 d : ℝ) : EReal) := by
  pointwise [cond1Of, along512]
  simp only [hh b, hW _ d, hc d, ← EReal.coe_mul, coe_sum, ← EReal.coe_add]
  rfl

/-- The second layer of the conditioning network. -/
theorem filmOf_eq {h : FVec Ideal S4x256 .f32} {H : Fin 4 → Model.Row} {W : FVec Ideal S256x512 .f32} {W' : FVec Ideal S512x512 .f32}
    {c c' : FVec Ideal S512 .f32} (p : Model.Emb) (hh : Mat h H) (hW : Mat W p.cW1) (hc : Vec c p.cb1) (hW' : Mat W' p.cW2)
    (hc' : Vec c' p.cb2) (b : Fin 4) (d : Fin 512) :
    filmOf (cond1Of h W c) W' c' (ix2 b d) = ((Model.film p (H b) d : ℝ) : EReal) := by
  have hu := fun u => geluOf_eq bcast_S_S4x512 (cond1Of_eq p hh hW hc b u)
  pointwise [filmOf, along512]
  simp only [hu, hW' _ d, hc' d, ← EReal.coe_mul, coe_sum, ← EReal.coe_add]
  rfl

/-- The state before the first layer holds the model's start. -/
theorem startOf_eq {z : State} {Z : Fin 4 → Model.Body} {e : FVec Ideal S4x256 .f32} {f : FVec Ideal S4x512 .f32}
    {T : Fin 4 → ℝ} {H : Fin 4 → Model.Row} (p : Model.Emb) (hz : Holds z Z)
    (he : ∀ b d, e (ix2 b d) = ((Model.timeRow p (T b) d : ℝ) : EReal))
    (hf : ∀ b d, f (ix2 b d) = ((Model.film p (H b) d : ℝ) : EReal)) :
    Holds (startOf z e f) fun b => Model.start p (T b) (H b) (Z b) := by
  intro b t i d
  pointwise [startOf]
  simp only [hz b t i d, he, hf, f32_one, ← EReal.coe_mul, ← EReal.coe_add]
  rfl

/-- The output projection holds the model's. -/
theorem outOf_eq {x : State} {X : Fin 4 → Model.Body} {W : FVec Ideal S256x256 .f32} {c : FVec Ideal S256 .f32}
    {M : Fin 256 → Fin 256 → ℝ} {C : Model.Row} (hx : Holds x X) (hW : Mat W M) (hc : Vec c C) (b : Fin 4) (r : Fin 4096) (k : Fin 256) :
    outOf x W c (ix3 b r k) = ((Model.out M C (X b) ⟨r.val / 32, by omega⟩ ⟨r.val % 32, by omega⟩ k : ℝ) : EReal) := by
  pointwise [outOf, alongRows]
  simp only [hx b, hW _ k, hc k, ← EReal.coe_mul, coe_sum, ← EReal.coe_add]
  rfl

end Cert.RefStage

end
-- ==== Proof.RefNet.lean ====
/- One whole layer of the reference, and the reference's result: the model's. -/
module

public import proofs.«01_k».proof.Proof.RefEnds

@[expose] public section

set_option maxRecDepth 16384

noncomputable section

open scoped BigOperators

namespace Cert.RefStage

open Cert.ReferenceIdeal Cert.ReferenceIdeal.Gen Idealize.ShloMosaic
open Cert.Reals

/-- Row `l` of an array of six rows. -/
def rowAt {n : ℕ} (x : FVec Ideal ⟨2, ![6, n]⟩ .f32) (l : ℕ) (h : (⟨2, ![6, n]⟩ : Shape).Slices ![l, 0] ⟨2, ![1, n]⟩)
    (hc : (⟨2, ![1, n]⟩ : Shape).ShapeCasts ⟨1, ![n]⟩) : FVec Ideal ⟨1, ![n]⟩ .f32 :=
  shapeCast _ (extractStridedSlice ⟨2, ![1, n]⟩ ![l, 0] x h) hc
/-- Matrix `l` of an array of six matrices. -/
def matAt {n k : ℕ} (x : FVec Ideal ⟨3, ![6, n, k]⟩ .f32) (l : ℕ) (h : (⟨3, ![6, n, k]⟩ : Shape).Slices ![l, 0, 0] ⟨3, ![1, n, k]⟩)
    (hc : (⟨3, ![1, n, k]⟩ : Shape).ShapeCasts ⟨2, ![n, k]⟩) : FVec Ideal ⟨2, ![n, k]⟩ .f32 :=
  shapeCast _ (extractStridedSlice ⟨3, ![1, n, k]⟩ ![l, 0, 0] x h) hc
/-- Tap `s` of layer `l`. -/
def tapAt (x : FVec Ideal S6x3x256x256 .f32) (l s : ℕ) (h : S6x3x256x256.Slices ![l, s, 0, 0] S1x1x256x256) :
    FVec Ideal S256x256 .f32 :=
  shapeCast _ (extractStridedSlice S1x1x256x256 ![l, s, 0, 0] x h) shapeCasts_S1x1x256x256_S256x256

/-- One layer's row of a stacked parameter. -/
theorem rowAt_eq {n : ℕ} (hn : n = 256 ∨ n = 768 ∨ n = 1024) {x : FVec Ideal ⟨2, ![6, n]⟩ .f32} {g : Fin 6 → Fin n → ℝ}
    (hx : Holds2 x g) (l : Fin 6)
    (h : (⟨2, ![6, n]⟩ : Shape).Slices ![l.val, 0] ⟨2, ![1, n]⟩) (hc : (⟨2, ![1, n]⟩ : Shape).ShapeCasts ⟨1, ![n]⟩) :
    Vec (rowAt x l.val h hc) (g l) := by
  intro d
  rcases hn with rfl | rfl | rfl <;> (pointwise [rowAt]; exact hx l d)

/-- One layer's matrix of a stacked parameter. -/
theorem matAt_eq {n k : ℕ} (hn : (n, k) = (256, 768) ∨ (n, k) = (256, 256) ∨ (n, k) = (256, 1024) ∨ (n, k) = (1024, 256))
    {x : FVec Ideal ⟨3, ![6, n, k]⟩ .f32} {g : Fin 6 → Fin n → Fin k → ℝ} (hx : Holds3 x g) (l : Fin 6)
    (h : (⟨3, ![6, n, k]⟩ : Shape).Slices ![l.val, 0, 0] ⟨3, ![1, n, k]⟩)
    (hc : (⟨3, ![1, n, k]⟩ : Shape).ShapeCasts ⟨2, ![n, k]⟩) : Mat (matAt x l.val h hc) (g l) := by
  intro i j
  simp only [Prod.mk.injEq] at hn
  rcases hn with ⟨rfl, rfl⟩ | ⟨rfl, rfl⟩ | ⟨rfl, rfl⟩ | ⟨rfl, rfl⟩ <;> (pointwise [matAt]; exact hx l i j)

/-- One layer's tap of the stacked convolution. -/
theorem tapAt_eq {x : FVec Ideal S6x3x256x256 .f32} {g : Fin 6 → Fin 3 → Fin 256 → Fin 256 → ℝ} (hx : Holds4 x g) (l : Fin 6) (s : Fin 3)
    (h : S6x3x256x256.Slices ![l.val, s.val, 0, 0] S1x1x256x256) : Mat (tapAt x l.val s.val h) (g l s) := by
  intro i j
  pointwise [tapAt]
  exact hx l s i j

/-- A layer's row fits in the stack. -/
theorem slices2 {n : ℕ} (l : Fin 6) : (⟨2, ![6, n]⟩ : Shape).Slices ![l.val, 0] ⟨2, ![1, n]⟩ :=
  ⟨rfl, fun a => by fin_cases a <;> simp <;> omega⟩
/-- A layer's matrix fits in the stack. -/
theorem slices3 {n k : ℕ} (l : Fin 6) : (⟨3, ![6, n, k]⟩ : Shape).Slices ![l.val, 0, 0] ⟨3, ![1, n, k]⟩ :=
  ⟨rfl, fun a => by fin_cases a <;> simp <;> omega⟩
/-- A layer's tap fits in the stack. -/
theorem slices4 (l : Fin 6) (s : Fin 3) : S6x3x256x256.Slices ![l.val, s.val, 0, 0] S1x1x256x256 := by
  revert l s; decide

/-- One layer: the state's attention block, feed-forward block and convolution block with layer `l`'s parameters. -/
def layerOf (a11 a12 : FVec Ideal S6x256 .f32) (a13 : FVec Ideal S6x256x768 .f32) (a14 : FVec Ideal S6x768 .f32)
    (a15 : FVec Ideal S6x256x256 .f32) (a16 a17 a18 : FVec Ideal S6x256 .f32)
    (a19 : FVec Ideal S6x256x1024 .f32) (a20 : FVec Ideal S6x1024 .f32)
    (a21 : FVec Ideal S6x1024x256 .f32) (a22 a23 a24 : FVec Ideal S6x256 .f32)
    (a25 : FVec Ideal S6x3x256x256 .f32) (a26 : FVec Ideal S6x256 .f32) (l : Fin 6) (x : State) : State :=
  have row (a : FVec Ideal S6x256 .f32) := rowAt a l.val (slices2 l) shapeCasts_S1x256_S256
  have q := qkvOf x (row a11) (row a12) (matAt a13 l.val (slices3 l) shapeCasts_S1x256x768_S256x768)
    (rowAt a14 l.val (slices2 l) shapeCasts_S1x768_S768)
  have y := attnOf x q (expOf (scoreOf q)) (matAt a15 l.val (slices3 l) shapeCasts_S1x256x256_S256x256) (row a16)
  have w := mlpOf y (hiddenOf y (row a17) (row a18) (matAt a19 l.val (slices3 l) shapeCasts_S1x256x1024_S256x1024)
    (rowAt a20 l.val (slices2 l) shapeCasts_S1x1024_S1024)) (matAt a21 l.val (slices3 l) shapeCasts_S1x1024x256_S1024x256) (row a22)
  stepOf w (convOf (padOf w (row a23) (row a24)) (tapAt a25 l.val 0 (slices4 l 0)) (tapAt a25 l.val 1 (slices4 l 1))
    (tapAt a25 l.val 2 (slices4 l 2)) (row a26))

/-- One layer holds the model's. -/
theorem layerOf_eq {A : Args} {a0 a1 a2 a3 a4 a5 a6 a7 a8 a9 a10 a11 a12 a13 a14 a15 a16 a17 a18 a19 a20 a21 a22 a23 a24 a25 a26 a27 a28}
    (H : Held A a0 a1 a2 a3 a4 a5 a6 a7 a8 a9 a10 a11 a12 a13 a14 a15 a16 a17 a18 a19 a20 a21 a22 a23 a24 a25 a26 a27 a28)
    {x : State} {X : Fin 4 → Model.Body} (hx : Holds x X) (l : Fin 6) :
    Holds (layerOf a11 a12 a13 a14 a15 a16 a17 a18 a19 a20 a21 a22 a23 a24 a25 a26 l x) fun b => Model.layer (A.par l) (X b) := by
  have row {a : FVec Ideal S6x256 .f32} {g : Fin 6 → Model.Row} (h : Holds2 a g) :=
    rowAt_eq (.inl rfl) h l (slices2 l) shapeCasts_S1x256_S256
  have hy := attnOf_eq (A.par l) hx (row H.h11) (row H.h12)
    (matAt_eq (by simp) H.h13 l (slices3 l) shapeCasts_S1x256x768_S256x768)
    (rowAt_eq (by simp) H.h14 l (slices2 l) shapeCasts_S1x768_S768)
    (matAt_eq (by simp) H.h15 l (slices3 l) shapeCasts_S1x256x256_S256x256) (row H.h16)
  have hw := mlpOf_eq (A.par l) hy (row H.h17) (row H.h18)
    (matAt_eq (by simp) H.h19 l (slices3 l) shapeCasts_S1x256x1024_S256x1024)
    (rowAt_eq (by simp) H.h20 l (slices2 l) shapeCasts_S1x1024_S1024)
    (matAt_eq (by simp) H.h21 l (slices3 l) shapeCasts_S1x1024x256_S1024x256) (row H.h22)
  exact stepOf_eq hw (convOf_eq (A.par l) hw (row H.h23) (row H.h24) (tapAt_eq H.h25 l 0 (slices4 l 0))
    (tapAt_eq H.h25 l 1 (slices4 l 1)) (tapAt_eq H.h25 l 2 (slices4 l 2)) (row H.h26))

/-- The whole reference holds the model's result. -/
theorem result_eq {A : Args} {a0 a1 a2 a3 a4 a5 a6 a7 a8 a9 a10 a11 a12 a13 a14 a15 a16 a17 a18 a19 a20 a21 a22 a23 a24 a25 a26 a27 a28}
    (H : Held A a0 a1 a2 a3 a4 a5 a6 a7 a8 a9 a10 a11 a12 a13 a14 a15 a16 a17 a18 a19 a20 a21 a22 a23 a24 a25 a26 a27 a28)
    (x : ℕ → State) (h0 : x 0 = startOf a0 (time2Of (time1Of a1 a3 a4) a5 a6) (filmOf (cond1Of a2 a7 a8) a9 a10))
    (hs : ∀ l : Fin 6, x (l.val + 1) = layerOf a11 a12 a13 a14 a15 a16 a17 a18 a19 a20 a21 a22 a23 a24 a25 a26 l (x l.val))
    (b : Fin 4) (r : Fin 4096) (k : Fin 256) :
    outOf (x 6) a27 a28 (ix3 b r k)
      = ((A.result b ⟨r.val / 32, by omega⟩ ⟨r.val % 32, by omega⟩ k : ℝ) : EReal) := by
  have start : Holds (x 0) A.start := h0 ▸ startOf_eq A.emb H.h0 (time2Of_eq A.emb H.h1 H.h3 H.h4 H.h5 H.h6)
    (filmOf_eq A.emb H.h2 H.h7 H.h8 H.h9 H.h10)
  have all : ∀ n, n ≤ 6 → Holds (x n) (A.after n) := fun n => by
    induction n with
    | zero => exact fun _ => start
    | succ n ih =>
        intro hn
        have e := hs ⟨n, hn⟩
        have hl : (Fin.ofNat 6 n) = (⟨n, hn⟩ : Fin 6) := Fin.ext (Nat.mod_eq_of_lt hn)
        rw [e]
        unfold Args.after
        rw [hl]
        exact layerOf_eq H (ih (by omega)) ⟨n, hn⟩
  exact outOf_eq (all 6 le_rfl) H.h27 H.h28 b r k

end Cert.RefStage

end
-- ==== Proof.RefRun.lean ====
/- What the reference's run leaves in its result: the model's result. -/
module

public import proofs.«01_k».proof.Proof.Gen.ReferenceIdeal.Run
public import proofs.«01_k».proof.Proof.RefNet

@[expose] public section

set_option maxRecDepth 16384

noncomputable section

open scoped BigOperators

namespace Cert.RefStage

open Cert.ReferenceIdeal Cert.ReferenceIdeal.Gen Cert.ReferenceIdeal.Value Idealize.ShloMosaic Idealize.ShloMosaic.TcCoe
open Idealize.SL.Sem Idealize.ShloMosaic.StableHlo

variable (V : Valuation τ sig (Elt Ideal))

/-- One layer with the arguments' parameters. -/
abbrev layerIn (l : Fin 6) (x : State) : State :=
  layerOf (V (Proc.devRef .tc main_arg11)) (V (Proc.devRef .tc main_arg12)) (V (Proc.devRef .tc main_arg13))
    (V (Proc.devRef .tc main_arg14)) (V (Proc.devRef .tc main_arg15)) (V (Proc.devRef .tc main_arg16))
    (V (Proc.devRef .tc main_arg17)) (V (Proc.devRef .tc main_arg18)) (V (Proc.devRef .tc main_arg19))
    (V (Proc.devRef .tc main_arg20)) (V (Proc.devRef .tc main_arg21)) (V (Proc.devRef .tc main_arg22))
    (V (Proc.devRef .tc main_arg23)) (V (Proc.devRef .tc main_arg24)) (V (Proc.devRef .tc main_arg25))
    (V (Proc.devRef .tc main_arg26)) l x

/-- The state after the first layers, as the run names it. -/
def stateOf : ℕ → State
  | 0 => res_main_v67 V
  | 1 => res_main_v255 V
  | 2 => res_main_v443 V
  | 3 => res_main_v631 V
  | 4 => res_main_v819 V
  | 5 => res_main_v1007 V
  | _ => stepOf (res_main_v1135 V) (res_main_v1185 V)

/-- Each layer of the run is the layer of the state before it. -/
theorem stateOf_succ (l : Fin 6) : stateOf V (l.val + 1) = layerIn V l (stateOf V l.val) := by
  match l with
  | 0 => rfl
  | 1 => rfl
  | 2 => rfl
  | 3 => rfl
  | 4 => rfl
  | 5 => rfl

/-- The state before the first layer. -/
theorem stateOf_zero : stateOf V 0 = startOf (V (Proc.devRef .tc main_arg0))
    (time2Of (time1Of (V (Proc.devRef .tc main_arg1)) (V (Proc.devRef .tc main_arg3)) (V (Proc.devRef .tc main_arg4)))
      (V (Proc.devRef .tc main_arg5)) (V (Proc.devRef .tc main_arg6)))
    (filmOf (cond1Of (V (Proc.devRef .tc main_arg2)) (V (Proc.devRef .tc main_arg7)) (V (Proc.devRef .tc main_arg8)))
      (V (Proc.devRef .tc main_arg9)) (V (Proc.devRef .tc main_arg10))) := rfl

/-- The arguments' contents on entry hold the real arguments `A`. -/
abbrev HeldIn (A : Args) : Prop :=
  Held A (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) (V (Proc.devRef .tc main_arg28))

/-- The run's result. -/
def resultOf : FVec Ideal S4x4096x256 .f32 :=
  outOf (stateOf V 6) (V (Proc.devRef .tc main_arg27)) (V (Proc.devRef .tc main_arg28))

/-- The run's result holds the model's. -/
theorem resultOf_eq {A : Args} (H : HeldIn V A) (b : Fin 4) (r : Fin 4096) (k : Fin 256) :
    resultOf V (ix3 b r k) = ((A.result b ⟨r.val / 32, by omega⟩ ⟨r.val % 32, by omega⟩ k : ℝ) : EReal) :=
  result_eq H (stateOf V) (stateOf_zero V) (stateOf_succ V) b r k

/-- Every run of the reference ends with its result at `resultOf` and its arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1200) = resultOf (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  Cert.ReferenceIdeal.Value.run (F := Ideal) m ρ

end Cert.RefStage

end
-- ==== Proof.Value.lean ====
/- Under the precondition the idealized kernel and the reference leave the same result: the model's. -/
module

public import proofs.«01_k».proof.Proof.Claims
public import proofs.«01_k».proof.Proof.Finite
public import proofs.«01_k».proof.Proof.KerHost
public import proofs.«01_k».proof.Proof.RefRun

@[expose] public section

set_option maxRecDepth 16384

noncomputable section

namespace Cert.Claims

open Idealize.ShloMosaic Idealize.ShloMosaic.TcCoe Idealize.SL.Sem

section
open Cert.KernelIdeal Cert.KernelIdeal.Gen

variable (m : (ℓ : Loc nD τ sig) → Buf (Elt Ideal) ℓ) (c : Dev nD)

/-- The real numbers the kernel's arguments hold at the launch. -/
def argsAt : Args :=
  Finite.argsOf (KerStage.arg m c main_arg0) (KerStage.arg m c main_arg1) (KerStage.arg m c main_arg2) (KerStage.arg m c main_arg3) (KerStage.arg m c main_arg4)
    (KerStage.arg m c main_arg5) (KerStage.arg m c main_arg6) (KerStage.arg m c main_arg7) (KerStage.arg m c main_arg8) (KerStage.arg m c main_arg9)
    (KerStage.arg m c main_arg10) (KerStage.arg m c main_arg11) (KerStage.arg m c main_arg12) (KerStage.arg m c main_arg13) (KerStage.arg m c main_arg14)
    (KerStage.arg m c main_arg15) (KerStage.arg m c main_arg16) (KerStage.arg m c main_arg17) (KerStage.arg m c main_arg18) (KerStage.arg m c main_arg19)
    (KerStage.arg m c main_arg20) (KerStage.arg m c main_arg21) (KerStage.arg m c main_arg22) (KerStage.arg m c main_arg23) (KerStage.arg m c main_arg24)
    (KerStage.arg m c main_arg25) (KerStage.arg m c main_arg26) (KerStage.arg m c main_arg27) (KerStage.arg m c main_arg28)

/-- Under the precondition the kernel's argument buffers hold these numbers. -/
theorem held_kernel (h : Cert.Pre_KernelIdeal_finite_arguments m) : KerStage.HeldAt m c (argsAt m c) :=
  Finite.held_of_finite _ _ _ _ _ _ _ _ _ _ _ _ _ _ _ _ _ _ _ _ _ _ _ _ _ _ _ _ _ (h c)
end

/-- Equal arrays hold the same numbers. -/
theorem held_congr {A : Args}
    {a0 : FVec Ideal ⟨4, ![4, 128, 32, 256]⟩ .f32} {a1 : IVec ⟨1, ![4]⟩ 32} {a2 : FVec Ideal ⟨2, ![4, 256]⟩ .f32}
    {a3 : FVec Ideal ⟨2, ![256, 256]⟩ .f32} {a4 : FVec Ideal ⟨1, ![256]⟩ .f32}
    {a5 : FVec Ideal ⟨2, ![256, 256]⟩ .f32} {a6 : FVec Ideal ⟨1, ![256]⟩ .f32}
    {a7 : FVec Ideal ⟨2, ![256, 512]⟩ .f32} {a8 : FVec Ideal ⟨1, ![512]⟩ .f32}
    {a9 : FVec Ideal ⟨2, ![512, 512]⟩ .f32} {a10 : FVec Ideal ⟨1, ![512]⟩ .f32}
    {a11 : FVec Ideal ⟨2, ![6, 256]⟩ .f32} {a12 : FVec Ideal ⟨2, ![6, 256]⟩ .f32}
    {a13 : FVec Ideal ⟨3, ![6, 256, 768]⟩ .f32} {a14 : FVec Ideal ⟨2, ![6, 768]⟩ .f32}
    {a15 : FVec Ideal ⟨3, ![6, 256, 256]⟩ .f32} {a16 : FVec Ideal ⟨2, ![6, 256]⟩ .f32}
    {a17 : FVec Ideal ⟨2, ![6, 256]⟩ .f32} {a18 : FVec Ideal ⟨2, ![6, 256]⟩ .f32}
    {a19 : FVec Ideal ⟨3, ![6, 256, 1024]⟩ .f32} {a20 : FVec Ideal ⟨2, ![6, 1024]⟩ .f32}
    {a21 : FVec Ideal ⟨3, ![6, 1024, 256]⟩ .f32} {a22 : FVec Ideal ⟨2, ![6, 256]⟩ .f32}
    {a23 : FVec Ideal ⟨2, ![6, 256]⟩ .f32} {a24 : FVec Ideal ⟨2, ![6, 256]⟩ .f32}
    {a25 : FVec Ideal ⟨4, ![6, 3, 256, 256]⟩ .f32} {a26 : FVec Ideal ⟨2, ![6, 256]⟩ .f32}
    {a27 : FVec Ideal ⟨2, ![256, 256]⟩ .f32} {a28 : FVec Ideal ⟨1, ![256]⟩ .f32}
    {b0 : FVec Ideal ⟨4, ![4, 128, 32, 256]⟩ .f32} {b1 : IVec ⟨1, ![4]⟩ 32} {b2 : FVec Ideal ⟨2, ![4, 256]⟩ .f32}
    {b3 : FVec Ideal ⟨2, ![256, 256]⟩ .f32} {b4 : FVec Ideal ⟨1, ![256]⟩ .f32}
    {b5 : FVec Ideal ⟨2, ![256, 256]⟩ .f32} {b6 : FVec Ideal ⟨1, ![256]⟩ .f32}
    {b7 : FVec Ideal ⟨2, ![256, 512]⟩ .f32} {b8 : FVec Ideal ⟨1, ![512]⟩ .f32}
    {b9 : FVec Ideal ⟨2, ![512, 512]⟩ .f32} {b10 : FVec Ideal ⟨1, ![512]⟩ .f32}
    {b11 : FVec Ideal ⟨2, ![6, 256]⟩ .f32} {b12 : FVec Ideal ⟨2, ![6, 256]⟩ .f32}
    {b13 : FVec Ideal ⟨3, ![6, 256, 768]⟩ .f32} {b14 : FVec Ideal ⟨2, ![6, 768]⟩ .f32}
    {b15 : FVec Ideal ⟨3, ![6, 256, 256]⟩ .f32} {b16 : FVec Ideal ⟨2, ![6, 256]⟩ .f32}
    {b17 : FVec Ideal ⟨2, ![6, 256]⟩ .f32} {b18 : FVec Ideal ⟨2, ![6, 256]⟩ .f32}
    {b19 : FVec Ideal ⟨3, ![6, 256, 1024]⟩ .f32} {b20 : FVec Ideal ⟨2, ![6, 1024]⟩ .f32}
    {b21 : FVec Ideal ⟨3, ![6, 1024, 256]⟩ .f32} {b22 : FVec Ideal ⟨2, ![6, 256]⟩ .f32}
    {b23 : FVec Ideal ⟨2, ![6, 256]⟩ .f32} {b24 : FVec Ideal ⟨2, ![6, 256]⟩ .f32}
    {b25 : FVec Ideal ⟨4, ![6, 3, 256, 256]⟩ .f32} {b26 : FVec Ideal ⟨2, ![6, 256]⟩ .f32}
    {b27 : FVec Ideal ⟨2, ![256, 256]⟩ .f32} {b28 : FVec Ideal ⟨1, ![256]⟩ .f32}
    (H : Held A a0 a1 a2 a3 a4 a5 a6 a7 a8 a9 a10 a11 a12 a13 a14 a15 a16 a17 a18 a19 a20 a21 a22 a23 a24 a25 a26 a27 a28)
    (e0 : b0 = a0) (e1 : b1 = a1) (e2 : b2 = a2) (e3 : b3 = a3) (e4 : b4 = a4) (e5 : b5 = a5) (e6 : b6 = a6)
    (e7 : b7 = a7) (e8 : b8 = a8) (e9 : b9 = a9) (e10 : b10 = a10) (e11 : b11 = a11) (e12 : b12 = a12)
    (e13 : b13 = a13) (e14 : b14 = a14) (e15 : b15 = a15) (e16 : b16 = a16) (e17 : b17 = a17) (e18 : b18 = a18)
    (e19 : b19 = a19) (e20 : b20 = a20) (e21 : b21 = a21) (e22 : b22 = a22) (e23 : b23 = a23) (e24 : b24 = a24)
    (e25 : b25 = a25) (e26 : b26 = a26) (e27 : b27 = a27) (e28 : b28 = a28) :
    Held A b0 b1 b2 b3 b4 b5 b6 b7 b8 b9 b10 b11 b12 b13 b14 b15 b16 b17 b18 b19 b20 b21 b22 b23 b24 b25 b26 b27 b28 := by
  subst e0 e1 e2 e3 e4 e5 e6 e7 e8 e9 e10 e11 e12 e13 e14 e15 e16 e17 e18 e19 e20 e21 e22 e23 e24 e25 e26 e27 e28
  exact H

/-- When the reference's arguments hold the numbers of `A`, its result is the network's. -/
theorem result_reference (V : Valuation Cert.ReferenceIdeal.τ Cert.ReferenceIdeal.sig (Elt Ideal)) {A : Args} (H : RefStage.HeldIn V A) :
    RefStage.resultOf V = KerStage.resultArray A := by
  funext i
  have hi : i = ix3 (i 0 : Fin 4) (i 1 : Fin 4096) (i 2 : Fin 256) := by
    funext a
    match a with
    | ⟨0, _⟩ => rfl
    | ⟨1, _⟩ => rfl
    | ⟨2, _⟩ => rfl
  exact (congrArg (RefStage.resultOf V) hi).trans (RefStage.resultOf_eq V H (i 0) (i 1) (i 2))

set_option maxHeartbeats 4000000 in
/-- From equal finite arguments the idealized kernel and the reference end with equal results, the network's in exact arithmetic. -/
theorem algebraic : Cert.algebraic_KernelIdeal_ReferenceIdeal_pre_finite_arguments := by
  intro m ρ m' ρ' hpre hagree
  refine ⟨fun c => KerStage.resultArray (argsAt m c), ?_, ?_⟩
  · refine (θ_run Cert.KernelIdeal.defs _ _).mono (fun r h c => ⟨(h c).1.trans ?_, (h c).2⟩) (Cert.KernelIdeal.Value.run_blocks m ρ)
    exact KerStage.array_eq m (KerStage.entry_eq m c (held_kernel m c hpre))
  · refine (θ_run Cert.ReferenceIdeal.defs _ _).mono (fun r h c => ⟨(h c).1.trans ?_, (h c).2⟩) (RefStage.run_result m' ρ')
    refine result_reference _ ?_
    obtain ⟨e0, e1, e2, e3, e4, e5, e6, e7, e8, e9, e10, e11, e12, e13, e14, e15, e16, e17, e18, e19, e20, e21, e22, e23, e24, e25, e26, e27, e28⟩ := hagree c
    exact held_congr (held_kernel m c hpre) e0 e1 e2 e3 e4 e5 e6 e7 e8 e9 e10 e11 e12 e13 e14 e15 e16 e17 e18 e19 e20 e21 e22 e23 e24 e25 e26 e27 e28

end Cert.Claims

end
-- ==== Proof.lean ====
/- The claims of this directory, assembled. -/
module

public import proofs.«01_k».proof.Defs
public import proofs.«01_k».proof.Proof.Claims
public import proofs.«01_k».proof.Proof.Value
public import proofs.«01_k».proof.Proof.Gen.Pre_finite_arguments
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_finite_arguments.Gen.facts,
    Claims.frame_p, Claims.frame_pi, fun m ρ _ => Claims.frame_pi m ρ trivial,
    Claims.frame_ri, fun m ρ _ => Claims.frame_ri m ρ trivial, Claims.preserves, Claims.algebraic⟩

end Cert.Proof

end
